-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys [hPre_finite_queries_and_keys : Cert.Pre_finite_queries_and_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys [hPre_finite_queries_and_keys : Cert.Pre_finite_queries_and_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastIdeal_finite_weights_last [hPre_finite_weights_last : Cert.Pre_finite_weights_last.Facts] (m : (ℓ : Loc Cert.LastIdeal.nD Cert.LastIdeal.τ Cert.LastIdeal.sig) → Buf (Elt Ideal) ℓ) : Prop :=
  ∀ c : Dev Cert.LastIdeal.nD,
    (Cert.Pre_finite_weights_last.fn (F := Ideal) (m ((c.tc : Thread Cert.LastIdeal.nD Cert.LastIdeal.τ).loc Cert.LastIdeal.main_arg0)) (m ((c.tc : Thread Cert.LastIdeal.nD Cert.LastIdeal.τ).loc Cert.LastIdeal.main_arg1)) (m ((c.tc : Thread Cert.LastIdeal.nD Cert.LastIdeal.τ).loc Cert.LastIdeal.main_arg2)) (m ((c.tc : Thread Cert.LastIdeal.nD Cert.LastIdeal.τ).loc Cert.LastIdeal.main_arg3)) (m ((c.tc : Thread Cert.LastIdeal.nD Cert.LastIdeal.τ).loc Cert.LastIdeal.main_arg4)) (m ((c.tc : Thread Cert.LastIdeal.nD Cert.LastIdeal.τ).loc Cert.LastIdeal.main_arg5)) (m ((c.tc : Thread Cert.LastIdeal.nD Cert.LastIdeal.τ).loc Cert.LastIdeal.main_arg6)) (m ((c.tc : Thread Cert.LastIdeal.nD Cert.LastIdeal.τ).loc Cert.LastIdeal.main_arg7))) = (fun _ => 1#1)

def Pre_LastRefIdeal (m : (ℓ : Loc Cert.LastRefIdeal.nD Cert.LastRefIdeal.τ Cert.LastRefIdeal.sig) → Buf (Elt Ideal) ℓ) : Prop :=
  True

def Pre_LastRefIdeal_finite_weights_last [hPre_finite_weights_last : Cert.Pre_finite_weights_last.Facts] (m : (ℓ : Loc Cert.LastRefIdeal.nD Cert.LastRefIdeal.τ Cert.LastRefIdeal.sig) → Buf (Elt Ideal) ℓ) : Prop :=
  ∀ c : Dev Cert.LastRefIdeal.nD,
    (Cert.Pre_finite_weights_last.fn (F := Ideal) (m ((c.tc : Thread Cert.LastRefIdeal.nD Cert.LastRefIdeal.τ).loc Cert.LastRefIdeal.main_arg0)) (m ((c.tc : Thread Cert.LastRefIdeal.nD Cert.LastRefIdeal.τ).loc Cert.LastRefIdeal.main_arg1)) (m ((c.tc : Thread Cert.LastRefIdeal.nD Cert.LastRefIdeal.τ).loc Cert.LastRefIdeal.main_arg2)) (m ((c.tc : Thread Cert.LastRefIdeal.nD Cert.LastRefIdeal.τ).loc Cert.LastRefIdeal.main_arg3)) (m ((c.tc : Thread Cert.LastRefIdeal.nD Cert.LastRefIdeal.τ).loc Cert.LastRefIdeal.main_arg4)) (m ((c.tc : Thread Cert.LastRefIdeal.nD Cert.LastRefIdeal.τ).loc Cert.LastRefIdeal.main_arg5)) (m ((c.tc : Thread Cert.LastRefIdeal.nD Cert.LastRefIdeal.τ).loc Cert.LastRefIdeal.main_arg6)) (m ((c.tc : Thread Cert.LastRefIdeal.nD Cert.LastRefIdeal.τ).loc Cert.LastRefIdeal.main_arg7))) = (fun _ => 1#1)

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidIdeal_finite_weights_mid [hPre_finite_weights_mid : Cert.Pre_finite_weights_mid.Facts] (m : (ℓ : Loc Cert.MidIdeal.nD Cert.MidIdeal.τ Cert.MidIdeal.sig) → Buf (Elt Ideal) ℓ) : Prop :=
  ∀ c : Dev Cert.MidIdeal.nD,
    (Cert.Pre_finite_weights_mid.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7)) (m ((c.tc : Thread Cert.MidIdeal.nD Cert.MidIdeal.τ).loc Cert.MidIdeal.main_arg8))) = (fun _ => 1#1)

def Pre_MidRefIdeal (m : (ℓ : Loc Cert.MidRefIdeal.nD Cert.MidRefIdeal.τ Cert.MidRefIdeal.sig) → Buf (Elt Ideal) ℓ) : Prop :=
  True

def Pre_MidRefIdeal_finite_weights_mid [hPre_finite_weights_mid : Cert.Pre_finite_weights_mid.Facts] (m : (ℓ : Loc Cert.MidRefIdeal.nD Cert.MidRefIdeal.τ Cert.MidRefIdeal.sig) → Buf (Elt Ideal) ℓ) : Prop :=
  ∀ c : Dev Cert.MidRefIdeal.nD,
    (Cert.Pre_finite_weights_mid.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7)) (m ((c.tc : Thread Cert.MidRefIdeal.nD Cert.MidRefIdeal.τ).loc Cert.MidRefIdeal.main_arg8))) = (fun _ => 1#1)

def Pre_RetIn (m : (ℓ : Loc Cert.RetIn.nD Cert.RetIn.τ Cert.RetIn.sig) → Buf (Elt Bits) ℓ) : Prop :=
  True

def Pre_RetInIdeal (m : (ℓ : Loc Cert.RetInIdeal.nD Cert.RetInIdeal.τ Cert.RetInIdeal.sig) → Buf (Elt Ideal) ℓ) : Prop :=
  True

def Pre_RetInRefIdeal (m : (ℓ : Loc Cert.RetInRefIdeal.nD Cert.RetInRefIdeal.τ Cert.RetInRefIdeal.sig) → Buf (Elt Ideal) ℓ) : Prop :=
  True

def Pre_AttIn (m : (ℓ : Loc Cert.AttIn.nD Cert.AttIn.τ Cert.AttIn.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_queries_and_keys [hKernelIdeal : Cert.KernelIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_queries_and_keys [hReferenceIdeal : Cert.ReferenceIdeal.Facts] [hPre_finite_queries_and_keys : Cert.Pre_finite_queries_and_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4)
      ∧ r.2.mem ((c.tc : Thread Cert.Last.nD Cert.Last.τ).loc Cert.Last.main_arg5) = m ((c.tc : Thread Cert.Last.nD Cert.Last.τ).loc Cert.Last.main_arg5)
      ∧ r.2.mem ((c.tc : Thread Cert.Last.nD Cert.Last.τ).loc Cert.Last.main_arg6) = m ((c.tc : Thread Cert.Last.nD Cert.Last.τ).loc Cert.Last.main_arg6)
      ∧ r.2.mem ((c.tc : Thread Cert.Last.nD Cert.Last.τ).loc Cert.Last.main_arg7) = m ((c.tc : Thread Cert.Last.nD Cert.Last.τ).loc Cert.Last.main_arg7))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
      ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
      ∧ r.2.mem ((c.tc : Thread Cert.LastIdeal.nD Cert.LastIdeal.τ).loc Cert.LastIdeal.main_arg7) = m ((c.tc : Thread Cert.LastIdeal.nD Cert.LastIdeal.τ).loc Cert.LastIdeal.main_arg7))
      ∧ r.2.sem = fun _ => 0)

def quiescent_LastIdeal_pre_finite_weights_last [hLastIdeal : Cert.LastIdeal.Facts] [hPre_finite_weights_last : Cert.Pre_finite_weights_last.Facts] : Prop :=
  ∀ (m : (ℓ : Loc Cert.LastIdeal.nD Cert.LastIdeal.τ Cert.LastIdeal.sig) → Buf (Elt Ideal) ℓ) (g : Dev Cert.LastIdeal.nD → PrngReg), Pre_LastIdeal_finite_weights_last m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
      ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
      ∧ r.2.mem ((c.tc : Thread Cert.LastIdeal.nD Cert.LastIdeal.τ).loc Cert.LastIdeal.main_arg7) = m ((c.tc : Thread Cert.LastIdeal.nD Cert.LastIdeal.τ).loc Cert.LastIdeal.main_arg7))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4)
      ∧ r.2.mem ((c.tc : Thread Cert.LastRefIdeal.nD Cert.LastRefIdeal.τ).loc Cert.LastRefIdeal.main_arg5) = m ((c.tc : Thread Cert.LastRefIdeal.nD Cert.LastRefIdeal.τ).loc Cert.LastRefIdeal.main_arg5)
      ∧ r.2.mem ((c.tc : Thread Cert.LastRefIdeal.nD Cert.LastRefIdeal.τ).loc Cert.LastRefIdeal.main_arg6) = m ((c.tc : Thread Cert.LastRefIdeal.nD Cert.LastRefIdeal.τ).loc Cert.LastRefIdeal.main_arg6)
      ∧ r.2.mem ((c.tc : Thread Cert.LastRefIdeal.nD Cert.LastRefIdeal.τ).loc Cert.LastRefIdeal.main_arg7) = m ((c.tc : Thread Cert.LastRefIdeal.nD Cert.LastRefIdeal.τ).loc Cert.LastRefIdeal.main_arg7))
      ∧ r.2.sem = fun _ => 0)

def quiescent_LastRefIdeal_pre_finite_weights_last [hLastRefIdeal : Cert.LastRefIdeal.Facts] [hPre_finite_weights_last : Cert.Pre_finite_weights_last.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal_finite_weights_last m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4)
      ∧ r.2.mem ((c.tc : Thread Cert.LastRefIdeal.nD Cert.LastRefIdeal.τ).loc Cert.LastRefIdeal.main_arg5) = m ((c.tc : Thread Cert.LastRefIdeal.nD Cert.LastRefIdeal.τ).loc Cert.LastRefIdeal.main_arg5)
      ∧ r.2.mem ((c.tc : Thread Cert.LastRefIdeal.nD Cert.LastRefIdeal.τ).loc Cert.LastRefIdeal.main_arg6) = m ((c.tc : Thread Cert.LastRefIdeal.nD Cert.LastRefIdeal.τ).loc Cert.LastRefIdeal.main_arg6)
      ∧ r.2.mem ((c.tc : Thread Cert.LastRefIdeal.nD Cert.LastRefIdeal.τ).loc Cert.LastRefIdeal.main_arg7) = m ((c.tc : Thread Cert.LastRefIdeal.nD Cert.LastRefIdeal.τ).loc Cert.LastRefIdeal.main_arg7))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5)
      ∧ r.2.mem ((c.tc : Thread Cert.Mid.nD Cert.Mid.τ).loc Cert.Mid.main_arg6) = m ((c.tc : Thread Cert.Mid.nD Cert.Mid.τ).loc Cert.Mid.main_arg6)
      ∧ r.2.mem ((c.tc : Thread Cert.Mid.nD Cert.Mid.τ).loc Cert.Mid.main_arg7) = m ((c.tc : Thread Cert.Mid.nD Cert.Mid.τ).loc Cert.Mid.main_arg7)
      ∧ r.2.mem ((c.tc : Thread Cert.Mid.nD Cert.Mid.τ).loc Cert.Mid.main_arg8) = m ((c.tc : Thread Cert.Mid.nD Cert.Mid.τ).loc Cert.Mid.main_arg8))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
      ∧ r.2.mem ((c.tc : Thread Cert.MidIdeal.nD Cert.MidIdeal.τ).loc Cert.MidIdeal.main_arg8) = m ((c.tc : Thread Cert.MidIdeal.nD Cert.MidIdeal.τ).loc Cert.MidIdeal.main_arg8))
      ∧ r.2.sem = fun _ => 0)

def quiescent_MidIdeal_pre_finite_weights_mid [hMidIdeal : Cert.MidIdeal.Facts] [hPre_finite_weights_mid : Cert.Pre_finite_weights_mid.Facts] : Prop :=
  ∀ (m : (ℓ : Loc Cert.MidIdeal.nD Cert.MidIdeal.τ Cert.MidIdeal.sig) → Buf (Elt Ideal) ℓ) (g : Dev Cert.MidIdeal.nD → PrngReg), Pre_MidIdeal_finite_weights_mid m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
      ∧ r.2.mem ((c.tc : Thread Cert.MidIdeal.nD Cert.MidIdeal.τ).loc Cert.MidIdeal.main_arg8) = m ((c.tc : Thread Cert.MidIdeal.nD Cert.MidIdeal.τ).loc Cert.MidIdeal.main_arg8))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5)
      ∧ r.2.mem ((c.tc : Thread Cert.MidRefIdeal.nD Cert.MidRefIdeal.τ).loc Cert.MidRefIdeal.main_arg6) = m ((c.tc : Thread Cert.MidRefIdeal.nD Cert.MidRefIdeal.τ).loc Cert.MidRefIdeal.main_arg6)
      ∧ r.2.mem ((c.tc : Thread Cert.MidRefIdeal.nD Cert.MidRefIdeal.τ).loc Cert.MidRefIdeal.main_arg7) = m ((c.tc : Thread Cert.MidRefIdeal.nD Cert.MidRefIdeal.τ).loc Cert.MidRefIdeal.main_arg7)
      ∧ r.2.mem ((c.tc : Thread Cert.MidRefIdeal.nD Cert.MidRefIdeal.τ).loc Cert.MidRefIdeal.main_arg8) = m ((c.tc : Thread Cert.MidRefIdeal.nD Cert.MidRefIdeal.τ).loc Cert.MidRefIdeal.main_arg8))
      ∧ r.2.sem = fun _ => 0)

def quiescent_MidRefIdeal_pre_finite_weights_mid [hMidRefIdeal : Cert.MidRefIdeal.Facts] [hPre_finite_weights_mid : Cert.Pre_finite_weights_mid.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal_finite_weights_mid m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5)
      ∧ r.2.mem ((c.tc : Thread Cert.MidRefIdeal.nD Cert.MidRefIdeal.τ).loc Cert.MidRefIdeal.main_arg6) = m ((c.tc : Thread Cert.MidRefIdeal.nD Cert.MidRefIdeal.τ).loc Cert.MidRefIdeal.main_arg6)
      ∧ r.2.mem ((c.tc : Thread Cert.MidRefIdeal.nD Cert.MidRefIdeal.τ).loc Cert.MidRefIdeal.main_arg7) = m ((c.tc : Thread Cert.MidRefIdeal.nD Cert.MidRefIdeal.τ).loc Cert.MidRefIdeal.main_arg7)
      ∧ r.2.mem ((c.tc : Thread Cert.MidRefIdeal.nD Cert.MidRefIdeal.τ).loc Cert.MidRefIdeal.main_arg8) = m ((c.tc : Thread Cert.MidRefIdeal.nD Cert.MidRefIdeal.τ).loc Cert.MidRefIdeal.main_arg8))
      ∧ r.2.sem = fun _ => 0)

def quiescent_RetIn [hRetIn : Cert.RetIn.Facts] : Prop :=
  ∀ (m : (ℓ : Loc Cert.RetIn.nD Cert.RetIn.τ Cert.RetIn.sig) → Buf (Elt Bits) ℓ) (g : Dev Cert.RetIn.nD → PrngReg), Pre_RetIn m →
    θ_run (Cert.RetIn.defs (F := Bits)) (onTc (τ := Cert.RetIn.τ) (Cert.RetIn.main (F := Bits))) ⟨m, fun _ => 0, g⟩ (fun r => (∀ c : Dev Cert.RetIn.nD,
      r.2.mem ((c.tc : Thread Cert.RetIn.nD Cert.RetIn.τ).loc Cert.RetIn.main_arg0) = m ((c.tc : Thread Cert.RetIn.nD Cert.RetIn.τ).loc Cert.RetIn.main_arg0)
      ∧ r.2.mem ((c.tc : Thread Cert.RetIn.nD Cert.RetIn.τ).loc Cert.RetIn.main_arg1) = m ((c.tc : Thread Cert.RetIn.nD Cert.RetIn.τ).loc Cert.RetIn.main_arg1)
      ∧ r.2.mem ((c.tc : Thread Cert.RetIn.nD Cert.RetIn.τ).loc Cert.RetIn.main_arg2) = m ((c.tc : Thread Cert.RetIn.nD Cert.RetIn.τ).loc Cert.RetIn.main_arg2)
      ∧ r.2.mem ((c.tc : Thread Cert.RetIn.nD Cert.RetIn.τ).loc Cert.RetIn.main_arg3) = m ((c.tc : Thread Cert.RetIn.nD Cert.RetIn.τ).loc Cert.RetIn.main_arg3))
      ∧ r.2.sem = fun _ => 0)

def quiescent_RetInIdeal [hRetInIdeal : Cert.RetInIdeal.Facts] : Prop :=
  ∀ (m : (ℓ : Loc Cert.RetInIdeal.nD Cert.RetInIdeal.τ Cert.RetInIdeal.sig) → Buf (Elt Ideal) ℓ) (g : Dev Cert.RetInIdeal.nD → PrngReg), Pre_RetInIdeal m →
    θ_run (Cert.RetInIdeal.defs (F := Ideal)) (onTc (τ := Cert.RetInIdeal.τ) (Cert.RetInIdeal.main (F := Ideal))) ⟨m, fun _ => 0, g⟩ (fun r => (∀ c : Dev Cert.RetInIdeal.nD,
      r.2.mem ((c.tc : Thread Cert.RetInIdeal.nD Cert.RetInIdeal.τ).loc Cert.RetInIdeal.main_arg0) = m ((c.tc : Thread Cert.RetInIdeal.nD Cert.RetInIdeal.τ).loc Cert.RetInIdeal.main_arg0)
      ∧ r.2.mem ((c.tc : Thread Cert.RetInIdeal.nD Cert.RetInIdeal.τ).loc Cert.RetInIdeal.main_arg1) = m ((c.tc : Thread Cert.RetInIdeal.nD Cert.RetInIdeal.τ).loc Cert.RetInIdeal.main_arg1)
      ∧ r.2.mem ((c.tc : Thread Cert.RetInIdeal.nD Cert.RetInIdeal.τ).loc Cert.RetInIdeal.main_arg2) = m ((c.tc : Thread Cert.RetInIdeal.nD Cert.RetInIdeal.τ).loc Cert.RetInIdeal.main_arg2)
      ∧ r.2.mem ((c.tc : Thread Cert.RetInIdeal.nD Cert.RetInIdeal.τ).loc Cert.RetInIdeal.main_arg3) = m ((c.tc : Thread Cert.RetInIdeal.nD Cert.RetInIdeal.τ).loc Cert.RetInIdeal.main_arg3))
      ∧ r.2.sem = fun _ => 0)

def quiescent_RetInRefIdeal [hRetInRefIdeal : Cert.RetInRefIdeal.Facts] : Prop :=
  ∀ (m : (ℓ : Loc Cert.RetInRefIdeal.nD Cert.RetInRefIdeal.τ Cert.RetInRefIdeal.sig) → Buf (Elt Ideal) ℓ) (g : Dev Cert.RetInRefIdeal.nD → PrngReg), Pre_RetInRefIdeal m →
    θ_run (Cert.RetInRefIdeal.defs (F := Ideal)) (onTc (τ := Cert.RetInRefIdeal.τ) (Cert.RetInRefIdeal.main (F := Ideal))) ⟨m, fun _ => 0, g⟩ (fun r => (∀ c : Dev Cert.RetInRefIdeal.nD,
      r.2.mem ((c.tc : Thread Cert.RetInRefIdeal.nD Cert.RetInRefIdeal.τ).loc Cert.RetInRefIdeal.main_arg0) = m ((c.tc : Thread Cert.RetInRefIdeal.nD Cert.RetInRefIdeal.τ).loc Cert.RetInRefIdeal.main_arg0)
      ∧ r.2.mem ((c.tc : Thread Cert.RetInRefIdeal.nD Cert.RetInRefIdeal.τ).loc Cert.RetInRefIdeal.main_arg1) = m ((c.tc : Thread Cert.RetInRefIdeal.nD Cert.RetInRefIdeal.τ).loc Cert.RetInRefIdeal.main_arg1)
      ∧ r.2.mem ((c.tc : Thread Cert.RetInRefIdeal.nD Cert.RetInRefIdeal.τ).loc Cert.RetInRefIdeal.main_arg2) = m ((c.tc : Thread Cert.RetInRefIdeal.nD Cert.RetInRefIdeal.τ).loc Cert.RetInRefIdeal.main_arg2)
      ∧ r.2.mem ((c.tc : Thread Cert.RetInRefIdeal.nD Cert.RetInRefIdeal.τ).loc Cert.RetInRefIdeal.main_arg3) = m ((c.tc : Thread Cert.RetInRefIdeal.nD Cert.RetInRefIdeal.τ).loc Cert.RetInRefIdeal.main_arg3))
      ∧ r.2.sem = fun _ => 0)

def quiescent_AttIn [hAttIn : Cert.AttIn.Facts] : Prop :=
  ∀ (m : (ℓ : Loc Cert.AttIn.nD Cert.AttIn.τ Cert.AttIn.sig) → Buf (Elt Bits) ℓ) (g : Dev Cert.AttIn.nD → PrngReg), Pre_AttIn m →
    θ_run (Cert.AttIn.defs (F := Bits)) (onTc (τ := Cert.AttIn.τ) (Cert.AttIn.main (F := Bits))) ⟨m, fun _ => 0, g⟩ (fun r => (∀ c : Dev Cert.AttIn.nD,
      r.2.mem ((c.tc : Thread Cert.AttIn.nD Cert.AttIn.τ).loc Cert.AttIn.main_arg0) = m ((c.tc : Thread Cert.AttIn.nD Cert.AttIn.τ).loc Cert.AttIn.main_arg0)
      ∧ r.2.mem ((c.tc : Thread Cert.AttIn.nD Cert.AttIn.τ).loc Cert.AttIn.main_arg1) = m ((c.tc : Thread Cert.AttIn.nD Cert.AttIn.τ).loc Cert.AttIn.main_arg1)
      ∧ r.2.mem ((c.tc : Thread Cert.AttIn.nD Cert.AttIn.τ).loc Cert.AttIn.main_arg2) = m ((c.tc : Thread Cert.AttIn.nD Cert.AttIn.τ).loc Cert.AttIn.main_arg2)
      ∧ r.2.mem ((c.tc : Thread Cert.AttIn.nD Cert.AttIn.τ).loc Cert.AttIn.main_arg3) = m ((c.tc : Thread Cert.AttIn.nD Cert.AttIn.τ).loc Cert.AttIn.main_arg3)
      ∧ r.2.mem ((c.tc : Thread Cert.AttIn.nD Cert.AttIn.τ).loc Cert.AttIn.main_arg4) = m ((c.tc : Thread Cert.AttIn.nD Cert.AttIn.τ).loc Cert.AttIn.main_arg4)
      ∧ r.2.mem ((c.tc : Thread Cert.AttIn.nD Cert.AttIn.τ).loc Cert.AttIn.main_arg5) = m ((c.tc : Thread Cert.AttIn.nD Cert.AttIn.τ).loc Cert.AttIn.main_arg5))
      ∧ r.2.sem = fun _ => 0)

def preserves_Kernel_KernelIdeal : Prop :=
  True

def algebraic_KernelIdeal_ReferenceIdeal_pre_finite_queries_and_keys [hKernelIdeal : Cert.KernelIdeal.Facts] [hReferenceIdeal : Cert.ReferenceIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Last_LastIdeal : Prop :=
  True

def algebraic_LastIdeal_LastRefIdeal_pre_finite_weights_last [hLastIdeal : Cert.LastIdeal.Facts] [hLastRefIdeal : Cert.LastRefIdeal.Facts] [hPre_finite_weights_last : Cert.Pre_finite_weights_last.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal_finite_weights_last m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)
      ∧ m' ((c.tc : Thread Cert.LastRefIdeal.nD Cert.LastRefIdeal.τ).loc Cert.LastRefIdeal.main_arg4) = m ((c.tc : Thread Cert.LastIdeal.nD Cert.LastIdeal.τ).loc Cert.LastIdeal.main_arg4)
      ∧ m' ((c.tc : Thread Cert.LastRefIdeal.nD Cert.LastRefIdeal.τ).loc Cert.LastRefIdeal.main_arg5) = m ((c.tc : Thread Cert.LastIdeal.nD Cert.LastIdeal.τ).loc Cert.LastIdeal.main_arg5)
      ∧ m' ((c.tc : Thread Cert.LastRefIdeal.nD Cert.LastRefIdeal.τ).loc Cert.LastRefIdeal.main_arg6) = m ((c.tc : Thread Cert.LastIdeal.nD Cert.LastIdeal.τ).loc Cert.LastIdeal.main_arg6)
      ∧ m' ((c.tc : Thread Cert.LastRefIdeal.nD Cert.LastRefIdeal.τ).loc Cert.LastRefIdeal.main_arg7) = m ((c.tc : Thread Cert.LastIdeal.nD Cert.LastIdeal.τ).loc Cert.LastIdeal.main_arg7)) →
    ∃ (v0 : (c : Dev Cert.LastIdeal.nD) → Buf (Elt Ideal) ((c.tc : Thread Cert.LastIdeal.nD Cert.LastIdeal.τ).loc Cert.LastIdeal.main_v14)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v14) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
          ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
          ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
          ∧ r.2.mem ((c.tc : Thread Cert.LastIdeal.nD Cert.LastIdeal.τ).loc Cert.LastIdeal.main_arg7) = m ((c.tc : Thread Cert.LastIdeal.nD Cert.LastIdeal.τ).loc Cert.LastIdeal.main_arg7))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v69) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3)
          ∧ r.2.mem ((c.tc : Thread Cert.LastRefIdeal.nD Cert.LastRefIdeal.τ).loc Cert.LastRefIdeal.main_arg4) = m' ((c.tc : Thread Cert.LastRefIdeal.nD Cert.LastRefIdeal.τ).loc Cert.LastRefIdeal.main_arg4)
          ∧ r.2.mem ((c.tc : Thread Cert.LastRefIdeal.nD Cert.LastRefIdeal.τ).loc Cert.LastRefIdeal.main_arg5) = m' ((c.tc : Thread Cert.LastRefIdeal.nD Cert.LastRefIdeal.τ).loc Cert.LastRefIdeal.main_arg5)
          ∧ r.2.mem ((c.tc : Thread Cert.LastRefIdeal.nD Cert.LastRefIdeal.τ).loc Cert.LastRefIdeal.main_arg6) = m' ((c.tc : Thread Cert.LastRefIdeal.nD Cert.LastRefIdeal.τ).loc Cert.LastRefIdeal.main_arg6)
          ∧ r.2.mem ((c.tc : Thread Cert.LastRefIdeal.nD Cert.LastRefIdeal.τ).loc Cert.LastRefIdeal.main_arg7) = m' ((c.tc : Thread Cert.LastRefIdeal.nD Cert.LastRefIdeal.τ).loc Cert.LastRefIdeal.main_arg7))

def preserves_Mid_MidIdeal : Prop :=
  True

def algebraic_MidIdeal_MidRefIdeal_pre_finite_weights_mid [hMidIdeal : Cert.MidIdeal.Facts] [hMidRefIdeal : Cert.MidRefIdeal.Facts] [hPre_finite_weights_mid : Cert.Pre_finite_weights_mid.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal_finite_weights_mid m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)
      ∧ m' ((c.tc : Thread Cert.MidRefIdeal.nD Cert.MidRefIdeal.τ).loc Cert.MidRefIdeal.main_arg4) = m ((c.tc : Thread Cert.MidIdeal.nD Cert.MidIdeal.τ).loc Cert.MidIdeal.main_arg4)
      ∧ m' ((c.tc : Thread Cert.MidRefIdeal.nD Cert.MidRefIdeal.τ).loc Cert.MidRefIdeal.main_arg5) = m ((c.tc : Thread Cert.MidIdeal.nD Cert.MidIdeal.τ).loc Cert.MidIdeal.main_arg5)
      ∧ m' ((c.tc : Thread Cert.MidRefIdeal.nD Cert.MidRefIdeal.τ).loc Cert.MidRefIdeal.main_arg6) = m ((c.tc : Thread Cert.MidIdeal.nD Cert.MidIdeal.τ).loc Cert.MidIdeal.main_arg6)
      ∧ m' ((c.tc : Thread Cert.MidRefIdeal.nD Cert.MidRefIdeal.τ).loc Cert.MidRefIdeal.main_arg7) = m ((c.tc : Thread Cert.MidIdeal.nD Cert.MidIdeal.τ).loc Cert.MidIdeal.main_arg7)
      ∧ m' ((c.tc : Thread Cert.MidRefIdeal.nD Cert.MidRefIdeal.τ).loc Cert.MidRefIdeal.main_arg8) = m ((c.tc : Thread Cert.MidIdeal.nD Cert.MidIdeal.τ).loc Cert.MidIdeal.main_arg8)) →
    ∃ (v0 : (c : Dev Cert.MidIdeal.nD) → Buf (Elt Ideal) ((c.tc : Thread Cert.MidIdeal.nD Cert.MidIdeal.τ).loc Cert.MidIdeal.main_v14)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v14) = v0 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
          ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
          ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
          ∧ r.2.mem ((c.tc : Thread Cert.MidIdeal.nD Cert.MidIdeal.τ).loc Cert.MidIdeal.main_arg8) = m ((c.tc : Thread Cert.MidIdeal.nD Cert.MidIdeal.τ).loc Cert.MidIdeal.main_arg8))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v57) = v0 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3)
          ∧ r.2.mem ((c.tc : Thread Cert.MidRefIdeal.nD Cert.MidRefIdeal.τ).loc Cert.MidRefIdeal.main_arg4) = m' ((c.tc : Thread Cert.MidRefIdeal.nD Cert.MidRefIdeal.τ).loc Cert.MidRefIdeal.main_arg4)
          ∧ r.2.mem ((c.tc : Thread Cert.MidRefIdeal.nD Cert.MidRefIdeal.τ).loc Cert.MidRefIdeal.main_arg5) = m' ((c.tc : Thread Cert.MidRefIdeal.nD Cert.MidRefIdeal.τ).loc Cert.MidRefIdeal.main_arg5)
          ∧ r.2.mem ((c.tc : Thread Cert.MidRefIdeal.nD Cert.MidRefIdeal.τ).loc Cert.MidRefIdeal.main_arg6) = m' ((c.tc : Thread Cert.MidRefIdeal.nD Cert.MidRefIdeal.τ).loc Cert.MidRefIdeal.main_arg6)
          ∧ r.2.mem ((c.tc : Thread Cert.MidRefIdeal.nD Cert.MidRefIdeal.τ).loc Cert.MidRefIdeal.main_arg7) = m' ((c.tc : Thread Cert.MidRefIdeal.nD Cert.MidRefIdeal.τ).loc Cert.MidRefIdeal.main_arg7)
          ∧ r.2.mem ((c.tc : Thread Cert.MidRefIdeal.nD Cert.MidRefIdeal.τ).loc Cert.MidRefIdeal.main_arg8) = m' ((c.tc : Thread Cert.MidRefIdeal.nD Cert.MidRefIdeal.τ).loc Cert.MidRefIdeal.main_arg8))

def preserves_RetIn_RetInIdeal : Prop :=
  True

def algebraic_RetInIdeal_RetInRefIdeal [hRetInIdeal : Cert.RetInIdeal.Facts] [hRetInRefIdeal : Cert.RetInRefIdeal.Facts] : Prop :=
  ∀ (m : (ℓ : Loc Cert.RetInIdeal.nD Cert.RetInIdeal.τ Cert.RetInIdeal.sig) → Buf (Elt Ideal) ℓ) (g : Dev Cert.RetInIdeal.nD → PrngReg)
    (m' : (ℓ : Loc Cert.RetInRefIdeal.nD Cert.RetInRefIdeal.τ Cert.RetInRefIdeal.sig) → Buf (Elt Ideal) ℓ) (g' : Dev Cert.RetInRefIdeal.nD → PrngReg), Pre_RetInIdeal m →
    (∀ c : Dev Cert.RetInIdeal.nD,
      m' ((c.tc : Thread Cert.RetInRefIdeal.nD Cert.RetInRefIdeal.τ).loc Cert.RetInRefIdeal.main_arg0) = m ((c.tc : Thread Cert.RetInIdeal.nD Cert.RetInIdeal.τ).loc Cert.RetInIdeal.main_arg0)
      ∧ m' ((c.tc : Thread Cert.RetInRefIdeal.nD Cert.RetInRefIdeal.τ).loc Cert.RetInRefIdeal.main_arg1) = m ((c.tc : Thread Cert.RetInIdeal.nD Cert.RetInIdeal.τ).loc Cert.RetInIdeal.main_arg1)
      ∧ m' ((c.tc : Thread Cert.RetInRefIdeal.nD Cert.RetInRefIdeal.τ).loc Cert.RetInRefIdeal.main_arg2) = m ((c.tc : Thread Cert.RetInIdeal.nD Cert.RetInIdeal.τ).loc Cert.RetInIdeal.main_arg2)
      ∧ m' ((c.tc : Thread Cert.RetInRefIdeal.nD Cert.RetInRefIdeal.τ).loc Cert.RetInRefIdeal.main_arg3) = m ((c.tc : Thread Cert.RetInIdeal.nD Cert.RetInIdeal.τ).loc Cert.RetInIdeal.main_arg3)) →
    ∃ (v0 : (c : Dev Cert.RetInIdeal.nD) → Buf (Elt Ideal) ((c.tc : Thread Cert.RetInIdeal.nD Cert.RetInIdeal.τ).loc Cert.RetInIdeal.main_v45_0)) (v1 : (c : Dev Cert.RetInIdeal.nD) → Buf (Elt Ideal) ((c.tc : Thread Cert.RetInIdeal.nD Cert.RetInIdeal.τ).loc Cert.RetInIdeal.main_v45_1)) (v2 : (c : Dev Cert.RetInIdeal.nD) → Buf (Elt Ideal) ((c.tc : Thread Cert.RetInIdeal.nD Cert.RetInIdeal.τ).loc Cert.RetInIdeal.main_v45_2)) (v3 : (c : Dev Cert.RetInIdeal.nD) → Buf (Elt Ideal) ((c.tc : Thread Cert.RetInIdeal.nD Cert.RetInIdeal.τ).loc Cert.RetInIdeal.main_v45_3)),
      θ_run (Cert.RetInIdeal.defs (F := Ideal)) (onTc (τ := Cert.RetInIdeal.τ) (Cert.RetInIdeal.main (F := Ideal))) ⟨m, fun _ => 0, g⟩ (fun r => ∀ c : Dev Cert.RetInIdeal.nD,
          r.2.mem ((c.tc : Thread Cert.RetInIdeal.nD Cert.RetInIdeal.τ).loc Cert.RetInIdeal.main_v45_0) = v0 c
          ∧ r.2.mem ((c.tc : Thread Cert.RetInIdeal.nD Cert.RetInIdeal.τ).loc Cert.RetInIdeal.main_v45_1) = v1 c
          ∧ r.2.mem ((c.tc : Thread Cert.RetInIdeal.nD Cert.RetInIdeal.τ).loc Cert.RetInIdeal.main_v45_2) = v2 c
          ∧ r.2.mem ((c.tc : Thread Cert.RetInIdeal.nD Cert.RetInIdeal.τ).loc Cert.RetInIdeal.main_v45_3) = v3 c
          ∧ r.2.mem ((c.tc : Thread Cert.RetInIdeal.nD Cert.RetInIdeal.τ).loc Cert.RetInIdeal.main_arg0) = m ((c.tc : Thread Cert.RetInIdeal.nD Cert.RetInIdeal.τ).loc Cert.RetInIdeal.main_arg0)
          ∧ r.2.mem ((c.tc : Thread Cert.RetInIdeal.nD Cert.RetInIdeal.τ).loc Cert.RetInIdeal.main_arg1) = m ((c.tc : Thread Cert.RetInIdeal.nD Cert.RetInIdeal.τ).loc Cert.RetInIdeal.main_arg1)
          ∧ r.2.mem ((c.tc : Thread Cert.RetInIdeal.nD Cert.RetInIdeal.τ).loc Cert.RetInIdeal.main_arg2) = m ((c.tc : Thread Cert.RetInIdeal.nD Cert.RetInIdeal.τ).loc Cert.RetInIdeal.main_arg2)
          ∧ r.2.mem ((c.tc : Thread Cert.RetInIdeal.nD Cert.RetInIdeal.τ).loc Cert.RetInIdeal.main_arg3) = m ((c.tc : Thread Cert.RetInIdeal.nD Cert.RetInIdeal.τ).loc Cert.RetInIdeal.main_arg3))
      ∧ θ_run (Cert.RetInRefIdeal.defs (F := Ideal)) (onTc (τ := Cert.RetInRefIdeal.τ) (Cert.RetInRefIdeal.main (F := Ideal))) ⟨m', fun _ => 0, g'⟩ (fun r => ∀ c : Dev Cert.RetInRefIdeal.nD,
          r.2.mem ((c.tc : Thread Cert.RetInRefIdeal.nD Cert.RetInRefIdeal.τ).loc Cert.RetInRefIdeal.main_v159) = v0 c
          ∧ r.2.mem ((c.tc : Thread Cert.RetInRefIdeal.nD Cert.RetInRefIdeal.τ).loc Cert.RetInRefIdeal.main_v160) = v1 c
          ∧ r.2.mem ((c.tc : Thread Cert.RetInRefIdeal.nD Cert.RetInRefIdeal.τ).loc Cert.RetInRefIdeal.main_v161) = v2 c
          ∧ r.2.mem ((c.tc : Thread Cert.RetInRefIdeal.nD Cert.RetInRefIdeal.τ).loc Cert.RetInRefIdeal.main_v162) = v3 c
          ∧ r.2.mem ((c.tc : Thread Cert.RetInRefIdeal.nD Cert.RetInRefIdeal.τ).loc Cert.RetInRefIdeal.main_arg0) = m' ((c.tc : Thread Cert.RetInRefIdeal.nD Cert.RetInRefIdeal.τ).loc Cert.RetInRefIdeal.main_arg0)
          ∧ r.2.mem ((c.tc : Thread Cert.RetInRefIdeal.nD Cert.RetInRefIdeal.τ).loc Cert.RetInRefIdeal.main_arg1) = m' ((c.tc : Thread Cert.RetInRefIdeal.nD Cert.RetInRefIdeal.τ).loc Cert.RetInRefIdeal.main_arg1)
          ∧ r.2.mem ((c.tc : Thread Cert.RetInRefIdeal.nD Cert.RetInRefIdeal.τ).loc Cert.RetInRefIdeal.main_arg2) = m' ((c.tc : Thread Cert.RetInRefIdeal.nD Cert.RetInRefIdeal.τ).loc Cert.RetInRefIdeal.main_arg2)
          ∧ r.2.mem ((c.tc : Thread Cert.RetInRefIdeal.nD Cert.RetInRefIdeal.τ).loc Cert.RetInRefIdeal.main_arg3) = m' ((c.tc : Thread Cert.RetInRefIdeal.nD Cert.RetInRefIdeal.τ).loc Cert.RetInRefIdeal.main_arg3))

def Claim : Prop :=
  ∃ (hKernel : Cert.Kernel.Facts) (hKernelIdeal : Cert.KernelIdeal.Facts) (hReferenceIdeal : Cert.ReferenceIdeal.Facts) (hLast : Cert.Last.Facts) (hLastIdeal : Cert.LastIdeal.Facts) (hLastRefIdeal : Cert.LastRefIdeal.Facts) (hMid : Cert.Mid.Facts) (hMidIdeal : Cert.MidIdeal.Facts) (hMidRefIdeal : Cert.MidRefIdeal.Facts) (hRetIn : Cert.RetIn.Facts) (hRetInIdeal : Cert.RetInIdeal.Facts) (hRetInRefIdeal : Cert.RetInRefIdeal.Facts) (hAttIn : Cert.AttIn.Facts) (hPre_finite_queries_and_keys : Cert.Pre_finite_queries_and_keys.Facts) (hPre_finite_weights_last : Cert.Pre_finite_weights_last.Facts) (hPre_finite_weights_mid : Cert.Pre_finite_weights_mid.Facts),
    quiescent_Kernel (hKernel := hKernel)
    ∧ quiescent_KernelIdeal (hKernelIdeal := hKernelIdeal)
    ∧ quiescent_KernelIdeal_pre_finite_queries_and_keys (hKernelIdeal := hKernelIdeal) (hPre_finite_queries_and_keys := hPre_finite_queries_and_keys)
    ∧ quiescent_ReferenceIdeal (hReferenceIdeal := hReferenceIdeal)
    ∧ quiescent_ReferenceIdeal_pre_finite_queries_and_keys (hReferenceIdeal := hReferenceIdeal) (hPre_finite_queries_and_keys := hPre_finite_queries_and_keys)
    ∧ quiescent_Last (hLast := hLast)
    ∧ quiescent_LastIdeal (hLastIdeal := hLastIdeal)
    ∧ quiescent_LastIdeal_pre_finite_weights_last (hLastIdeal := hLastIdeal) (hPre_finite_weights_last := hPre_finite_weights_last)
    ∧ quiescent_LastRefIdeal (hLastRefIdeal := hLastRefIdeal)
    ∧ quiescent_LastRefIdeal_pre_finite_weights_last (hLastRefIdeal := hLastRefIdeal) (hPre_finite_weights_last := hPre_finite_weights_last)
    ∧ quiescent_Mid (hMid := hMid)
    ∧ quiescent_MidIdeal (hMidIdeal := hMidIdeal)
    ∧ quiescent_MidIdeal_pre_finite_weights_mid (hMidIdeal := hMidIdeal) (hPre_finite_weights_mid := hPre_finite_weights_mid)
    ∧ quiescent_MidRefIdeal (hMidRefIdeal := hMidRefIdeal)
    ∧ quiescent_MidRefIdeal_pre_finite_weights_mid (hMidRefIdeal := hMidRefIdeal) (hPre_finite_weights_mid := hPre_finite_weights_mid)
    ∧ quiescent_RetIn (hRetIn := hRetIn)
    ∧ quiescent_RetInIdeal (hRetInIdeal := hRetInIdeal)
    ∧ quiescent_RetInRefIdeal (hRetInRefIdeal := hRetInRefIdeal)
    ∧ quiescent_AttIn (hAttIn := hAttIn)
    ∧ preserves_Kernel_KernelIdeal
    ∧ algebraic_KernelIdeal_ReferenceIdeal_pre_finite_queries_and_keys (hKernelIdeal := hKernelIdeal) (hReferenceIdeal := hReferenceIdeal) (hPre_finite_queries_and_keys := hPre_finite_queries_and_keys)
    ∧ preserves_Last_LastIdeal
    ∧ algebraic_LastIdeal_LastRefIdeal_pre_finite_weights_last (hLastIdeal := hLastIdeal) (hLastRefIdeal := hLastRefIdeal) (hPre_finite_weights_last := hPre_finite_weights_last)
    ∧ preserves_Mid_MidIdeal
    ∧ algebraic_MidIdeal_MidRefIdeal_pre_finite_weights_mid (hMidIdeal := hMidIdeal) (hMidRefIdeal := hMidRefIdeal) (hPre_finite_weights_mid := hPre_finite_weights_mid)
    ∧ preserves_RetIn_RetInIdeal
    ∧ algebraic_RetInIdeal_RetInRefIdeal (hRetInIdeal := hRetInIdeal) (hRetInRefIdeal := hRetInRefIdeal)
-- ==== Pre_finite_queries_and_keys.lean ====
abbrev S16x4096x8x128 : Shape := ⟨4, ![16, 4096, 8, 128]⟩
abbrev S16x4096x2x128 : Shape := ⟨4, ![16, 4096, 2, 128]⟩
abbrev S_ : Shape := ⟨0, ![]⟩

class Facts : Prop where
  bcast_S_S16x4096x8x128 : S_.BroadcastsInDim S16x4096x8x128 (![] : Fin 0 → Fin S16x4096x8x128.rank)
  reducesTo_S16x4096x8x128_S_d0_1_2_3 : S16x4096x8x128.ReducesTo [0, 1, 2, 3] S_
  h_S_ : 0 < S_.numel
  bcast_S_S16x4096x2x128 : S_.BroadcastsInDim S16x4096x2x128 (![] : Fin 0 → Fin S16x4096x2x128.rank)
  reducesTo_S16x4096x2x128_S_d0_1_2_3 : S16x4096x2x128.ReducesTo [0, 1, 2, 3] S_

variable [Facts]

def fn {F : FTy → Type} [FloatOps F] (main_arg0 : FVec F S16x4096x8x128 .f32) (main_arg1 : FVec F S16x4096x2x128 .f32) (main_arg2 : FVec F S16x4096x2x128 .f32) : IVec S_ 1 :=
  let main_cst : FVec F S_ .f32 := constant S_ .f32 0x7F800000#32
  let main_v0 : FVec F S16x4096x8x128 .f32 := broadcastInDim S16x4096x8x128 ![] bcast_S_S16x4096x8x128 main_cst
  let main_v1 : IVec S16x4096x8x128 1 := cmpf .olt main_arg0 main_v0
  let main_cst_0 : FVec F S_ .f32 := constant S_ .f32 0xFF800000#32
  let main_v2 : FVec F S16x4096x8x128 .f32 := broadcastInDim S16x4096x8x128 ![] bcast_S_S16x4096x8x128 main_cst_0
  let main_v3 : IVec S16x4096x8x128 1 := cmpf .ogt main_arg0 main_v2
  let main_v4 : IVec S16x4096x8x128 1 := andi main_v1 main_v3
  let main_c : IVec S_ 1 := constantI S_ 1 1#1
  let main_v5 : IVec S_ 1 := (fun x v => Host.reduce IntOp.andi x v reducesTo_S16x4096x8x128_S_d0_1_2_3 h_S_) main_v4 main_c
  let main_cst_1 : FVec F S_ .f32 := constant S_ .f32 0x7F800000#32
  let main_v6 : FVec F S16x4096x2x128 .f32 := broadcastInDim S16x4096x2x128 ![] bcast_S_S16x4096x2x128 main_cst_1
  let main_v7 : IVec S16x4096x2x128 1 := cmpf .olt main_arg1 main_v6
  let main_cst_2 : FVec F S_ .f32 := constant S_ .f32 0xFF800000#32
  let main_v8 : FVec F S16x4096x2x128 .f32 := broadcastInDim S16x4096x2x128 ![] bcast_S_S16x4096x2x128 main_cst_2
  let main_v9 : IVec S16x4096x2x128 1 := cmpf .ogt main_arg1 main_v8
  let main_v10 : IVec S16x4096x2x128 1 := andi main_v7 main_v9
  let main_c_3 : IVec S_ 1 := constantI S_ 1 1#1
  let main_v11 : IVec S_ 1 := (fun x v => Host.reduce IntOp.andi x v reducesTo_S16x4096x2x128_S_d0_1_2_3 h_S_) main_v10 main_c_3
  let main_v12 : IVec S_ 1 := andi main_v5 main_v11
  main_v12
-- ==== Pre_finite_weights_last.lean ====
abbrev S16x4096x1024 : Shape := ⟨3, ![16, 4096, 1024]⟩
abbrev S16x2x4096x512 : Shape := ⟨4, ![16, 2, 4096, 512]⟩
abbrev S2x32x6x1024 : Shape := ⟨4, ![2, 32, 6, 1024]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S_ : Shape := ⟨0, ![]⟩

class Facts : Prop where
  bcast_S_S2x32x6x1024 : S_.BroadcastsInDim S2x32x6x1024 (![] : Fin 0 → Fin S2x32x6x1024.rank)
  reducesTo_S2x32x6x1024_S_d0_1_2_3 : S2x32x6x1024.ReducesTo [0, 1, 2, 3] S_
  h_S_ : 0 < S_.numel
  bcast_S_S2x1024 : S_.BroadcastsInDim S2x1024 (![] : Fin 0 → Fin S2x1024.rank)
  reducesTo_S2x1024_S_d0_1 : S2x1024.ReducesTo [0, 1] S_
  bcast_S_S2x1024x4096 : S_.BroadcastsInDim S2x1024x4096 (![] : Fin 0 → Fin S2x1024x4096.rank)
  reducesTo_S2x1024x4096_S_d0_1_2 : S2x1024x4096.ReducesTo [0, 1, 2] S_
  bcast_S_S2x4096x1024 : S_.BroadcastsInDim S2x4096x1024 (![] : Fin 0 → Fin S2x4096x1024.rank)
  reducesTo_S2x4096x1024_S_d0_1_2 : S2x4096x1024.ReducesTo [0, 1, 2] S_

variable [Facts]

def fn_part1 {F : FTy → Type} [FloatOps F] (main_arg5 : FVec F S2x1024x4096 .f32) (main_arg6 : FVec F S2x4096x1024 .f32) (main_v12 : IVec S_ 1) (main_v14 : IVec S2x1024x4096 1) (main_v15 : FVec F S2x1024x4096 .f32) : IVec S_ 1 :=
  let main_v16 : IVec S2x1024x4096 1 := cmpf .ogt main_arg5 main_v15
  let main_v17 : IVec S2x1024x4096 1 := andi main_v14 main_v16
  let main_c_6 : IVec S_ 1 := constantI S_ 1 1#1
  let main_v18 : IVec S_ 1 := (fun x v => Host.reduce IntOp.andi x v reducesTo_S2x1024x4096_S_d0_1_2 h_S_) main_v17 main_c_6
  let main_v19 : IVec S_ 1 := andi main_v12 main_v18
  let main_cst_7 : FVec F S_ .f32 := constant S_ .f32 0x7F800000#32
  let main_v20 : FVec F S2x4096x1024 .f32 := broadcastInDim S2x4096x1024 ![] bcast_S_S2x4096x1024 main_cst_7
  let main_v21 : IVec S2x4096x1024 1 := cmpf .olt main_arg6 main_v20
  let main_cst_8 : FVec F S_ .f32 := constant S_ .f32 0xFF800000#32
  let main_v22 : FVec F S2x4096x1024 .f32 := broadcastInDim S2x4096x1024 ![] bcast_S_S2x4096x1024 main_cst_8
  let main_v23 : IVec S2x4096x1024 1 := cmpf .ogt main_arg6 main_v22
  let main_v24 : IVec S2x4096x1024 1 := andi main_v21 main_v23
  let main_c_9 : IVec S_ 1 := constantI S_ 1 1#1
  let main_v25 : IVec S_ 1 := (fun x v => Host.reduce IntOp.andi x v reducesTo_S2x4096x1024_S_d0_1_2 h_S_) main_v24 main_c_9
  let main_v26 : IVec S_ 1 := andi main_v19 main_v25
  main_v26

def fn {F : FTy → Type} [FloatOps F] (main_arg0 : FVec F S16x4096x1024 .f32) (main_arg1 : FVec F S16x2x4096x512 .f32) (main_arg2 : FVec F S2x32x6x1024 .f32) (main_arg3 : FVec F S1x1024x1024 .f32) (main_arg4 : FVec F S2x1024 .f32) (main_arg5 : FVec F S2x1024x4096 .f32) (main_arg6 : FVec F S2x4096x1024 .f32) (main_arg7 : FVec F S1024 .f32) : IVec S_ 1 :=
  let main_cst : FVec F S_ .f32 := constant S_ .f32 0x7F800000#32
  let main_v0 : FVec F S2x32x6x1024 .f32 := broadcastInDim S2x32x6x1024 ![] bcast_S_S2x32x6x1024 main_cst
  let main_v1 : IVec S2x32x6x1024 1 := cmpf .olt main_arg2 main_v0
  let main_cst_0 : FVec F S_ .f32 := constant S_ .f32 0xFF800000#32
  let main_v2 : FVec F S2x32x6x1024 .f32 := broadcastInDim S2x32x6x1024 ![] bcast_S_S2x32x6x1024 main_cst_0
  let main_v3 : IVec S2x32x6x1024 1 := cmpf .ogt main_arg2 main_v2
  let main_v4 : IVec S2x32x6x1024 1 := andi main_v1 main_v3
  let main_c : IVec S_ 1 := constantI S_ 1 1#1
  let main_v5 : IVec S_ 1 := (fun x v => Host.reduce IntOp.andi x v reducesTo_S2x32x6x1024_S_d0_1_2_3 h_S_) main_v4 main_c
  let main_cst_1 : FVec F S_ .f32 := constant S_ .f32 0x7F800000#32
  let main_v6 : FVec F S2x1024 .f32 := broadcastInDim S2x1024 ![] bcast_S_S2x1024 main_cst_1
  let main_v7 : IVec S2x1024 1 := cmpf .olt main_arg4 main_v6
  let main_cst_2 : FVec F S_ .f32 := constant S_ .f32 0xFF800000#32
  let main_v8 : FVec F S2x1024 .f32 := broadcastInDim S2x1024 ![] bcast_S_S2x1024 main_cst_2
  let main_v9 : IVec S2x1024 1 := cmpf .ogt main_arg4 main_v8
  let main_v10 : IVec S2x1024 1 := andi main_v7 main_v9
  let main_c_3 : IVec S_ 1 := constantI S_ 1 1#1
  let main_v11 : IVec S_ 1 := (fun x v => Host.reduce IntOp.andi x v reducesTo_S2x1024_S_d0_1 h_S_) main_v10 main_c_3
  let main_v12 : IVec S_ 1 := andi main_v5 main_v11
  let main_cst_4 : FVec F S_ .f32 := constant S_ .f32 0x7F800000#32
  let main_v13 : FVec F S2x1024x4096 .f32 := broadcastInDim S2x1024x4096 ![] bcast_S_S2x1024x4096 main_cst_4
  let main_v14 : IVec S2x1024x4096 1 := cmpf .olt main_arg5 main_v13
  let main_cst_5 : FVec F S_ .f32 := constant S_ .f32 0xFF800000#32
  let main_v15 : FVec F S2x1024x4096 .f32 := broadcastInDim S2x1024x4096 ![] bcast_S_S2x1024x4096 main_cst_5
  fn_part1 (F := F) main_arg5 main_arg6 main_v12 main_v14 main_v15
-- ==== Pre_finite_weights_mid.lean ====
abbrev S16x4096x1024 : Shape := ⟨3, ![16, 4096, 1024]⟩
abbrev S16x4x4096x512 : Shape := ⟨4, ![16, 4, 4096, 512]⟩
abbrev S2x32x6x1024 : Shape := ⟨4, ![2, 32, 6, 1024]⟩
abbrev S1x2048x1024 : Shape := ⟨3, ![1, 2048, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S_ : Shape := ⟨0, ![]⟩

class Facts : Prop where
  bcast_S_S2x32x6x1024 : S_.BroadcastsInDim S2x32x6x1024 (![] : Fin 0 → Fin S2x32x6x1024.rank)
  reducesTo_S2x32x6x1024_S_d0_1_2_3 : S2x32x6x1024.ReducesTo [0, 1, 2, 3] S_
  h_S_ : 0 < S_.numel
  bcast_S_S2x1024 : S_.BroadcastsInDim S2x1024 (![] : Fin 0 → Fin S2x1024.rank)
  reducesTo_S2x1024_S_d0_1 : S2x1024.ReducesTo [0, 1] S_
  bcast_S_S2x1024x4096 : S_.BroadcastsInDim S2x1024x4096 (![] : Fin 0 → Fin S2x1024x4096.rank)
  reducesTo_S2x1024x4096_S_d0_1_2 : S2x1024x4096.ReducesTo [0, 1, 2] S_
  bcast_S_S2x4096x1024 : S_.BroadcastsInDim S2x4096x1024 (![] : Fin 0 → Fin S2x4096x1024.rank)
  reducesTo_S2x4096x1024_S_d0_1_2 : S2x4096x1024.ReducesTo [0, 1, 2] S_

variable [Facts]

def fn_part1 {F : FTy → Type} [FloatOps F] (main_arg6 : FVec F S2x1024x4096 .f32) (main_arg7 : FVec F S2x4096x1024 .f32) (main_v12 : IVec S_ 1) (main_v14 : IVec S2x1024x4096 1) (main_v15 : FVec F S2x1024x4096 .f32) : IVec S_ 1 :=
  let main_v16 : IVec S2x1024x4096 1 := cmpf .ogt main_arg6 main_v15
  let main_v17 : IVec S2x1024x4096 1 := andi main_v14 main_v16
  let main_c_6 : IVec S_ 1 := constantI S_ 1 1#1
  let main_v18 : IVec S_ 1 := (fun x v => Host.reduce IntOp.andi x v reducesTo_S2x1024x4096_S_d0_1_2 h_S_) main_v17 main_c_6
  let main_v19 : IVec S_ 1 := andi main_v12 main_v18
  let main_cst_7 : FVec F S_ .f32 := constant S_ .f32 0x7F800000#32
  let main_v20 : FVec F S2x4096x1024 .f32 := broadcastInDim S2x4096x1024 ![] bcast_S_S2x4096x1024 main_cst_7
  let main_v21 : IVec S2x4096x1024 1 := cmpf .olt main_arg7 main_v20
  let main_cst_8 : FVec F S_ .f32 := constant S_ .f32 0xFF800000#32
  let main_v22 : FVec F S2x4096x1024 .f32 := broadcastInDim S2x4096x1024 ![] bcast_S_S2x4096x1024 main_cst_8
  let main_v23 : IVec S2x4096x1024 1 := cmpf .ogt main_arg7 main_v22
  let main_v24 : IVec S2x4096x1024 1 := andi main_v21 main_v23
  let main_c_9 : IVec S_ 1 := constantI S_ 1 1#1
  let main_v25 : IVec S_ 1 := (fun x v => Host.reduce IntOp.andi x v reducesTo_S2x4096x1024_S_d0_1_2 h_S_) main_v24 main_c_9
  let main_v26 : IVec S_ 1 := andi main_v19 main_v25
  main_v26

def fn {F : FTy → Type} [FloatOps F] (main_arg0 : FVec F S16x4096x1024 .f32) (main_arg1 : FVec F S16x4x4096x512 .f32) (main_arg2 : FVec F S16x4x4096x512 .f32) (main_arg3 : FVec F S2x32x6x1024 .f32) (main_arg4 : FVec F S1x2048x1024 .f32) (main_arg5 : FVec F S2x1024 .f32) (main_arg6 : FVec F S2x1024x4096 .f32) (main_arg7 : FVec F S2x4096x1024 .f32) (main_arg8 : FVec F S1024 .f32) : IVec S_ 1 :=
  let main_cst : FVec F S_ .f32 := constant S_ .f32 0x7F800000#32
  let main_v0 : FVec F S2x32x6x1024 .f32 := broadcastInDim S2x32x6x1024 ![] bcast_S_S2x32x6x1024 main_cst
  let main_v1 : IVec S2x32x6x1024 1 := cmpf .olt main_arg3 main_v0
  let main_cst_0 : FVec F S_ .f32 := constant S_ .f32 0xFF800000#32
  let main_v2 : FVec F S2x32x6x1024 .f32 := broadcastInDim S2x32x6x1024 ![] bcast_S_S2x32x6x1024 main_cst_0
  let main_v3 : IVec S2x32x6x1024 1 := cmpf .ogt main_arg3 main_v2
  let main_v4 : IVec S2x32x6x1024 1 := andi main_v1 main_v3
  let main_c : IVec S_ 1 := constantI S_ 1 1#1
  let main_v5 : IVec S_ 1 := (fun x v => Host.reduce IntOp.andi x v reducesTo_S2x32x6x1024_S_d0_1_2_3 h_S_) main_v4 main_c
  let main_cst_1 : FVec F S_ .f32 := constant S_ .f32 0x7F800000#32
  let main_v6 : FVec F S2x1024 .f32 := broadcastInDim S2x1024 ![] bcast_S_S2x1024 main_cst_1
  let main_v7 : IVec S2x1024 1 := cmpf .olt main_arg5 main_v6
  let main_cst_2 : FVec F S_ .f32 := constant S_ .f32 0xFF800000#32
  let main_v8 : FVec F S2x1024 .f32 := broadcastInDim S2x1024 ![] bcast_S_S2x1024 main_cst_2
  let main_v9 : IVec S2x1024 1 := cmpf .ogt main_arg5 main_v8
  let main_v10 : IVec S2x1024 1 := andi main_v7 main_v9
  let main_c_3 : IVec S_ 1 := constantI S_ 1 1#1
  let main_v11 : IVec S_ 1 := (fun x v => Host.reduce IntOp.andi x v reducesTo_S2x1024_S_d0_1 h_S_) main_v10 main_c_3
  let main_v12 : IVec S_ 1 := andi main_v5 main_v11
  let main_cst_4 : FVec F S_ .f32 := constant S_ .f32 0x7F800000#32
  let main_v13 : FVec F S2x1024x4096 .f32 := broadcastInDim S2x1024x4096 ![] bcast_S_S2x1024x4096 main_cst_4
  let main_v14 : IVec S2x1024x4096 1 := cmpf .olt main_arg6 main_v13
  let main_cst_5 : FVec F S_ .f32 := constant S_ .f32 0xFF800000#32
  let main_v15 : FVec F S2x1024x4096 .f32 := broadcastInDim S2x1024x4096 ![] bcast_S_S2x1024x4096 main_cst_5
  fn_part1 (F := F) main_arg6 main_arg7 main_v12 main_v14 main_v15
-- ==== Kernel.lean ====
abbrev S16x4096x8x128 : Shape := ⟨4, ![16, 4096, 8, 128]⟩
abbrev S16x4096x2x128 : Shape := ⟨4, ![16, 4096, 2, 128]⟩
abbrev S_ : Shape := ⟨0, ![]⟩
abbrev S16x16x256x2x4x2x2x32 : Shape := ⟨8, ![16, 16, 256, 2, 4, 2, 2, 32]⟩
abbrev S16x4x16x2x2x2x32x256 : Shape := ⟨8, ![16, 4, 16, 2, 2, 2, 32, 256]⟩
abbrev S16x4x16x256x256 : Shape := ⟨5, ![16, 4, 16, 256, 256]⟩
abbrev S16x4096x2x2x2x32 : Shape := ⟨6, ![16, 4096, 2, 2, 2, 32]⟩
abbrev S16x4096x256 : Shape := ⟨3, ![16, 4096, 256]⟩
abbrev S16x2x128x4096 : Shape := ⟨4, ![16, 2, 128, 4096]⟩
abbrev S16x2x16x4096 : Shape := ⟨4, ![16, 2, 16, 4096]⟩
abbrev S16x2x144x4096 : Shape := ⟨4, ![16, 2, 144, 4096]⟩
abbrev S16x2x4096x512 : Shape := ⟨4, ![16, 2, 4096, 512]⟩
abbrev S1x4x16x256x256 : Shape := ⟨5, ![1, 4, 16, 256, 256]⟩
abbrev S1x4096x256 : Shape := ⟨3, ![1, 4096, 256]⟩
abbrev S1x1x144x4096 : Shape := ⟨4, ![1, 1, 144, 4096]⟩
abbrev S1x1x4096x512 : Shape := ⟨4, ![1, 1, 4096, 512]⟩
abbrev S4x4096x256 : Shape := ⟨3, ![4, 4096, 256]⟩
abbrev S2x4096x256 : Shape := ⟨3, ![2, 4096, 256]⟩
abbrev S256x1 : Shape := ⟨2, ![256, 1]⟩
abbrev S1x1x1x256x256 : Shape := ⟨5, ![1, 1, 1, 256, 256]⟩
abbrev S256x256 : Shape := ⟨2, ![256, 256]⟩
abbrev S4096x256 : Shape := ⟨2, ![4096, 256]⟩
abbrev S256 : Shape := ⟨1, ![256]⟩
abbrev S1x256 : Shape := ⟨2, ![1, 256]⟩
abbrev S144x4096 : Shape := ⟨2, ![144, 4096]⟩
abbrev S144x256 : Shape := ⟨2, ![144, 256]⟩
abbrev S128x256 : Shape := ⟨2, ![128, 256]⟩
abbrev S256x128 : Shape := ⟨2, ![256, 128]⟩
abbrev S1x1x256x128 : Shape := ⟨4, ![1, 1, 256, 128]⟩

abbrev nBuf : Space → Nat
  | .hbm => 21
  | .vmem => 10
  | .smem => 0
  | _ => 0

abbrev bufTy : (tb : Table) → Fin (tcTables nBuf tb) → BufTy
  | .hbm, ⟨0, _⟩ => ⟨S16x4096x8x128, .f32⟩
  | .hbm, ⟨1, _⟩ => ⟨S16x4096x2x128, .f32⟩
  | .hbm, ⟨2, _⟩ => ⟨S16x4096x2x128, .f32⟩
  | .hbm, ⟨3, _⟩ => ⟨S_, .f32⟩
  | .hbm, ⟨4, _⟩ => ⟨S_, .f32⟩
  | .hbm, ⟨5, _⟩ => ⟨S16x4096x8x128, .f32⟩
  | .hbm, ⟨6, _⟩ => ⟨S16x4096x8x128, .f32⟩
  | .hbm, ⟨7, _⟩ => ⟨S16x16x256x2x4x2x2x32, .f32⟩
  | .hbm, ⟨8, _⟩ => ⟨S16x4x16x2x2x2x32x256, .f32⟩
  | .hbm, ⟨9, _⟩ => ⟨S16x4x16x256x256, .f32⟩
  | .hbm, ⟨10, _⟩ => ⟨S16x4096x2x2x2x32, .f32⟩
  | .hbm, ⟨11, _⟩ => ⟨S16x4096x2x2x2x32, .f32⟩
  | .hbm, ⟨12, _⟩ => ⟨S16x4096x256, .f32⟩
  | .hbm, ⟨13, _⟩ => ⟨S16x2x128x4096, .f32⟩
  | .hbm, ⟨14, _⟩ => ⟨S_, .f32⟩
  | .hbm, ⟨15, _⟩ => ⟨S16x2x16x4096, .f32⟩
  | .hbm, ⟨16, _⟩ => ⟨S16x2x144x4096, .f32⟩
  | .hbm, ⟨17, _⟩ => ⟨S16x4x16x256x256, .bf16⟩
  | .hbm, ⟨18, _⟩ => ⟨S16x4096x256, .bf16⟩
  | .hbm, ⟨19, _⟩ => ⟨S16x2x144x4096, .bf16⟩
  | .hbm, ⟨20, _⟩ => ⟨S16x2x4096x512, .bf16⟩
  | .local _ .vmem, ⟨0, _⟩ => ⟨S1x4x16x256x256, .bf16⟩
  | .local _ .vmem, ⟨1, _⟩ => ⟨S1x4x16x256x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x1x144x4096, .bf16⟩
  | .local _ .vmem, ⟨5, _⟩ => ⟨S1x1x144x4096, .bf16⟩
  | .local _ .vmem, ⟨6, _⟩ => ⟨S1x1x4096x512, .bf16⟩
  | .local _ .vmem, ⟨7, _⟩ => ⟨S1x1x4096x512, .bf16⟩
  | .local _ .vmem, ⟨8, _⟩ => ⟨S4x4096x256, .f32⟩
  | .local _ .vmem, ⟨9, _⟩ => ⟨S2x4096x256, .bf16⟩
  | _, _ => ⟨S16x4096x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

@[reducible] def k0_t1_loop : Scf.Loop 32 :=
  let c0_i32_32 : BitVec 32 := 0#32
  let c16_i32 : BitVec 32 := 16#32
  let v67 : BitVec 32 := Scalar.addi c0_i32_32 c16_i32
  let c1_i32_33 : BitVec 32 := 1#32
  ⟨c0_i32_32, v67, c1_i32_33⟩
def k0_off1 (k0_t1 : Fin k0_t1_loop.trips) : Fin 5 → Nat :=
  let c0_45 : Index := 0#32
  let c2 : Index := 2#32
  let c0_i32_32 : BitVec 32 := 0#32
  let c1_i32_33 : BitVec 32 := 1#32
  let arg8 : BitVec 32 := Scf.iv c0_i32_32 c1_i32_33 k0_t1
  let v81 : Index := Scalar.indexCast arg8
  let c0_46 : Index := 0#32
  let c0_47 : Index := 0#32
  ![0, 2, v81.toNat, 0, 0]
def k0_mult1 (k0_t1 : Fin k0_t1_loop.trips) : BitVec 32 :=
  let c0_i32_32 : BitVec 32 := 0#32
  let c1_i32_33 : BitVec 32 := 1#32
  let arg8 : BitVec 32 := Scf.iv c0_i32_32 c1_i32_33 k0_t1
  let c256_i32 : BitVec 32 := 256#32
  let v105 : BitVec 32 := Scalar.muli arg8 c256_i32
  v105
def k0_off2 (k0_t1 : Fin k0_t1_loop.trips) : Fin 4 → Nat :=
  let c0_64 : Index := 0#32
  let c0_65 : Index := 0#32
  let c0_i32_32 : BitVec 32 := 0#32
  let c1_i32_33 : BitVec 32 := 1#32
  let arg8 : BitVec 32 := Scf.iv c0_i32_32 c1_i32_33 k0_t1
  let c256_i32 : BitVec 32 := 256#32
  let v105 : BitVec 32 := Scalar.muli arg8 c256_i32
  let v106 : BitVec 32 := v105
  let v107 : Index := Scalar.indexCast v106
  let c0_66 : Index := 0#32
  ![0, 0, v107.toNat, 0]
def k0_off3 (k0_t1 : Fin k0_t1_loop.trips) : Fin 5 → Nat :=
  let c0_77 : Index := 0#32
  let c3 : Index := 3#32
  let c0_i32_32 : BitVec 32 := 0#32
  let c1_i32_33 : BitVec 32 := 1#32
  let arg8 : BitVec 32 := Scf.iv c0_i32_32 c1_i32_33 k0_t1
  let v124 : Index := Scalar.indexCast arg8
  let c0_78 : Index := 0#32
  let c0_79 : Index := 0#32
  ![0, 3, v124.toNat, 0, 0]
def k0_mult2 (k0_t1 : Fin k0_t1_loop.trips) : BitVec 32 :=
  let c0_i32_32 : BitVec 32 := 0#32
  let c1_i32_33 : BitVec 32 := 1#32
  let arg8 : BitVec 32 := Scf.iv c0_i32_32 c1_i32_33 k0_t1
  let c256_i32_96 : BitVec 32 := 256#32
  let v148 : BitVec 32 := Scalar.muli arg8 c256_i32_96
  v148
def k0_off4 (k0_t1 : Fin k0_t1_loop.trips) : Fin 4 → Nat :=
  let c0_97 : Index := 0#32
  let c0_98 : Index := 0#32
  let c0_i32_32 : BitVec 32 := 0#32
  let c1_i32_33 : BitVec 32 := 1#32
  let arg8 : BitVec 32 := Scf.iv c0_i32_32 c1_i32_33 k0_t1
  let c256_i32_96 : BitVec 32 := 256#32
  let v148 : BitVec 32 := Scalar.muli arg8 c256_i32_96
  let v149 : BitVec 32 := v148
  let v150 : Index := Scalar.indexCast v149
  let c128 : Index := 128#32
  ![0, 0, v150.toNat, 128]
def k0_off5 (k0_t1 : Fin k0_t1_loop.trips) : Fin 5 → Nat :=
  let c0_110 : Index := 0#32
  let c0_111 : Index := 0#32
  let c0_i32_32 : BitVec 32 := 0#32
  let c1_i32_33 : BitVec 32 := 1#32
  let arg8 : BitVec 32 := Scf.iv c0_i32_32 c1_i32_33 k0_t1
  let c1_i32_109 : BitVec 32 := 1#32
  let v167 : BitVec 32 := Scalar.addi arg8 c1_i32_109
  let c15_i32 : BitVec 32 := 15#32
  let v168 : BitVec 32 := Scalar.minsi v167 c15_i32
  let v169 : Index := Scalar.indexCast v168
  let c0_112 : Index := 0#32
  let c0_113 : Index := 0#32
  ![0, 0, v169.toNat, 0, 0]
def k0_mult3 (k0_t1 : Fin k0_t1_loop.trips) : BitVec 32 :=
  let c0_i32_32 : BitVec 32 := 0#32
  let c1_i32_33 : BitVec 32 := 1#32
  let arg8 : BitVec 32 := Scf.iv c0_i32_32 c1_i32_33 k0_t1
  let c256_i32_130 : BitVec 32 := 256#32
  let v193 : BitVec 32 := Scalar.muli arg8 c256_i32_130
  v193
def k0_off6 (k0_t1 : Fin k0_t1_loop.trips) : Fin 4 → Nat :=
  let c0_131 : Index := 0#32
  let c0_132 : Index := 0#32
  let c0_i32_32 : BitVec 32 := 0#32
  let c1_i32_33 : BitVec 32 := 1#32
  let arg8 : BitVec 32 := Scf.iv c0_i32_32 c1_i32_33 k0_t1
  let c256_i32_130 : BitVec 32 := 256#32
  let v193 : BitVec 32 := Scalar.muli arg8 c256_i32_130
  let v194 : BitVec 32 := v193
  let v195 : Index := Scalar.indexCast v194
  let c256 : Index := 256#32
  ![0, 0, v195.toNat, 256]
def k0_off7 (k0_t1 : Fin k0_t1_loop.trips) : Fin 5 → Nat :=
  let c0_145 : Index := 0#32
  let c1_146 : Index := 1#32
  let c0_i32_32 : BitVec 32 := 0#32
  let c1_i32_33 : BitVec 32 := 1#32
  let arg8 : BitVec 32 := Scf.iv c0_i32_32 c1_i32_33 k0_t1
  let c1_i32_143 : BitVec 32 := 1#32
  let v212 : BitVec 32 := Scalar.addi arg8 c1_i32_143
  let c15_i32_144 : BitVec 32 := 15#32
  let v213 : BitVec 32 := Scalar.minsi v212 c15_i32_144
  let v214 : Index := Scalar.indexCast v213
  let c0_147 : Index := 0#32
  let c0_148 : Index := 0#32
  ![0, 1, v214.toNat, 0, 0]
def k0_mult4 (k0_t1 : Fin k0_t1_loop.trips) : BitVec 32 :=
  let c0_i32_32 : BitVec 32 := 0#32
  let c1_i32_33 : BitVec 32 := 1#32
  let arg8 : BitVec 32 := Scf.iv c0_i32_32 c1_i32_33 k0_t1
  let c256_i32_165 : BitVec 32 := 256#32
  let v238 : BitVec 32 := Scalar.muli arg8 c256_i32_165
  v238
def k0_off8 (k0_t1 : Fin k0_t1_loop.trips) : Fin 4 → Nat :=
  let c0_166 : Index := 0#32
  let c0_167 : Index := 0#32
  let c0_i32_32 : BitVec 32 := 0#32
  let c1_i32_33 : BitVec 32 := 1#32
  let arg8 : BitVec 32 := Scf.iv c0_i32_32 c1_i32_33 k0_t1
  let c256_i32_165 : BitVec 32 := 256#32
  let v238 : BitVec 32 := Scalar.muli arg8 c256_i32_165
  let v239 : BitVec 32 := v238
  let v240 : Index := Scalar.indexCast v239
  let c384 : Index := 384#32
  ![0, 0, v240.toNat, 384]
def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x4x16x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x144x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S16x4096x8x128 : Shape := ⟨4, ![16, 4096, 8, 128]⟩
abbrev S16x4096x2x128 : Shape := ⟨4, ![16, 4096, 2, 128]⟩
abbrev S16x4096x2x4x128 : Shape := ⟨5, ![16, 4096, 2, 4, 128]⟩
abbrev S16x2x4096x4096x4 : Shape := ⟨5, ![16, 2, 4096, 4096, 4]⟩
abbrev S16x2x4x4096x4096 : Shape := ⟨5, ![16, 2, 4, 4096, 4096]⟩
abbrev S_ : Shape := ⟨0, ![]⟩
abbrev S16x2x4x4096 : Shape := ⟨4, ![16, 2, 4, 4096]⟩
abbrev S16x2x4x4096x1 : Shape := ⟨5, ![16, 2, 4, 4096, 1]⟩
abbrev S16x2x128x4x4096 : Shape := ⟨5, ![16, 2, 128, 4, 4096]⟩
abbrev S16x4096x2x512 : Shape := ⟨4, ![16, 4096, 2, 512]⟩
abbrev S16x2x4096x512 : Shape := ⟨4, ![16, 2, 4096, 512]⟩

abbrev nBuf : Space → Nat
  | .hbm => 25
  | .vmem => 0
  | .smem => 0
  | _ => 0

abbrev bufTy : (tb : Table) → Fin (tcTables nBuf tb) → BufTy
  | .hbm, ⟨0, _⟩ => ⟨S16x4096x8x128, .f32⟩
  | .hbm, ⟨1, _⟩ => ⟨S16x4096x2x128, .f32⟩
  | .hbm, ⟨2, _⟩ => ⟨S16x4096x2x128, .f32⟩
  | .hbm, ⟨3, _⟩ => ⟨S16x4096x2x4x128, .f32⟩
  | .hbm, ⟨4, _⟩ => ⟨S16x2x4096x4096x4, .f32⟩
  | .hbm, ⟨5, _⟩ => ⟨S16x2x4x4096x4096, .f32⟩
  | .hbm, ⟨6, _⟩ => ⟨S_, .f32⟩
  | .hbm, ⟨7, _⟩ => ⟨S16x2x4x4096, .f32⟩
  | .hbm, ⟨8, _⟩ => ⟨S_, .f32⟩
  | .hbm, ⟨9, _⟩ => ⟨S16x2x4x4096, .f32⟩
  | .hbm, ⟨10, _⟩ => ⟨S16x2x4x4096, .f32⟩
  | .hbm, ⟨11, _⟩ => ⟨S16x2x4x4096x1, .f32⟩
  | .hbm, ⟨12, _⟩ => ⟨S16x2x4x4096x4096, .f32⟩
  | .hbm, ⟨13, _⟩ => ⟨S16x2x4x4096x4096, .f32⟩
  | .hbm, ⟨14, _⟩ => ⟨S16x2x4x4096x4096, .f32⟩
  | .hbm, ⟨15, _⟩ => ⟨S_, .f32⟩
  | .hbm, ⟨16, _⟩ => ⟨S16x2x4x4096, .f32⟩
  | .hbm, ⟨17, _⟩ => ⟨S16x2x4x4096x1, .f32⟩
  | .hbm, ⟨18, _⟩ => ⟨S16x2x4x4096x4096, .f32⟩
  | .hbm, ⟨19, _⟩ => ⟨S16x2x4x4096x4096, .f32⟩
  | .hbm, ⟨20, _⟩ => ⟨S16x2x128x4x4096, .f32⟩
  | .hbm, ⟨21, _⟩ => ⟨S16x4096x2x4x128, .f32⟩
  | .hbm, ⟨22, _⟩ => ⟨S16x4096x2x512, .f32⟩
  | .hbm, ⟨23, _⟩ => ⟨S16x2x4096x512, .f32⟩
  | .hbm, ⟨24, _⟩ => ⟨S16x2x4096x512, .bf16⟩
  | _, _ => ⟨S16x4096x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Last.lean ====
abbrev S16x4096x1024 : Shape := ⟨3, ![16, 4096, 1024]⟩
abbrev S16x2x4096x512 : Shape := ⟨4, ![16, 2, 4096, 512]⟩
abbrev S2x32x6x1024 : Shape := ⟨4, ![2, 32, 6, 1024]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S1024x1024 : Shape := ⟨2, ![1024, 1024]⟩
abbrev S2x1x1024 : Shape := ⟨3, ![2, 1, 1024]⟩
abbrev S1x1x1024 : Shape := ⟨3, ![1, 1, 1024]⟩
abbrev S1x1024 : Shape := ⟨2, ![1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S_ : Shape := ⟨0, ![]⟩
abbrev S1x1x8x128 : Shape := ⟨4, ![1, 1, 8, 128]⟩
abbrev S1x2x1024x512 : Shape := ⟨4, ![1, 2, 1024, 512]⟩
abbrev S1x1x6x1024 : Shape := ⟨4, ![1, 1, 6, 1024]⟩
abbrev S2x512x1024 : Shape := ⟨3, ![2, 512, 1024]⟩
abbrev S6x1024 : Shape := ⟨2, ![6, 1024]⟩
abbrev S1x1x512x512 : Shape := ⟨4, ![1, 1, 512, 512]⟩
abbrev S512x512 : Shape := ⟨2, ![512, 512]⟩
abbrev S512x1024 : Shape := ⟨2, ![512, 1024]⟩
abbrev S1x512x1024 : Shape := ⟨3, ![1, 512, 1024]⟩
abbrev S512 : Shape := ⟨1, ![512]⟩
abbrev S512x1 : Shape := ⟨2, ![512, 1]⟩

abbrev nBuf : Space → Nat
  | .hbm => 24
  | .vmem => 15
  | .smem => 0
  | _ => 0

abbrev bufTy : (tb : Table) → Fin (tcTables nBuf tb) → BufTy
  | .hbm, ⟨0, _⟩ => ⟨S16x4096x1024, .f32⟩
  | .hbm, ⟨1, _⟩ => ⟨S16x2x4096x512, .f32⟩
  | .hbm, ⟨2, _⟩ => ⟨S2x32x6x1024, .f32⟩
  | .hbm, ⟨3, _⟩ => ⟨S1x1024x1024, .f32⟩
  | .hbm, ⟨4, _⟩ => ⟨S2x1024, .f32⟩
  | .hbm, ⟨5, _⟩ => ⟨S2x1024x4096, .f32⟩
  | .hbm, ⟨6, _⟩ => ⟨S2x4096x1024, .f32⟩
  | .hbm, ⟨7, _⟩ => ⟨S1024, .f32⟩
  | .hbm, ⟨8, _⟩ => ⟨S16x2x4096x512, .bf16⟩
  | .hbm, ⟨9, _⟩ => ⟨S1024x1024, .f32⟩
  | .hbm, ⟨10, _⟩ => ⟨S1024x1024, .bf16⟩
  | .hbm, ⟨11, _⟩ => ⟨S2x1x1024, .f32⟩
  | .hbm, ⟨12, _⟩ => ⟨S1x1x1024, .f32⟩
  | .hbm, ⟨13, _⟩ => ⟨S1x1024, .f32⟩
  | .hbm, ⟨14, _⟩ => ⟨S2x1024x4096, .bf16⟩
  | .hbm, ⟨15, _⟩ => ⟨S1x1024x4096, .bf16⟩
  | .hbm, ⟨16, _⟩ => ⟨S1024x4096, .bf16⟩
  | .hbm, ⟨17, _⟩ => ⟨S2x4096x1024, .bf16⟩
  | .hbm, ⟨18, _⟩ => ⟨S1x4096x1024, .bf16⟩
  | .hbm, ⟨19, _⟩ => ⟨S4096x1024, .bf16⟩
  | .hbm, ⟨20, _⟩ => ⟨S1x1024, .f32⟩
  | .hbm, ⟨21, _⟩ => ⟨S_, .bf16⟩
  | .hbm, ⟨22, _⟩ => ⟨S1x1x8x128, .bf16⟩
  | .hbm, ⟨23, _⟩ => ⟨S16x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x2x1024x512, .bf16⟩
  | .local _ .vmem, ⟨3, _⟩ => ⟨S1x2x1024x512, .bf16⟩
  | .local _ .vmem, ⟨4, _⟩ => ⟨S1x1x8x128, .bf16⟩
  | .local _ .vmem, ⟨5, _⟩ => ⟨S1x1x6x1024, .f32⟩
  | .local _ .vmem, ⟨6, _⟩ => ⟨S1x1x6x1024, .f32⟩
  | .local _ .vmem, ⟨7, _⟩ => ⟨S1024x1024, .bf16⟩
  | .local _ .vmem, ⟨8, _⟩ => ⟨S1x1024, .f32⟩
  | .local _ .vmem, ⟨9, _⟩ => ⟨S1024x4096, .bf16⟩
  | .local _ .vmem, ⟨10, _⟩ => ⟨S4096x1024, .bf16⟩
  | .local _ .vmem, ⟨11, _⟩ => ⟨S1x1024, .f32⟩
  | .local _ .vmem, ⟨12, _⟩ => ⟨S1x1024x1024, .f32⟩
  | .local _ .vmem, ⟨13, _⟩ => ⟨S1x1024x1024, .f32⟩
  | .local _ .vmem, ⟨14, _⟩ => ⟨S2x512x1024, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let c0_i32_0 : BitVec 32 := 0#32
  let c0_i32_1 : BitVec 32 := 0#32
  let c0_i32_2 : BitVec 32 := 0#32
  ![c1_i32.toNat, v0.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1x8x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== LastRefIdeal.lean ====
abbrev S16x4096x1024 : Shape := ⟨3, ![16, 4096, 1024]⟩
abbrev S16x2x4096x512 : Shape := ⟨4, ![16, 2, 4096, 512]⟩
abbrev S2x32x6x1024 : Shape := ⟨4, ![2, 32, 6, 1024]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S1x16x1x1024 : Shape := ⟨4, ![1, 16, 1, 1024]⟩
abbrev S16x1024 : Shape := ⟨2, ![16, 1024]⟩
abbrev S16x1x1024 : Shape := ⟨3, ![16, 1, 1024]⟩
abbrev S16x4096x2x512 : Shape := ⟨4, ![16, 4096, 2, 512]⟩
abbrev S1024x1024 : Shape := ⟨2, ![1024, 1024]⟩
abbrev S1x1024 : Shape := ⟨2, ![1, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S16x4096x4096 : Shape := ⟨3, ![16, 4096, 4096]⟩
abbrev S1x4096x1024 : Shape := ⟨3, ![1, 4096, 1024]⟩
abbrev S4096x1024 : Shape := ⟨2, ![4096, 1024]⟩

abbrev nBuf : Space → Nat
  | .hbm => 87
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x2x4096x512, .f32⟩
  | .hbm, ⟨2, _⟩ => ⟨S2x32x6x1024, .f32⟩
  | .hbm, ⟨3, _⟩ => ⟨S1x1024x1024, .f32⟩
  | .hbm, ⟨4, _⟩ => ⟨S2x1024, .f32⟩
  | .hbm, ⟨5, _⟩ => ⟨S2x1024x4096, .f32⟩
  | .hbm, ⟨6, _⟩ => ⟨S2x4096x1024, .f32⟩
  | .hbm, ⟨7, _⟩ => ⟨S1024, .f32⟩
  | .hbm, ⟨8, _⟩ => ⟨S1x16x1x1024, .f32⟩
  | .hbm, ⟨9, _⟩ => ⟨S16x1024, .f32⟩
  | .hbm, ⟨10, _⟩ => ⟨S16x1x1024, .f32⟩
  | .hbm, ⟨11, _⟩ => ⟨S1x16x1x1024, .f32⟩
  | .hbm, ⟨12, _⟩ => ⟨S16x1024, .f32⟩
  | .hbm, ⟨13, _⟩ => ⟨S16x1x1024, .f32⟩
  | .hbm, ⟨14, _⟩ => ⟨S1x16x1x1024, .f32⟩
  | .hbm, ⟨15, _⟩ => ⟨S16x1024, .f32⟩
  | .hbm, ⟨16, _⟩ => ⟨S16x1x1024, .f32⟩
  | .hbm, ⟨17, _⟩ => ⟨S1x16x1x1024, .f32⟩
  | .hbm, ⟨18, _⟩ => ⟨S16x1024, .f32⟩
  | .hbm, ⟨19, _⟩ => ⟨S16x1x1024, .f32⟩
  | .hbm, ⟨20, _⟩ => ⟨S1x16x1x1024, .f32⟩
  | .hbm, ⟨21, _⟩ => ⟨S16x1024, .f32⟩
  | .hbm, ⟨22, _⟩ => ⟨S16x1x1024, .f32⟩
  | .hbm, ⟨23, _⟩ => ⟨S1x16x1x1024, .f32⟩
  | .hbm, ⟨24, _⟩ => ⟨S16x1024, .f32⟩
  | .hbm, ⟨25, _⟩ => ⟨S16x1x1024, .f32⟩
  | .hbm, ⟨26, _⟩ => ⟨S16x4096x2x512, .f32⟩
  | .hbm, ⟨27, _⟩ => ⟨S16x4096x1024, .f32⟩
  | .hbm, ⟨28, _⟩ => ⟨S1024x1024, .f32⟩
  | .hbm, ⟨29, _⟩ => ⟨S16x4096x1024, .f32⟩
  | .hbm, ⟨30, _⟩ => ⟨S16x4096x1024, .f32⟩
  | .hbm, ⟨31, _⟩ => ⟨S16x4096x1024, .f32⟩
  | .hbm, ⟨32, _⟩ => ⟨S16x4096x1024, .f32⟩
  | .hbm, ⟨33, _⟩ => ⟨S1x1024, .f32⟩
  | .hbm, ⟨34, _⟩ => ⟨S1024, .f32⟩
  | .hbm, ⟨35, _⟩ => ⟨S16x4096x1024, .f32⟩
  | .hbm, ⟨36, _⟩ => ⟨S_, .f32⟩
  | .hbm, ⟨37, _⟩ => ⟨S16x4096, .f32⟩
  | .hbm, ⟨38, _⟩ => ⟨S16x4096x1, .f32⟩
  | .hbm, ⟨39, _⟩ => ⟨S_, .f32⟩
  | .hbm, ⟨40, _⟩ => ⟨S16x4096x1, .f32⟩
  | .hbm, ⟨41, _⟩ => ⟨S16x4096x1, .f32⟩
  | .hbm, ⟨42, _⟩ => ⟨S_, .f32⟩
  | .hbm, ⟨43, _⟩ => ⟨S16x4096x1, .f32⟩
  | .hbm, ⟨44, _⟩ => ⟨S16x4096x1, .f32⟩
  | .hbm, ⟨45, _⟩ => ⟨S16x4096x1, .f32⟩
  | .hbm, ⟨46, _⟩ => ⟨S16x4096x1024, .f32⟩
  | .hbm, ⟨47, _⟩ => ⟨S16x4096x1024, .f32⟩
  | .hbm, ⟨48, _⟩ => ⟨S1x1x1024, .f32⟩
  | .hbm, ⟨49, _⟩ => ⟨S16x4096x1024, .f32⟩
  | .hbm, ⟨50, _⟩ => ⟨S16x4096x1024, .f32⟩
  | .hbm, ⟨51, _⟩ => ⟨S_, .f32⟩
  | .hbm, ⟨52, _⟩ => ⟨S16x1x1024, .f32⟩
  | .hbm, ⟨53, _⟩ => ⟨S16x1x1024, .f32⟩
  | .hbm, ⟨54, _⟩ => ⟨S16x4096x1024, .f32⟩
  | .hbm, ⟨55, _⟩ => ⟨S16x4096x1024, .f32⟩
  | .hbm, ⟨56, _⟩ => ⟨S16x4096x1024, .f32⟩
  | .hbm, ⟨57, _⟩ => ⟨S16x4096x1024, .f32⟩
  | .hbm, ⟨58, _⟩ => ⟨S1x1024x4096, .f32⟩
  | .hbm, ⟨59, _⟩ => ⟨S1024x4096, .f32⟩
  | .hbm, ⟨60, _⟩ => ⟨S16x4096x4096, .f32⟩
  | .hbm, ⟨61, _⟩ => ⟨S_, .f32⟩
  | .hbm, ⟨62, _⟩ => ⟨S16x4096x4096, .f32⟩
  | .hbm, ⟨63, _⟩ => ⟨S16x4096x4096, .f32⟩
  | .hbm, ⟨64, _⟩ => ⟨S16x4096x4096, .f32⟩
  | .hbm, ⟨65, _⟩ => ⟨S1x4096x1024, .f32⟩
  | .hbm, ⟨66, _⟩ => ⟨S4096x1024, .f32⟩
  | .hbm, ⟨67, _⟩ => ⟨S16x4096x1024, .f32⟩
  | .hbm, ⟨68, _⟩ => ⟨S16x4096x1024, .f32⟩
  | .hbm, ⟨69, _⟩ => ⟨S16x4096x1024, .f32⟩
  | .hbm, ⟨70, _⟩ => ⟨S16x4096x1024, .f32⟩
  | .hbm, ⟨71, _⟩ => ⟨S16x4096x1024, .f32⟩
  | .hbm, ⟨72, _⟩ => ⟨S_, .f32⟩
  | .hbm, ⟨73, _⟩ => ⟨S16x4096, .f32⟩
  | .hbm, ⟨74, _⟩ => ⟨S16x4096x1, .f32⟩
  | .hbm, ⟨75, _⟩ => ⟨S_, .f32⟩
  | .hbm, ⟨76, _⟩ => ⟨S16x4096x1, .f32⟩
  | .hbm, ⟨77, _⟩ => ⟨S16x4096x1, .f32⟩
  | .hbm, ⟨78, _⟩ => ⟨S_, .f32⟩
  | .hbm, ⟨79, _⟩ => ⟨S16x4096x1, .f32⟩
  | .hbm, ⟨80, _⟩ => ⟨S16x4096x1, .f32⟩
  | .hbm, ⟨81, _⟩ => ⟨S16x4096x1, .f32⟩
  | .hbm, ⟨82, _⟩ => ⟨S16x4096x1024, .f32⟩
  | .hbm, ⟨83, _⟩ => ⟨S16x4096x1024, .f32⟩
  | .hbm, ⟨84, _⟩ => ⟨S1x1x1024, .f32⟩
  | .hbm, ⟨85, _⟩ => ⟨S16x4096x1024, .f32⟩
  | .hbm, ⟨86, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst : Ref sig .tc := ⟨.hbm, 36, rfl⟩
abbrev main_v28 : Ref sig .tc := ⟨.hbm, 37, rfl⟩
abbrev main_v29 : Ref sig .tc := ⟨.hbm, 38, rfl⟩
abbrev main_cst_0 : Ref sig .tc := ⟨.hbm, 39, rfl⟩
abbrev main_v30 : Ref sig .tc := ⟨.hbm, 40, rfl⟩
abbrev main_v31 : Ref sig .tc := ⟨.hbm, 41, rfl⟩
abbrev main_cst_1 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_2 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_call0_cst : Ref sig .tc := ⟨.hbm, 61, rfl⟩
abbrev main_call0_v0 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_3 : Ref sig .tc := ⟨.hbm, 72, rfl⟩
abbrev main_v58 : Ref sig .tc := ⟨.hbm, 73, rfl⟩
abbrev main_v59 : Ref sig .tc := ⟨.hbm, 74, rfl⟩
abbrev main_cst_4 : Ref sig .tc := ⟨.hbm, 75, rfl⟩
abbrev main_v60 : Ref sig .tc := ⟨.hbm, 76, rfl⟩
abbrev main_v61 : Ref sig .tc := ⟨.hbm, 77, rfl⟩
abbrev main_cst_5 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩

abbrev nD : Nat := 1
abbrev τ : Topo := Topo.v7x

variable {F : FTy → Type} [FloatOps F]
-- ==== Mid.lean ====
abbrev S16x4096x1024 : Shape := ⟨3, ![16, 4096, 1024]⟩
abbrev S16x4x4096x512 : Shape := ⟨4, ![16, 4, 4096, 512]⟩
abbrev S2x32x6x1024 : Shape := ⟨4, ![2, 32, 6, 1024]⟩
abbrev S1x2048x1024 : Shape := ⟨3, ![1, 2048, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S2048x1024 : Shape := ⟨2, ![2048, 1024]⟩
abbrev S2x1x1024 : Shape := ⟨3, ![2, 1, 1024]⟩
abbrev S1x1x1024 : Shape := ⟨3, ![1, 1, 1024]⟩
abbrev S1x1024 : Shape := ⟨2, ![1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S1x1024x1024 : Shape := ⟨3, ![1, 1024, 1024]⟩
abbrev S1x4x1024x512 : Shape := ⟨4, ![1, 4, 1024, 512]⟩
abbrev S1x1x6x1024 : Shape := ⟨4, ![1, 1, 6, 1024]⟩
abbrev S2x512x1024 : Shape := ⟨3, ![2, 512, 1024]⟩
abbrev S6x1024 : Shape := ⟨2, ![6, 1024]⟩
abbrev S1x1x512x512 : Shape := ⟨4, ![1, 1, 512, 512]⟩
abbrev S512x512 : Shape := ⟨2, ![512, 512]⟩
abbrev S512x1024 : Shape := ⟨2, ![512, 1024]⟩
abbrev S1x512x1024 : Shape := ⟨3, ![1, 512, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 24
  | .vmem => 16
  | .smem => 0
  | _ => 0

abbrev bufTy : (tb : Table) → Fin (tcTables nBuf tb) → BufTy
  | .hbm, ⟨0, _⟩ => ⟨S16x4096x1024, .f32⟩
  | .hbm, ⟨1, _⟩ => ⟨S16x4x4096x512, .f32⟩
  | .hbm, ⟨2, _⟩ => ⟨S16x4x4096x512, .f32⟩
  | .hbm, ⟨3, _⟩ => ⟨S2x32x6x1024, .f32⟩
  | .hbm, ⟨4, _⟩ => ⟨S1x2048x1024, .f32⟩
  | .hbm, ⟨5, _⟩ => ⟨S2x1024, .f32⟩
  | .hbm, ⟨6, _⟩ => ⟨S2x1024x4096, .f32⟩
  | .hbm, ⟨7, _⟩ => ⟨S2x4096x1024, .f32⟩
  | .hbm, ⟨8, _⟩ => ⟨S1024, .f32⟩
  | .hbm, ⟨9, _⟩ => ⟨S16x4x4096x512, .bf16⟩
  | .hbm, ⟨10, _⟩ => ⟨S16x4x4096x512, .bf16⟩
  | .hbm, ⟨11, _⟩ => ⟨S2048x1024, .f32⟩
  | .hbm, ⟨12, _⟩ => ⟨S2048x1024, .bf16⟩
  | .hbm, ⟨13, _⟩ => ⟨S2x1x1024, .f32⟩
  | .hbm, ⟨14, _⟩ => ⟨S1x1x1024, .f32⟩
  | .hbm, ⟨15, _⟩ => ⟨S1x1024, .f32⟩
  | .hbm, ⟨16, _⟩ => ⟨S2x1024x4096, .bf16⟩
  | .hbm, ⟨17, _⟩ => ⟨S1x1024x4096, .bf16⟩
  | .hbm, ⟨18, _⟩ => ⟨S1024x4096, .bf16⟩
  | .hbm, ⟨19, _⟩ => ⟨S2x4096x1024, .bf16⟩
  | .hbm, ⟨20, _⟩ => ⟨S1x4096x1024, .bf16⟩
  | .hbm, ⟨21, _⟩ => ⟨S4096x1024, .bf16⟩
  | .hbm, ⟨22, _⟩ => ⟨S1x1024, .f32⟩
  | .hbm, ⟨23, _⟩ => ⟨S16x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x4x1024x512, .bf16⟩
  | .local _ .vmem, ⟨3, _⟩ => ⟨S1x4x1024x512, .bf16⟩
  | .local _ .vmem, ⟨4, _⟩ => ⟨S1x4x1024x512, .bf16⟩
  | .local _ .vmem, ⟨5, _⟩ => ⟨S1x4x1024x512, .bf16⟩
  | .local _ .vmem, ⟨6, _⟩ => ⟨S1x1x6x1024, .f32⟩
  | .local _ .vmem, ⟨7, _⟩ => ⟨S1x1x6x1024, .f32⟩
  | .local _ .vmem, ⟨8, _⟩ => ⟨S2048x1024, .bf16⟩
  | .local _ .vmem, ⟨9, _⟩ => ⟨S1x1024, .f32⟩
  | .local _ .vmem, ⟨10, _⟩ => ⟨S1024x4096, .bf16⟩
  | .local _ .vmem, ⟨11, _⟩ => ⟨S4096x1024, .bf16⟩
  | .local _ .vmem, ⟨12, _⟩ => ⟨S1x1024, .f32⟩
  | .local _ .vmem, ⟨13, _⟩ => ⟨S1x1024x1024, .f32⟩
  | .local _ .vmem, ⟨14, _⟩ => ⟨S1x1024x1024, .f32⟩
  | .local _ .vmem, ⟨15, _⟩ => ⟨S2x512x1024, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  let c0_i32_3 : BitVec 32 := 0#32
  ![c0_i32_0.toNat, v0.toNat, c0_i32_1.toNat, c0_i32_2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MidRefIdeal.lean ====
abbrev S16x4096x1024 : Shape := ⟨3, ![16, 4096, 1024]⟩
abbrev S16x4x4096x512 : Shape := ⟨4, ![16, 4, 4096, 512]⟩
abbrev S2x32x6x1024 : Shape := ⟨4, ![2, 32, 6, 1024]⟩
abbrev S1x2048x1024 : Shape := ⟨3, ![1, 2048, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S1x16x1x1024 : Shape := ⟨4, ![1, 16, 1, 1024]⟩
abbrev S16x1024 : Shape := ⟨2, ![16, 1024]⟩
abbrev S16x1x1024 : Shape := ⟨3, ![16, 1, 1024]⟩
abbrev S16x4096x4x512 : Shape := ⟨4, ![16, 4096, 4, 512]⟩
abbrev S16x4096x2048 : Shape := ⟨3, ![16, 4096, 2048]⟩
abbrev S2048x1024 : Shape := ⟨2, ![2048, 1024]⟩
abbrev S1x1024 : Shape := ⟨2, ![1, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S16x4096x4096 : Shape := ⟨3, ![16, 4096, 4096]⟩
abbrev S1x4096x1024 : Shape := ⟨3, ![1, 4096, 1024]⟩
abbrev S4096x1024 : Shape := ⟨2, ![4096, 1024]⟩

abbrev nBuf : Space → Nat
  | .hbm => 73
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x4x4096x512, .f32⟩
  | .hbm, ⟨2, _⟩ => ⟨S16x4x4096x512, .f32⟩
  | .hbm, ⟨3, _⟩ => ⟨S2x32x6x1024, .f32⟩
  | .hbm, ⟨4, _⟩ => ⟨S1x2048x1024, .f32⟩
  | .hbm, ⟨5, _⟩ => ⟨S2x1024, .f32⟩
  | .hbm, ⟨6, _⟩ => ⟨S2x1024x4096, .f32⟩
  | .hbm, ⟨7, _⟩ => ⟨S2x4096x1024, .f32⟩
  | .hbm, ⟨8, _⟩ => ⟨S1024, .f32⟩
  | .hbm, ⟨9, _⟩ => ⟨S1x16x1x1024, .f32⟩
  | .hbm, ⟨10, _⟩ => ⟨S16x1024, .f32⟩
  | .hbm, ⟨11, _⟩ => ⟨S16x1x1024, .f32⟩
  | .hbm, ⟨12, _⟩ => ⟨S1x16x1x1024, .f32⟩
  | .hbm, ⟨13, _⟩ => ⟨S16x1024, .f32⟩
  | .hbm, ⟨14, _⟩ => ⟨S16x1x1024, .f32⟩
  | .hbm, ⟨15, _⟩ => ⟨S1x16x1x1024, .f32⟩
  | .hbm, ⟨16, _⟩ => ⟨S16x1024, .f32⟩
  | .hbm, ⟨17, _⟩ => ⟨S16x1x1024, .f32⟩
  | .hbm, ⟨18, _⟩ => ⟨S1x16x1x1024, .f32⟩
  | .hbm, ⟨19, _⟩ => ⟨S16x1024, .f32⟩
  | .hbm, ⟨20, _⟩ => ⟨S16x1x1024, .f32⟩
  | .hbm, ⟨21, _⟩ => ⟨S1x16x1x1024, .f32⟩
  | .hbm, ⟨22, _⟩ => ⟨S16x1024, .f32⟩
  | .hbm, ⟨23, _⟩ => ⟨S16x1x1024, .f32⟩
  | .hbm, ⟨24, _⟩ => ⟨S1x16x1x1024, .f32⟩
  | .hbm, ⟨25, _⟩ => ⟨S16x1024, .f32⟩
  | .hbm, ⟨26, _⟩ => ⟨S16x1x1024, .f32⟩
  | .hbm, ⟨27, _⟩ => ⟨S16x4x4096x512, .f32⟩
  | .hbm, ⟨28, _⟩ => ⟨S16x4096x4x512, .f32⟩
  | .hbm, ⟨29, _⟩ => ⟨S16x4096x2048, .f32⟩
  | .hbm, ⟨30, _⟩ => ⟨S2048x1024, .f32⟩
  | .hbm, ⟨31, _⟩ => ⟨S16x4096x1024, .f32⟩
  | .hbm, ⟨32, _⟩ => ⟨S16x4096x1024, .f32⟩
  | .hbm, ⟨33, _⟩ => ⟨S16x4096x1024, .f32⟩
  | .hbm, ⟨34, _⟩ => ⟨S16x4096x1024, .f32⟩
  | .hbm, ⟨35, _⟩ => ⟨S1x1024, .f32⟩
  | .hbm, ⟨36, _⟩ => ⟨S1024, .f32⟩
  | .hbm, ⟨37, _⟩ => ⟨S16x4096x1024, .f32⟩
  | .hbm, ⟨38, _⟩ => ⟨S_, .f32⟩
  | .hbm, ⟨39, _⟩ => ⟨S16x4096, .f32⟩
  | .hbm, ⟨40, _⟩ => ⟨S16x4096x1, .f32⟩
  | .hbm, ⟨41, _⟩ => ⟨S_, .f32⟩
  | .hbm, ⟨42, _⟩ => ⟨S16x4096x1, .f32⟩
  | .hbm, ⟨43, _⟩ => ⟨S16x4096x1, .f32⟩
  | .hbm, ⟨44, _⟩ => ⟨S_, .f32⟩
  | .hbm, ⟨45, _⟩ => ⟨S16x4096x1, .f32⟩
  | .hbm, ⟨46, _⟩ => ⟨S16x4096x1, .f32⟩
  | .hbm, ⟨47, _⟩ => ⟨S16x4096x1, .f32⟩
  | .hbm, ⟨48, _⟩ => ⟨S16x4096x1024, .f32⟩
  | .hbm, ⟨49, _⟩ => ⟨S16x4096x1024, .f32⟩
  | .hbm, ⟨50, _⟩ => ⟨S1x1x1024, .f32⟩
  | .hbm, ⟨51, _⟩ => ⟨S16x4096x1024, .f32⟩
  | .hbm, ⟨52, _⟩ => ⟨S16x4096x1024, .f32⟩
  | .hbm, ⟨53, _⟩ => ⟨S_, .f32⟩
  | .hbm, ⟨54, _⟩ => ⟨S16x1x1024, .f32⟩
  | .hbm, ⟨55, _⟩ => ⟨S16x1x1024, .f32⟩
  | .hbm, ⟨56, _⟩ => ⟨S16x4096x1024, .f32⟩
  | .hbm, ⟨57, _⟩ => ⟨S16x4096x1024, .f32⟩
  | .hbm, ⟨58, _⟩ => ⟨S16x4096x1024, .f32⟩
  | .hbm, ⟨59, _⟩ => ⟨S16x4096x1024, .f32⟩
  | .hbm, ⟨60, _⟩ => ⟨S1x1024x4096, .f32⟩
  | .hbm, ⟨61, _⟩ => ⟨S1024x4096, .f32⟩
  | .hbm, ⟨62, _⟩ => ⟨S16x4096x4096, .f32⟩
  | .hbm, ⟨63, _⟩ => ⟨S_, .f32⟩
  | .hbm, ⟨64, _⟩ => ⟨S16x4096x4096, .f32⟩
  | .hbm, ⟨65, _⟩ => ⟨S16x4096x4096, .f32⟩
  | .hbm, ⟨66, _⟩ => ⟨S16x4096x4096, .f32⟩
  | .hbm, ⟨67, _⟩ => ⟨S1x4096x1024, .f32⟩
  | .hbm, ⟨68, _⟩ => ⟨S4096x1024, .f32⟩
  | .hbm, ⟨69, _⟩ => ⟨S16x4096x1024, .f32⟩
  | .hbm, ⟨70, _⟩ => ⟨S16x4096x1024, .f32⟩
  | .hbm, ⟨71, _⟩ => ⟨S16x4096x1024, .f32⟩
  | .hbm, ⟨72, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst : Ref sig .tc := ⟨.hbm, 38, rfl⟩
abbrev main_v29 : Ref sig .tc := ⟨.hbm, 39, rfl⟩
abbrev main_v30 : Ref sig .tc := ⟨.hbm, 40, rfl⟩
abbrev main_cst_0 : Ref sig .tc := ⟨.hbm, 41, rfl⟩
abbrev main_v31 : Ref sig .tc := ⟨.hbm, 42, rfl⟩
abbrev main_v32 : Ref sig .tc := ⟨.hbm, 43, rfl⟩
abbrev main_cst_1 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_2 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_call0_cst : Ref sig .tc := ⟨.hbm, 63, rfl⟩
abbrev main_call0_v0 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩

abbrev nD : Nat := 1
abbrev τ : Topo := Topo.v7x

variable {F : FTy → Type} [FloatOps F]
-- ==== RetIn.lean ====
abbrev S16x4096x1024 : Shape := ⟨3, ![16, 4096, 1024]⟩
abbrev S2x32x6x1024 : Shape := ⟨4, ![2, 32, 6, 1024]⟩
abbrev S2x1024 : Shape := ⟨2, ![2, 1024]⟩
abbrev S1x1024x6144 : Shape := ⟨3, ![1, 1024, 6144]⟩
abbrev S1024x6144 : Shape := ⟨2, ![1024, 6144]⟩
abbrev S1024x2048 : Shape := ⟨2, ![1024, 2048]⟩
abbrev S1024x8x2x2x64 : Shape := ⟨5, ![1024, 8, 2, 2, 64]⟩
abbrev S1024x4096 : Shape := ⟨2, ![1024, 4096]⟩
abbrev S64 : Shape := ⟨1, ![64]⟩
abbrev S_ : Shape := ⟨0, ![]⟩
abbrev S64x1 : Shape := ⟨2, ![64, 1]⟩
abbrev S1x64 : Shape := ⟨2, ![1, 64]⟩
abbrev S64x64 : Shape := ⟨2, ![64, 64]⟩
abbrev S64x64x64 : Shape := ⟨3, ![64, 64, 64]⟩
abbrev S4096x64 : Shape := ⟨2, ![4096, 64]⟩
abbrev S1x64x1x64 : Shape := ⟨4, ![1, 64, 1, 64]⟩
abbrev S64x64x1x64 : Shape := ⟨4, ![64, 64, 1, 64]⟩
abbrev S4096x128 : Shape := ⟨2, ![4096, 128]⟩
abbrev S2x1x1024 : Shape := ⟨3, ![2, 1, 1024]⟩
abbrev S1x1x1024 : Shape := ⟨3, ![1, 1, 1024]⟩
abbrev S1x1024 : Shape := ⟨2, ![1, 1024]⟩
abbrev S16x4x4096x256 : Shape := ⟨4, ![16, 4, 4096, 256]⟩
abbrev S16x4x16x256x256 : Shape := ⟨5, ![16, 4, 16, 256, 256]⟩
abbrev S16x4x4096x512 : Shape := ⟨4, ![16, 4, 4096, 512]⟩
abbrev S1x1024x1024 : Shape := ⟨3, ![1, 1024, 1024]⟩
abbrev S1x1x6x1024 : Shape := ⟨4, ![1, 1, 6, 1024]⟩
abbrev S1024x128 : Shape := ⟨2, ![1024, 128]⟩
abbrev S1x4x1024x256 : Shape := ⟨4, ![1, 4, 1024, 256]⟩
abbrev S1x4x4x256x256 : Shape := ⟨5, ![1, 4, 4, 256, 256]⟩
abbrev S1x4x1024x512 : Shape := ⟨4, ![1, 4, 1024, 512]⟩
abbrev S6x1024 : Shape := ⟨2, ![6, 1024]⟩
abbrev S1024x1024 : Shape := ⟨2, ![1024, 1024]⟩
abbrev S1024 : Shape := ⟨1, ![1024]⟩
abbrev S1024x1 : Shape := ⟨2, ![1024, 1]⟩
abbrev S1024x256 : Shape := ⟨2, ![1024, 256]⟩
abbrev S256x128 : Shape := ⟨2, ![256, 128]⟩
abbrev S128x256 : Shape := ⟨2, ![128, 256]⟩
abbrev S1x1x1x128x256 : Shape := ⟨5, ![1, 1, 1, 128, 256]⟩
abbrev S1x1x1024x128 : Shape := ⟨4, ![1, 1, 1024, 128]⟩
abbrev S1024x512 : Shape := ⟨2, ![1024, 512]⟩
abbrev S1x1x1024x512 : Shape := ⟨4, ![1, 1, 1024, 512]⟩

abbrev nBuf : Space → Nat
  | .hbm => 55
  | .vmem => 19
  | .smem => 0
  | _ => 0

abbrev bufTy : (tb : Table) → Fin (tcTables nBuf tb) → BufTy
  | .hbm, ⟨0, _⟩ => ⟨S16x4096x1024, .f32⟩
  | .hbm, ⟨1, _⟩ => ⟨S2x32x6x1024, .f32⟩
  | .hbm, ⟨2, _⟩ => ⟨S2x1024, .f32⟩
  | .hbm, ⟨3, _⟩ => ⟨S1x1024x6144, .f32⟩
  | .hbm, ⟨4, _⟩ => ⟨S1024x6144, .f32⟩
  | .hbm, ⟨5, _⟩ => ⟨S1024x2048, .f32⟩
  | .hbm, ⟨6, _⟩ => ⟨S1024x8x2x2x64, .f32⟩
  | .hbm, ⟨7, _⟩ => ⟨S1024x8x2x2x64, .f32⟩
  | .hbm, ⟨8, _⟩ => ⟨S1024x2048, .f32⟩
  | .hbm, ⟨9, _⟩ => ⟨S1024x4096, .f32⟩
  | .hbm, ⟨10, _⟩ => ⟨S1024x6144, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S64, .f32⟩
  | .hbm, ⟨20, _⟩ => ⟨S64x1, .f32⟩
  | .hbm, ⟨21, _⟩ => ⟨S1x64, .f32⟩
  | .hbm, ⟨22, _⟩ => ⟨S64x64, .f32⟩
  | .hbm, ⟨23, _⟩ => ⟨S64x64, .f32⟩
  | .hbm, ⟨24, _⟩ => ⟨S64x64, .f32⟩
  | .hbm, ⟨25, _⟩ => ⟨S64, .f32⟩
  | .hbm, ⟨26, _⟩ => ⟨S64x1, .f32⟩
  | .hbm, ⟨27, _⟩ => ⟨S1x64, .f32⟩
  | .hbm, ⟨28, _⟩ => ⟨S64x64, .f32⟩
  | .hbm, ⟨29, _⟩ => ⟨S64x64, .f32⟩
  | .hbm, ⟨30, _⟩ => ⟨S64x64, .f32⟩
  | .hbm, ⟨31, _⟩ => ⟨S64x64, .f32⟩
  | .hbm, ⟨32, _⟩ => ⟨S64x64x64, .f32⟩
  | .hbm, ⟨33, _⟩ => ⟨S4096x64, .f32⟩
  | .hbm, ⟨34, _⟩ => ⟨S64x64, .f32⟩
  | .hbm, ⟨35, _⟩ => ⟨S1x64x1x64, .f32⟩
  | .hbm, ⟨36, _⟩ => ⟨S64x64x1x64, .f32⟩
  | .hbm, ⟨37, _⟩ => ⟨S4096x64, .f32⟩
  | .hbm, ⟨38, _⟩ => ⟨S4096x128, .f32⟩
  | .hbm, ⟨39, _⟩ => ⟨S64x64, .f32⟩
  | .hbm, ⟨40, _⟩ => ⟨S64x64x64, .f32⟩
  | .hbm, ⟨41, _⟩ => ⟨S4096x64, .f32⟩
  | .hbm, ⟨42, _⟩ => ⟨S64x64, .f32⟩
  | .hbm, ⟨43, _⟩ => ⟨S1x64x1x64, .f32⟩
  | .hbm, ⟨44, _⟩ => ⟨S64x64x1x64, .f32⟩
  | .hbm, ⟨45, _⟩ => ⟨S4096x64, .f32⟩
  | .hbm, ⟨46, _⟩ => ⟨S4096x128, .f32⟩
  | .hbm, ⟨47, _⟩ => ⟨S2x1x1024, .f32⟩
  | .hbm, ⟨48, _⟩ => ⟨S1x1x1024, .f32⟩
  | .hbm, ⟨49, _⟩ => ⟨S1x1024, .f32⟩
  | .hbm, ⟨50, _⟩ => ⟨S1024x6144, .bf16⟩
  | .hbm, ⟨51, _⟩ => ⟨S16x4x4096x256, .bf16⟩
  | .hbm, ⟨52, _⟩ => ⟨S16x4x16x256x256, .bf16⟩
  | .hbm, ⟨53, _⟩ => ⟨S16x4x4096x512, .bf16⟩
  | .hbm, ⟨54, _⟩ => ⟨S16x4x4096x512, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1x1024, .f32⟩
  | .local _ .vmem, ⟨5, _⟩ => ⟨S1024x6144, .bf16⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1x4x1024x256, .bf16⟩
  | .local _ .vmem, ⟨11, _⟩ => ⟨S1x4x1024x256, .bf16⟩
  | .local _ .vmem, ⟨12, _⟩ => ⟨S1x4x4x256x256, .bf16⟩
  | .local _ .vmem, ⟨13, _⟩ => ⟨S1x4x4x256x256, .bf16⟩
  | .local _ .vmem, ⟨14, _⟩ => ⟨S1x4x1024x512, .bf16⟩
  | .local _ .vmem, ⟨15, _⟩ => ⟨S1x4x1024x512, .bf16⟩
  | .local _ .vmem, ⟨16, _⟩ => ⟨S1x4x1024x512, .bf16⟩
  | .local _ .vmem, ⟨17, _⟩ => ⟨S1x4x1024x512, .bf16⟩
  | .local _ .vmem, ⟨18, _⟩ => ⟨S1x1024x1024, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45_0 : Ref sig .tc := ⟨.hbm, 51, rfl⟩
abbrev main_v45_1 : Ref sig .tc := ⟨.hbm, 52, rfl⟩
abbrev main_v45_2 : Ref sig .tc := ⟨.hbm, 53, rfl⟩
abbrev main_v45_3 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  let c0_i32_3 : BitVec 32 := 0#32
  ![c0_i32_0.toNat, v0.toNat, c0_i32_1.toNat, c0_i32_2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x6144 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x4x1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x4x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== RetInRefIdeal.lean ====
abbrev S16x4096x1024 : Shape := ⟨3, ![16, 4096, 1024]⟩
abbrev S2x32x6x1024 : Shape := ⟨4, ![2, 32, 6, 1024]⟩
abbrev S2x1024 : Shape := ⟨2, ![2, 1024]⟩
abbrev S1x1024x6144 : Shape := ⟨3, ![1, 1024, 6144]⟩
abbrev S1x16x1x1024 : Shape := ⟨4, ![1, 16, 1, 1024]⟩
abbrev S16x1024 : Shape := ⟨2, ![16, 1024]⟩
abbrev S16x1x1024 : Shape := ⟨3, ![16, 1, 1024]⟩
abbrev S1x1024 : Shape := ⟨2, ![1, 1024]⟩
abbrev S1024 : Shape := ⟨1, ![1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S1024x6144 : Shape := ⟨2, ![1024, 6144]⟩
abbrev S16x4096x6144 : Shape := ⟨3, ![16, 4096, 6144]⟩
abbrev S16x4096x2048 : Shape := ⟨3, ![16, 4096, 2048]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S4096x1 : Shape := ⟨2, ![4096, 1]⟩
abbrev S4096x64 : Shape := ⟨2, ![4096, 64]⟩
abbrev S16x4096x4x256 : Shape := ⟨4, ![16, 4096, 4, 256]⟩
abbrev S16x4096x4x128 : Shape := ⟨4, ![16, 4096, 4, 128]⟩
abbrev S16x4096x4x64 : Shape := ⟨4, ![16, 4096, 4, 64]⟩
abbrev S4096x1x64 : Shape := ⟨3, ![4096, 1, 64]⟩
abbrev S1x4096x1x64 : Shape := ⟨4, ![1, 4096, 1, 64]⟩
abbrev S16x4096x4x2x2x64 : Shape := ⟨6, ![16, 4096, 4, 2, 2, 64]⟩
abbrev S16x4x4096x2x2x64 : Shape := ⟨6, ![16, 4, 4096, 2, 2, 64]⟩
abbrev S16x4x4096x256 : Shape := ⟨4, ![16, 4, 4096, 256]⟩
abbrev S16x4x16x256x256 : Shape := ⟨5, ![16, 4, 16, 256, 256]⟩
abbrev S16x4096x4x512 : Shape := ⟨4, ![16, 4096, 4, 512]⟩
abbrev S16x4x4096x512 : Shape := ⟨4, ![16, 4, 4096, 512]⟩

abbrev nBuf : Space → Nat
  | .hbm => 182
  | .vmem => 0
  | .smem => 0
  | _ => 0

abbrev hbmTy0_0 (i : Nat) : BufTy := match i % 128 with
  | 0 => ⟨S16x4096x1024, .f32⟩
  | 1 => ⟨S2x32x6x1024, .f32⟩
  | 2 => ⟨S2x1024, .f32⟩
  | 3 => ⟨S1x1024x6144, .f32⟩
  | 4 => ⟨S1x16x1x1024, .f32⟩
  | 5 => ⟨S16x1024, .f32⟩
  | 6 => ⟨S16x1x1024, .f32⟩
  | 7 => ⟨S1x16x1x1024, .f32⟩
  | 8 => ⟨S16x1024, .f32⟩
  | 9 => ⟨S16x1x1024, .f32⟩
  | 10 => ⟨S1x1024, .f32⟩
  | 11 => ⟨S1024, .f32⟩
  | 12 => ⟨S16x4096x1024, .f32⟩
  | 13 => ⟨S_, .f32⟩
  | 14 => ⟨S16x4096, .f32⟩
  | 15 => ⟨S16x4096x1, .f32⟩
  | 16 => ⟨S_, .f32⟩
  | 17 => ⟨S16x4096x1, .f32⟩
  | 18 => ⟨S16x4096x1, .f32⟩
  | 19 => ⟨S_, .f32⟩
  | 20 => ⟨S16x4096x1, .f32⟩
  | 21 => ⟨S16x4096x1, .f32⟩
  | 22 => ⟨S16x4096x1, .f32⟩
  | 23 => ⟨S16x4096x1024, .f32⟩
  | 24 => ⟨S16x4096x1024, .f32⟩
  | 25 => ⟨S1x1x1024, .f32⟩
  | 26 => ⟨S16x4096x1024, .f32⟩
  | 27 => ⟨S16x4096x1024, .f32⟩
  | 28 => ⟨S_, .f32⟩
  | 29 => ⟨S16x1x1024, .f32⟩
  | 30 => ⟨S16x1x1024, .f32⟩
  | 31 => ⟨S16x4096x1024, .f32⟩
  | 32 => ⟨S16x4096x1024, .f32⟩
  | 33 => ⟨S16x4096x1024, .f32⟩
  | 34 => ⟨S16x4096x1024, .f32⟩
  | 35 => ⟨S1024x6144, .f32⟩
  | 36 => ⟨S16x4096x6144, .f32⟩
  | 37 => ⟨S16x4096x1024, .f32⟩
  | 38 => ⟨S16x4096x1024, .f32⟩
  | 39 => ⟨S16x4096x2048, .f32⟩
  | 40 => ⟨S16x4096x2048, .f32⟩
  | 41 => ⟨S64, .f32⟩
  | 42 => ⟨S64x64, .f32⟩
  | 43 => ⟨S4096, .f32⟩
  | 44 => ⟨S64, .f32⟩
  | 45 => ⟨S1x64, .f32⟩
  | 46 => ⟨S64x64, .f32⟩
  | 47 => ⟨S4096, .f32⟩
  | 48 => ⟨S64, .f32⟩
  | 49 => ⟨S64, .f32⟩
  | 50 => ⟨S_, .f32⟩
  | 51 => ⟨S64, .f32⟩
  | 52 => ⟨S64, .f32⟩
  | 53 => ⟨S_, .f32⟩
  | 54 => ⟨S64, .f32⟩
  | 55 => ⟨S64, .f32⟩
  | 56 => ⟨S4096x1, .f32⟩
  | 57 => ⟨S1x64, .f32⟩
  | 58 => ⟨S4096x64, .f32⟩
  | 59 => ⟨S4096x64, .f32⟩
  | 60 => ⟨S4096x64, .f32⟩
  | 61 => ⟨S4096x1, .f32⟩
  | 62 => ⟨S1x64, .f32⟩
  | 63 => ⟨S4096x64, .f32⟩
  | 64 => ⟨S4096x64, .f32⟩
  | 65 => ⟨S4096x64, .f32⟩
  | 66 => ⟨S4096x64, .f32⟩
  | 67 => ⟨S4096x64, .f32⟩
  | 68 => ⟨S4096x64, .f32⟩
  | 69 => ⟨S4096x64, .f32⟩
  | 70 => ⟨S16x4096x4x256, .f32⟩
  | 71 => ⟨S16x4096x4x128, .f32⟩
  | 72 => ⟨S16x4096x4x64, .f32⟩
  | 73 => ⟨S16x4096x4x64, .f32⟩
  | 74 => ⟨S4096x1x64, .f32⟩
  | 75 => ⟨S4096x1x64, .f32⟩
  | 76 => ⟨S1x4096x1x64, .f32⟩
  | 77 => ⟨S16x4096x4x64, .f32⟩
  | 78 => ⟨S16x4096x4x64, .f32⟩
  | 79 => ⟨S1x4096x1x64, .f32⟩
  | 80 => ⟨S16x4096x4x64, .f32⟩
  | 81 => ⟨S16x4096x4x64, .f32⟩
  | 82 => ⟨S16x4096x4x64, .f32⟩
  | 83 => ⟨S1x4096x1x64, .f32⟩
  | 84 => ⟨S16x4096x4x64, .f32⟩
  | 85 => ⟨S16x4096x4x64, .f32⟩
  | 86 => ⟨S1x4096x1x64, .f32⟩
  | 87 => ⟨S16x4096x4x64, .f32⟩
  | 88 => ⟨S16x4096x4x64, .f32⟩
  | 89 => ⟨S16x4096x4x64, .f32⟩
  | 90 => ⟨S16x4096x4x128, .f32⟩
  | 91 => ⟨S16x4096x4x128, .f32⟩
  | 92 => ⟨S16x4096x4x64, .f32⟩
  | 93 => ⟨S16x4096x4x64, .f32⟩
  | 94 => ⟨S4096x1x64, .f32⟩
  | 95 => ⟨S4096x1x64, .f32⟩
  | 96 => ⟨S1x4096x1x64, .f32⟩
  | 97 => ⟨S16x4096x4x64, .f32⟩
  | 98 => ⟨S16x4096x4x64, .f32⟩
  | 99 => ⟨S1x4096x1x64, .f32⟩
  | 100 => ⟨S16x4096x4x64, .f32⟩
  | 101 => ⟨S16x4096x4x64, .f32⟩
  | 102 => ⟨S16x4096x4x64, .f32⟩
  | 103 => ⟨S1x4096x1x64, .f32⟩
  | 104 => ⟨S16x4096x4x64, .f32⟩
  | 105 => ⟨S16x4096x4x64, .f32⟩
  | 106 => ⟨S1x4096x1x64, .f32⟩
  | 107 => ⟨S16x4096x4x64, .f32⟩
  | 108 => ⟨S16x4096x4x64, .f32⟩
  | 109 => ⟨S16x4096x4x64, .f32⟩
  | 110 => ⟨S16x4096x4x128, .f32⟩
  | 111 => ⟨S16x4096x4x256, .f32⟩
  | 112 => ⟨S_, .f32⟩
  | 113 => ⟨S16x4096x4x256, .f32⟩
  | 114 => ⟨S16x4096x4x256, .f32⟩
  | 115 => ⟨S16x4096x4x256, .f32⟩
  | 116 => ⟨S16x4096x4x128, .f32⟩
  | 117 => ⟨S16x4096x4x64, .f32⟩
  | 118 => ⟨S16x4096x4x64, .f32⟩
  | 119 => ⟨S4096x1x64, .f32⟩
  | 120 => ⟨S4096x1x64, .f32⟩
  | 121 => ⟨S1x4096x1x64, .f32⟩
  | 122 => ⟨S16x4096x4x64, .f32⟩
  | 123 => ⟨S16x4096x4x64, .f32⟩
  | 124 => ⟨S1x4096x1x64, .f32⟩
  | 125 => ⟨S16x4096x4x64, .f32⟩
  | 126 => ⟨S16x4096x4x64, .f32⟩
  | 127 => ⟨S16x4096x4x64, .f32⟩
  | _ => ⟨S16x4096x1024, .f32⟩

abbrev hbmTy0_1 (i : Nat) : BufTy := match i % 128 with
  | 0 => ⟨S1x4096x1x64, .f32⟩
  | 1 => ⟨S16x4096x4x64, .f32⟩
  | 2 => ⟨S16x4096x4x64, .f32⟩
  | 3 => ⟨S1x4096x1x64, .f32⟩
  | 4 => ⟨S16x4096x4x64, .f32⟩
  | 5 => ⟨S16x4096x4x64, .f32⟩
  | 6 => ⟨S16x4096x4x64, .f32⟩
  | 7 => ⟨S16x4096x4x128, .f32⟩
  | 8 => ⟨S16x4096x4x128, .f32⟩
  | 9 => ⟨S16x4096x4x64, .f32⟩
  | 10 => ⟨S16x4096x4x64, .f32⟩
  | 11 => ⟨S4096x1x64, .f32⟩
  | 12 => ⟨S4096x1x64, .f32⟩
  | 13 => ⟨S1x4096x1x64, .f32⟩
  | 14 => ⟨S16x4096x4x64, .f32⟩
  | 15 => ⟨S16x4096x4x64, .f32⟩
  | 16 => ⟨S1x4096x1x64, .f32⟩
  | 17 => ⟨S16x4096x4x64, .f32⟩
  | 18 => ⟨S16x4096x4x64, .f32⟩
  | 19 => ⟨S16x4096x4x64, .f32⟩
  | 20 => ⟨S1x4096x1x64, .f32⟩
  | 21 => ⟨S16x4096x4x64, .f32⟩
  | 22 => ⟨S16x4096x4x64, .f32⟩
  | 23 => ⟨S1x4096x1x64, .f32⟩
  | 24 => ⟨S16x4096x4x64, .f32⟩
  | 25 => ⟨S16x4096x4x64, .f32⟩
  | 26 => ⟨S16x4096x4x64, .f32⟩
  | 27 => ⟨S16x4096x4x128, .f32⟩
  | 28 => ⟨S16x4096x4x256, .f32⟩
  | 29 => ⟨S16x4096x4x2x2x64, .f32⟩
  | 30 => ⟨S16x4x4096x2x2x64, .f32⟩
  | 31 => ⟨S16x4x4096x256, .f32⟩
  | 32 => ⟨S16x4x16x256x256, .f32⟩
  | 33 => ⟨S16x4x16x256x256, .f32⟩
  | 34 => ⟨S16x4096x4x512, .f32⟩
  | 35 => ⟨S16x4x4096x512, .f32⟩
  | 36 => ⟨S16x4096x2048, .f32⟩
  | 37 => ⟨S16x4096x2048, .f32⟩
  | 38 => ⟨S_, .f32⟩
  | 39 => ⟨S16x4096x2048, .f32⟩
  | 40 => ⟨S16x4096x2048, .f32⟩
  | 41 => ⟨S_, .f32⟩
  | 42 => ⟨S16x4096x2048, .f32⟩
  | 43 => ⟨S16x4096x2048, .f32⟩
  | 44 => ⟨S16x4096x2048, .f32⟩
  | 45 => ⟨S16x4096x4x512, .f32⟩
  | 46 => ⟨S16x4x4096x512, .f32⟩
  | 47 => ⟨S16x4096x4x2x2x64, .f32⟩
  | 48 => ⟨S16x4x4096x2x2x64, .f32⟩
  | 49 => ⟨S16x4x4096x256, .f32⟩
  | 50 => ⟨S16x4x4096x256, .bf16⟩
  | 51 => ⟨S16x4x16x256x256, .bf16⟩
  | 52 => ⟨S16x4x4096x512, .bf16⟩
  | 53 => ⟨S16x4x4096x512, .bf16⟩
  | _ => ⟨S16x4096x1024, .f32⟩

abbrev hbmTy (i : Nat) : BufTy := match i / 128 with
  | 0 => hbmTy0_0 i
  | 1 => hbmTy0_1 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst_3 : Ref sig .tc := ⟨.hbm, 50, rfl⟩
abbrev main_v42 : Ref sig .tc := ⟨.hbm, 51, rfl⟩
abbrev main_v43 : Ref sig .tc := ⟨.hbm, 52, rfl⟩
abbrev main_cst_4 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_cst_5 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_call0_v0 : Ref sig .tc := ⟨.hbm, 164, rfl⟩
abbrev main_call0_v1 : Ref sig .tc := ⟨.hbm, 165, rfl⟩
abbrev main_call0_cst : Ref sig .tc := ⟨.hbm, 166, rfl⟩
abbrev main_call0_v2 : Ref sig .tc := ⟨.hbm, 167, rfl⟩
abbrev main_call0_v3 : Ref sig .tc := ⟨.hbm, 168, rfl⟩
abbrev main_call0_cst_0 : Ref sig .tc := ⟨.hbm, 169, rfl⟩
abbrev main_call0_v4 : Ref sig .tc := ⟨.hbm, 170, rfl⟩
abbrev main_call0_v5 : Ref sig .tc := ⟨.hbm, 171, rfl⟩
abbrev main_v153 : Ref sig .tc := ⟨.hbm, 172, rfl⟩
abbrev main_v154 : Ref sig .tc := ⟨.hbm, 173, rfl⟩
abbrev main_v155 : Ref sig .tc := ⟨.hbm, 174, rfl⟩
abbrev main_v156 : Ref sig .tc := ⟨.hbm, 175, rfl⟩
abbrev main_v157 : Ref sig .tc := ⟨.hbm, 176, rfl⟩
abbrev main_v158 : Ref sig .tc := ⟨.hbm, 177, rfl⟩
abbrev main_v159 : Ref sig .tc := ⟨.hbm, 178, rfl⟩
abbrev main_v160 : Ref sig .tc := ⟨.hbm, 179, rfl⟩
abbrev main_v161 : Ref sig .tc := ⟨.hbm, 180, rfl⟩
abbrev main_v162 : Ref sig .tc := ⟨.hbm, 181, rfl⟩

abbrev nD : Nat := 1
abbrev τ : Topo := Topo.v7x

variable {F : FTy → Type} [FloatOps F]
-- ==== AttIn.lean ====
abbrev S16x4096x1024 : Shape := ⟨3, ![16, 4096, 1024]⟩
abbrev S2x32x6x1024 : Shape := ⟨4, ![2, 32, 6, 1024]⟩
abbrev S2x1024 : Shape := ⟨2, ![2, 1024]⟩
abbrev S1x1024x1536 : Shape := ⟨3, ![1, 1024, 1536]⟩
abbrev S1x128 : Shape := ⟨2, ![1, 128]⟩
abbrev S1024x1536 : Shape := ⟨2, ![1024, 1536]⟩
abbrev S1024x1024 : Shape := ⟨2, ![1024, 1024]⟩
abbrev S1024x2x4x2x2x32 : Shape := ⟨6, ![1024, 2, 4, 2, 2, 32]⟩
abbrev S1024x4x2x2x2x32 : Shape := ⟨6, ![1024, 4, 2, 2, 2, 32]⟩
abbrev S1024x256 : Shape := ⟨2, ![1024, 256]⟩
abbrev S1024x2x2x2x32 : Shape := ⟨5, ![1024, 2, 2, 2, 32]⟩
abbrev S32 : Shape := ⟨1, ![32]⟩
abbrev S_ : Shape := ⟨0, ![]⟩
abbrev S64 : Shape := ⟨1, ![64]⟩
abbrev S64x1 : Shape := ⟨2, ![64, 1]⟩
abbrev S1x32 : Shape := ⟨2, ![1, 32]⟩
abbrev S64x32 : Shape := ⟨2, ![64, 32]⟩
abbrev S64x64x32 : Shape := ⟨3, ![64, 64, 32]⟩
abbrev S4096x32 : Shape := ⟨2, ![4096, 32]⟩
abbrev S1x64x1x32 : Shape := ⟨4, ![1, 64, 1, 32]⟩
abbrev S64x64x1x32 : Shape := ⟨4, ![64, 64, 1, 32]⟩
abbrev S4096x128 : Shape := ⟨2, ![4096, 128]⟩
abbrev S2x1x1024 : Shape := ⟨3, ![2, 1, 1024]⟩
abbrev S1x1x1024 : Shape := ⟨3, ![1, 1, 1024]⟩
abbrev S1x1024 : Shape := ⟨2, ![1, 1024]⟩
abbrev S128 : Shape := ⟨1, ![128]⟩
abbrev S2x2x32 : Shape := ⟨3, ![2, 2, 32]⟩
abbrev S2x1x32 : Shape := ⟨3, ![2, 1, 32]⟩
abbrev S2x32 : Shape := ⟨2, ![2, 32]⟩
abbrev S1x64 : Shape := ⟨2, ![1, 64]⟩
abbrev S2x64 : Shape := ⟨2, ![2, 64]⟩
abbrev S16x4x16x256x256 : Shape := ⟨5, ![16, 4, 16, 256, 256]⟩
abbrev S16x4096x256 : Shape := ⟨3, ![16, 4096, 256]⟩
abbrev S16x2x144x4096 : Shape := ⟨4, ![16, 2, 144, 4096]⟩
abbrev S1x1024x1024 : Shape := ⟨3, ![1, 1024, 1024]⟩
abbrev S1x1x6x1024 : Shape := ⟨4, ![1, 1, 6, 1024]⟩
abbrev S1024x128 : Shape := ⟨2, ![1024, 128]⟩
abbrev S1x4x4x256x256 : Shape := ⟨5, ![1, 4, 4, 256, 256]⟩
abbrev S1x1024x256 : Shape := ⟨3, ![1, 1024, 256]⟩
abbrev S1x2x144x1024 : Shape := ⟨4, ![1, 2, 144, 1024]⟩
abbrev S6x1024 : Shape := ⟨2, ![6, 1024]⟩
abbrev S1024 : Shape := ⟨1, ![1024]⟩
abbrev S1024x1 : Shape := ⟨2, ![1024, 1]⟩
abbrev S256x128 : Shape := ⟨2, ![256, 128]⟩
abbrev S128x256 : Shape := ⟨2, ![128, 256]⟩
abbrev S1x1x1x128x256 : Shape := ⟨5, ![1, 1, 1, 128, 256]⟩
abbrev S128x1024 : Shape := ⟨2, ![128, 1024]⟩
abbrev S1x1x128x1024 : Shape := ⟨4, ![1, 1, 128, 1024]⟩
abbrev S16x1024 : Shape := ⟨2, ![16, 1024]⟩
abbrev S1x1x16x1024 : Shape := ⟨4, ![1, 1, 16, 1024]⟩
abbrev S1x1024x128 : Shape := ⟨3, ![1, 1024, 128]⟩

abbrev nBuf : Space → Nat
  | .hbm => 96
  | .vmem => 21
  | .smem => 0
  | _ => 0

abbrev bufTy : (tb : Table) → Fin (tcTables nBuf tb) → BufTy
  | .hbm, ⟨0, _⟩ => ⟨S16x4096x1024, .f32⟩
  | .hbm, ⟨1, _⟩ => ⟨S2x32x6x1024, .f32⟩
  | .hbm, ⟨2, _⟩ => ⟨S2x1024, .f32⟩
  | .hbm, ⟨3, _⟩ => ⟨S1x1024x1536, .f32⟩
  | .hbm, ⟨4, _⟩ => ⟨S1x128, .f32⟩
  | .hbm, ⟨5, _⟩ => ⟨S1x128, .f32⟩
  | .hbm, ⟨6, _⟩ => ⟨S1024x1536, .f32⟩
  | .hbm, ⟨7, _⟩ => ⟨S1024x1024, .f32⟩
  | .hbm, ⟨8, _⟩ => ⟨S1024x2x4x2x2x32, .f32⟩
  | .hbm, ⟨9, _⟩ => ⟨S1024x4x2x2x2x32, .f32⟩
  | .hbm, ⟨10, _⟩ => ⟨S1024x256, .f32⟩
  | .hbm, ⟨11, _⟩ => ⟨S1024x2x2x2x32, .f32⟩
  | .hbm, ⟨12, _⟩ => ⟨S1024x2x2x2x32, .f32⟩
  | .hbm, ⟨13, _⟩ => ⟨S1024x1024, .f32⟩
  | .hbm, ⟨14, _⟩ => ⟨S1024x256, .f32⟩
  | .hbm, ⟨15, _⟩ => ⟨S1024x256, .f32⟩
  | .hbm, ⟨16, _⟩ => ⟨S1024x1536, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S64, .f32⟩
  | .hbm, ⟨26, _⟩ => ⟨S64x1, .f32⟩
  | .hbm, ⟨27, _⟩ => ⟨S1x32, .f32⟩
  | .hbm, ⟨28, _⟩ => ⟨S64x32, .f32⟩
  | .hbm, ⟨29, _⟩ => ⟨S64x32, .f32⟩
  | .hbm, ⟨30, _⟩ => ⟨S64x32, .f32⟩
  | .hbm, ⟨31, _⟩ => ⟨S64, .f32⟩
  | .hbm, ⟨32, _⟩ => ⟨S64x1, .f32⟩
  | .hbm, ⟨33, _⟩ => ⟨S1x32, .f32⟩
  | .hbm, ⟨34, _⟩ => ⟨S64x32, .f32⟩
  | .hbm, ⟨35, _⟩ => ⟨S64x32, .f32⟩
  | .hbm, ⟨36, _⟩ => ⟨S64x32, .f32⟩
  | .hbm, ⟨37, _⟩ => ⟨S64x32, .f32⟩
  | .hbm, ⟨38, _⟩ => ⟨S64x64x32, .f32⟩
  | .hbm, ⟨39, _⟩ => ⟨S4096x32, .f32⟩
  | .hbm, ⟨40, _⟩ => ⟨S64x32, .f32⟩
  | .hbm, ⟨41, _⟩ => ⟨S1x64x1x32, .f32⟩
  | .hbm, ⟨42, _⟩ => ⟨S64x64x1x32, .f32⟩
  | .hbm, ⟨43, _⟩ => ⟨S4096x32, .f32⟩
  | .hbm, ⟨44, _⟩ => ⟨S4096x128, .f32⟩
  | .hbm, ⟨45, _⟩ => ⟨S64x32, .f32⟩
  | .hbm, ⟨46, _⟩ => ⟨S64x64x32, .f32⟩
  | .hbm, ⟨47, _⟩ => ⟨S4096x32, .f32⟩
  | .hbm, ⟨48, _⟩ => ⟨S64x32, .f32⟩
  | .hbm, ⟨49, _⟩ => ⟨S1x64x1x32, .f32⟩
  | .hbm, ⟨50, _⟩ => ⟨S64x64x1x32, .f32⟩
  | .hbm, ⟨51, _⟩ => ⟨S4096x32, .f32⟩
  | .hbm, ⟨52, _⟩ => ⟨S4096x128, .f32⟩
  | .hbm, ⟨53, _⟩ => ⟨S2x1x1024, .f32⟩
  | .hbm, ⟨54, _⟩ => ⟨S1x1x1024, .f32⟩
  | .hbm, ⟨55, _⟩ => ⟨S1x1024, .f32⟩
  | .hbm, ⟨56, _⟩ => ⟨S1024x1536, .bf16⟩
  | .hbm, ⟨57, _⟩ => ⟨S128, .f32⟩
  | .hbm, ⟨58, _⟩ => ⟨S2x2x32, .f32⟩
  | .hbm, ⟨59, _⟩ => ⟨S2x1x32, .f32⟩
  | .hbm, ⟨60, _⟩ => ⟨S2x32, .f32⟩
  | .hbm, ⟨61, _⟩ => ⟨S64, .f32⟩
  | .hbm, ⟨62, _⟩ => ⟨S1x64, .f32⟩
  | .hbm, ⟨63, _⟩ => ⟨S2x64, .f32⟩
  | .hbm, ⟨64, _⟩ => ⟨S128, .f32⟩
  | .hbm, ⟨65, _⟩ => ⟨S1x128, .f32⟩
  | .hbm, ⟨66, _⟩ => ⟨S128, .f32⟩
  | .hbm, ⟨67, _⟩ => ⟨S2x2x32, .f32⟩
  | .hbm, ⟨68, _⟩ => ⟨S2x1x32, .f32⟩
  | .hbm, ⟨69, _⟩ => ⟨S2x32, .f32⟩
  | .hbm, ⟨70, _⟩ => ⟨S64, .f32⟩
  | .hbm, ⟨71, _⟩ => ⟨S1x64, .f32⟩
  | .hbm, ⟨72, _⟩ => ⟨S2x64, .f32⟩
  | .hbm, ⟨73, _⟩ => ⟨S128, .f32⟩
  | .hbm, ⟨74, _⟩ => ⟨S1x128, .f32⟩
  | .hbm, ⟨75, _⟩ => ⟨S128, .f32⟩
  | .hbm, ⟨76, _⟩ => ⟨S2x2x32, .f32⟩
  | .hbm, ⟨77, _⟩ => ⟨S2x1x32, .f32⟩
  | .hbm, ⟨78, _⟩ => ⟨S2x32, .f32⟩
  | .hbm, ⟨79, _⟩ => ⟨S64, .f32⟩
  | .hbm, ⟨80, _⟩ => ⟨S1x64, .f32⟩
  | .hbm, ⟨81, _⟩ => ⟨S2x64, .f32⟩
  | .hbm, ⟨82, _⟩ => ⟨S128, .f32⟩
  | .hbm, ⟨83, _⟩ => ⟨S1x128, .f32⟩
  | .hbm, ⟨84, _⟩ => ⟨S128, .f32⟩
  | .hbm, ⟨85, _⟩ => ⟨S2x2x32, .f32⟩
  | .hbm, ⟨86, _⟩ => ⟨S2x1x32, .f32⟩
  | .hbm, ⟨87, _⟩ => ⟨S2x32, .f32⟩
  | .hbm, ⟨88, _⟩ => ⟨S64, .f32⟩
  | .hbm, ⟨89, _⟩ => ⟨S1x64, .f32⟩
  | .hbm, ⟨90, _⟩ => ⟨S2x64, .f32⟩
  | .hbm, ⟨91, _⟩ => ⟨S128, .f32⟩
  | .hbm, ⟨92, _⟩ => ⟨S1x128, .f32⟩
  | .hbm, ⟨93, _⟩ => ⟨S16x4x16x256x256, .bf16⟩
  | .hbm, ⟨94, _⟩ => ⟨S16x4096x256, .bf16⟩
  | .hbm, ⟨95, _⟩ => ⟨S16x2x144x4096, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1x1024, .f32⟩
  | .local _ .vmem, ⟨5, _⟩ => ⟨S1024x1536, .bf16⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1x4x4x256x256, .bf16⟩
  | .local _ .vmem, ⟨15, _⟩ => ⟨S1x4x4x256x256, .bf16⟩
  | .local _ .vmem, ⟨16, _⟩ => ⟨S1x1024x256, .bf16⟩
  | .local _ .vmem, ⟨17, _⟩ => ⟨S1x1024x256, .bf16⟩
  | .local _ .vmem, ⟨18, _⟩ => ⟨S1x2x144x1024, .bf16⟩
  | .local _ .vmem, ⟨19, _⟩ => ⟨S1x2x144x1024, .bf16⟩
  | .local _ .vmem, ⟨20, _⟩ => ⟨S1024x1024, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85_0 : Ref sig .tc := ⟨.hbm, 93, rfl⟩
abbrev main_v85_1 : Ref sig .tc := ⟨.hbm, 94, rfl⟩
abbrev main_v85_2 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let c0_i32_0 : BitVec 32 := 0#32
  let c0_i32_1 : BitVec 32 := 0#32
  let c0_i32_2 : BitVec 32 := 0#32
  ![c1_i32.toNat, v0.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x4x4x256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x2x144x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Proof.IdealTrip.lean ====
/- The idealized attention body: what it computes from the blocks it is handed, as a function, and one trip of its loop. -/
module

public import proofs.«01_k».proof.Proof.Gen.KernelIdeal.Skeleton
public import proofs.«01_k».proof.Proof.Gen.KernelIdeal.Frame
public import Idealize.ShloMosaic.Lib.Exec
public import Idealize.ShloMosaic.Lib.WritesUnit
public import Idealize.ShloMosaic.Lib.VecWindow
public import Idealize.ShloMosaic.Lib.Pipeline.ReadBack

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem slab_inb (g k : ℕ) (hg : g < 4) : ∀ a : Fin 5, (![0, g, min k 15, 0, 0] : Fin 5 → ℕ) a + S1x1x1x256x256.size a ≤ S1x4x16x256x256.size a := by
  intro a; fin_cases a <;> simp <;> omega

/-- The 256 by 256 slab of queries of head `g` of every group and tile `k` (the last tile, past the end). -/
def slab (x2 : Vec F S1x4x16x256x256 .bf16) (g : Fin 4) (k : ℕ) : Vec F S1x1x1x256x256 .bf16 :=
  VecWindow.window x2 ![0, g.val, min k 15, 0, 0] S1x1x1x256x256.size (slab_inb g.val k g.isLt)

/-- The scores of one head and one tile: the keys by the queries, the rows of the other group zeroed. -/
def score (v42 : IVec S256x1 1) (x2 : Vec F S1x4x16x256x256 .bf16) (x3 : Vec F S1x4096x256 .bf16) (g : Fin 4) (k : ℕ) : FVec F S1x4096x256 .f32 :=
  k0_pay1 v42 (slab x2 g k) x3

/-- The unnormalised weights of a tile of scores. -/
def weights (s : FVec F S1x4096x256 .f32) : FVec F S1x4096x256 .bf16 := k0_pay4 s s

/-- The result of one head and one tile, from its weights. -/
def tile (x4 : Vec F S1x1x144x4096 .bf16) (p : FVec F S1x4096x256 .bf16) : FVec F S1x1x256x128 .bf16 := k0_pay3 x4 p

/-- A row and a column of the result's block, inside their tile. -/
def tileIdx (y : S1x1x4096x512.Idx) : S1x1x256x128.Idx := fun a =>
  match a with
  | ⟨0, _⟩ => (0 : Fin 1)
  | ⟨1, _⟩ => (0 : Fin 1)
  | ⟨2, _⟩ => (⟨(y 2).val % 256, Nat.mod_lt _ (by decide)⟩ : Fin 256)
  | ⟨3, _⟩ => (⟨(y 3).val % 128, Nat.mod_lt _ (by decide)⟩ : Fin 128)

/-- The head of the group that a column of the result's block belongs to. -/
def headOf (y : S1x1x4096x512.Idx) : Fin 4 := ⟨(y 3).val / 128, Nat.div_lt_of_lt_mul (y 3).isLt⟩

/-- What the body leaves in the result's block: tile by tile of 256 queries and head by head. -/
def blockOut (v42 : IVec S256x1 1) (x2 : Vec F S1x4x16x256x256 .bf16) (x3 : Vec F S1x4096x256 .bf16) (x4 : Vec F S1x1x144x4096 .bf16) : Vec F S1x1x4096x512 .bf16 :=
  fun y => tile x4 (weights (score v42 x2 x3 (headOf y) ((y 2).val / 256))) (tileIdx y)

/-- Scores of the first two heads of a tile, as the body keeps them between trips. -/
abbrev held (s0 s1 : FVec F S1x4096x256 .f32) : List (View.Piece (Elt F) S4x4096x256 .f32) :=
  [⟨Rect.unit (s := S4x4096x256) ![1, 0, 0] S1x4096x256.size inb_S4x4096x256_S1x4096x256_1_0_0, s1⟩,
   ⟨Rect.unit (s := S4x4096x256) ![0, 0, 0] S1x4096x256.size inb_S4x4096x256_S1x4096x256_0_0_0, s0⟩]

/-- The four tiles one trip writes into the result's block. -/
abbrev stored (x4 : Vec F S1x1x144x4096 .bf16) (s0 s1 s2 s3 : FVec F S1x4096x256 .f32) (k : Fin k0_t1_loop.trips) : List (View.Piece (Elt F) S1x1x4096x512 .bf16) :=
  [⟨Rect.unit (s := S1x1x4096x512) (k0_off8 k) S1x1x256x128.size (k0_off8_inb k), tile x4 (weights s3)⟩,
   ⟨Rect.unit (s := S1x1x4096x512) (k0_off6 k) S1x1x256x128.size (k0_off6_inb k), tile x4 (weights s2)⟩,
   ⟨Rect.unit (s := S1x1x4096x512) (k0_off4 k) S1x1x256x128.size (k0_off4_inb k), tile x4 (weights s1)⟩,
   ⟨Rect.unit (s := S1x1x4096x512) (k0_off2 k) S1x1x256x128.size (k0_off2_inb k), tile x4 (weights s0)⟩]

section Reads

variable {arg2 : Memref sig .tc .vmem S1x4x16x256x256 .bf16} (harg2 : arg2.IsWhole) (x2 : Vec F S1x4x16x256x256 .bf16)

/-- Loading the queries of head `g` and tile `k` reads their slab. -/
theorem read_slab {off : Fin 5 → ℕ} (g : Fin 4) (k : ℕ) (inb : ∀ a, off a + S1x1x1x256x256.size a ≤ S1x4x16x256x256.size a) (h : off = ![0, g.val, min k 15, 0, 0]) :
    View.readAt (Elt F) arg2.view (Rect.unit (s := S1x4x16x256x256) off S1x1x1x256x256.size inb).toLoadRect (harg2.unread x2) = slab x2 g k := by
  rw [View.readAt_unit _ _ inb h (slab_inb g.val k g.isLt), harg2.read_unread]; rfl

end Reads

/-- Loading a whole buffer reads it. -/
theorem read_all {S : Shape} {e : EltTy} {arg : Memref sig .tc .vmem S e} (h : arg.IsWhole) (x : Vec F S e) {off : Fin S.rank → ℕ} (inb : ∀ a, off a + S.size a ≤ S.size a) :
    View.readAt (Elt F) arg.view (Rect.unit (s := S) off S.size inb).toLoadRect (h.unread x) = x := by
  rw [View.readAt_full, h.read_unread]

/-- Two different slots of the scores' buffer are separated. -/
theorem slots_disj (a b : ℕ) (inb : ∀ d, (![a, 0, 0] : Fin 3 → ℕ) d + S1x4096x256.size d ≤ S4x4096x256.size d)
    (inb' : ∀ d, (![b, 0, 0] : Fin 3 → ℕ) d + S1x4096x256.size d ≤ S4x4096x256.size d) (h : a < b ∨ b < a) :
    LoadRect.disj (Rect.unit (s := S4x4096x256) ![a, 0, 0] S1x4096x256.size inb) (Rect.unit (s := S4x4096x256) ![b, 0, 0] S1x4096x256.size inb').toLoadRect = true := by
  unfold LoadRect.disj
  rw [decide_eq_true_iff]
  refine ⟨(0 : Fin 3), .inr (.inr ?_)⟩
  rcases h with h | h
  · exact .inl h
  · exact .inr h

/-- Reading one of the four slots of the scores' buffer passes over a write of another slot. -/
theorem skip_slot (v : View sig .tc .vmem S4x4096x256 .f32) (a b : ℕ)
    (inb : ∀ d, (![a, 0, 0] : Fin 3 → ℕ) d + S1x4096x256.size d ≤ S4x4096x256.size d)
    (inb' : ∀ d, (![b, 0, 0] : Fin 3 → ℕ) d + S1x4096x256.size d ≤ S4x4096x256.size d) (h : a < b ∨ b < a)
    (w : (Rect.unit (s := S4x4096x256) ![a, 0, 0] S1x4096x256.size inb).shape.Idx → Elt F .f32) (L : List (View.Piece (Elt F) S4x4096x256 .f32)) :
    v.readCov (⟨Rect.unit (s := S4x4096x256) ![a, 0, 0] S1x4096x256.size inb, w⟩ :: L) (Rect.unit (s := S4x4096x256) ![b, 0, 0] S1x4096x256.size inb').toLoadRect
      = v.readCov L (Rect.unit (s := S4x4096x256) ![b, 0, 0] S1x4096x256.size inb').toLoadRect :=
  View.readCov_skip v _ w L _ (slots_disj a b inb inb' h)

/-- One trip: the scores of the tile's first two heads are held; it writes the four heads' tiles and leaves the next tile's first two scores. -/
theorem trip (c : Dev nD) (E : Set ℕ) (i : grid0.Coords)
    (arg2 : Memref sig .tc .vmem S1x4x16x256x256 .bf16) (harg2 : arg2.IsWhole)
    (arg3 : Memref sig .tc .vmem S1x4096x256 .bf16) (harg3 : arg3.IsWhole)
    (arg4 : Memref sig .tc .vmem S1x1x144x4096 .bf16) (harg4 : arg4.IsWhole)
    (arg5 : Memref sig .tc .vmem S1x1x4096x512 .bf16) (harg5 : arg5.IsWhole)
    (arg6 : Memref sig .tc .vmem S4x4096x256 .f32) (harg6 : arg6.IsWhole)
    (arg7 : Memref sig .tc .vmem S2x4096x256 .bf16) (harg7 : arg7.IsWhole) (v42 : IVec S256x1 1)
    (x2 : Vec F S1x4x16x256x256 .bf16) (x3 : Vec F S1x4096x256 .bf16) (x4 : Vec F S1x1x144x4096 .bf16)
    (s0 s1 : FVec F S1x4096x256 .f32) (f5 : BufTy.Contents (Elt F) arg5.view.ty) (f6 : BufTy.Contents (Elt F) arg6.view.ty)
    (f7 : BufTy.Contents (Elt F) arg7.view.ty) (k : Fin k0_t1_loop.trips) :
    iprop((arg2.view.loc (c : Thread nD τ) ↦[arg2.view.set]{fullShare} harg2.unread x2)
      ∗ (arg3.view.loc (c : Thread nD τ) ↦[arg3.view.set]{fullShare} harg3.unread x3)
      ∗ (arg4.view.loc (c : Thread nD τ) ↦[arg4.view.set]{fullShare} harg4.unread x4)
      ∗ (arg5.view.loc (c : Thread nD τ) ↦[arg5.view.set]{fullShare} f5)
      ∗ (arg6.view.loc (c : Thread nD τ) ↦[arg6.view.set]{fullShare} arg6.view.writes (Elt F) f6 (held s0 s1))
      ∗ (arg7.view.loc (c : Thread nD τ) ↦[arg7.view.set]{fullShare} f7) : sProp 𝕄)
    ⊢ wp frame (wpE (defs₀ (F := F)) Variants.none (c : Thread nD τ) none) E
        (k0_t1_body (F := F) i arg2 harg2 arg3 harg3 arg4 harg4 arg5 harg5 arg6 harg6 arg7 harg7 v42 k PUnit.unit)
        (fun _ => iprop((arg2.view.loc (c : Thread nD τ) ↦[arg2.view.set]{fullShare} harg2.unread x2)
          ∗ (arg3.view.loc (c : Thread nD τ) ↦[arg3.view.set]{fullShare} harg3.unread x3)
          ∗ (arg4.view.loc (c : Thread nD τ) ↦[arg4.view.set]{fullShare} harg4.unread x4)
          ∗ (∃ f, (arg5.view.loc (c : Thread nD τ) ↦[arg5.view.set]{fullShare} f)
            ∗ ⌜f = arg5.view.writes (Elt F) f5 (stored x4 s0 s1 (score v42 x2 x3 2 k.val) (score v42 x2 x3 3 k.val) k)⌝)
          ∗ (∃ f, (arg6.view.loc (c : Thread nD τ) ↦[arg6.view.set]{fullShare} f)
            ∗ ⌜∃ g, f = arg6.view.writes (Elt F) g (held (score v42 x2 x3 0 (k.val + 1)) (score v42 x2 x3 1 (k.val + 1)))⌝)
          ∗ (∃ f, (arg7.view.loc (c : Thread nD τ) ↦[arg7.view.set]{fullShare} f)))) := by
  have hk : k.val < 16 := Nat.lt_of_lt_of_le k.isLt k0_t1_abs.2.1
  unfold k0_t1_body
  simp only [k0_part1_eq_skeleton, k0_part2_eq_skeleton, k0_part3_eq_skeleton, k0_part4_eq_skeleton, k0_part5_eq_skeleton]
  iintro ⟨H2, H3, H4, H5, H6, H7⟩
  sl_exec
  sl_step
  have r3 := read_all (F := F) harg3 x3 inb_S1x4096x256_S1x4096x256_0_0_0
  have r4 := read_all (F := F) harg4 x4 inb_S1x1x144x4096_S1x1x144x4096_0_0_0_0
  isplitl [H2]; · iexact H2
  isplitl [H3]; · iexact H3
  isplitl [H4]; · iexact H4
  isplitl [H5]
  · iexists _; isplitl; · iexact H5
    ipureintro
    have e2 := read_slab harg2 x2 2 k.val (k0_off1_inb k) ((k0_off1_eq k).trans (by simp; omega))
    have e3 := read_slab harg2 x2 3 k.val (k0_off3_inb k) ((k0_off3_eq k).trans (by simp; omega))
    delta trip.sl.v227 trip.sl.v229 trip.sl.H7_4 trip.sl.H7_3 trip.sl.H7_2 trip.sl.H7_1 trip.sl.H6_4 trip.sl.H6_5 trip.sl.v199 trip.sl.r_4 trip.sl.v184 trip.sl.v139 trip.sl.r trip.sl.v96 trip.sl.r_3 trip.sl.v111 trip.sl.r_2 trip.sl.r_1 trip.sl.H6_3 trip.sl.v68
    delta trip.sl.v154 trip.sl.H6_4 trip.sl.r_1 trip.sl.r_2 trip.sl.H6_3
    have d := fun a b inb inb' h w L => skip_slot (F := F) arg6.view a b inb inb' h w L
    simp only [held, View.readCov_cons_toLoadRect, d 0 3 _ _ (.inl (by decide)), d 3 2 _ _ (.inr (by decide)), d 2 1 _ _ (.inr (by decide)), d 1 0 _ _ (.inr (by decide)), e2, e3, r3, r4]
    rfl
  isplitl [H6]
  · iexists _; isplitl; · iexact H6
    ipureintro
    have e0 := read_slab harg2 x2 0 (k.val + 1) (k0_off5_inb k) (k0_off5_eq k)
    have e1 := read_slab harg2 x2 1 (k.val + 1) (k0_off7_inb k) (k0_off7_eq k)
    delta trip.sl.H6_5
    simp only [e0, e1, r3]
    exact ⟨_, View.writes_append arg6.view f6 (held (score v42 x2 x3 0 (k.val + 1)) (score v42 x2 x3 1 (k.val + 1))) _⟩
  iexists _; iexact H7

end Cert.KernelIdeal.Attn

end
-- ==== Proof.IdealBody.lean ====
/- The idealized attention body: the loop over the tiles of queries, and the whole body at any point of the grid. -/
module

public import proofs.«01_k».proof.Proof.IdealTrip

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- One of the four tiles of a trip, written where its rows and its head's columns lie, is a piece of the wanted block: it reads the block there, and leaves the rest as found. -/
theorem read_tile (v : View sig .tc .vmem S1x1x4096x512 .bf16) (f : BufTy.Contents (Elt F) v.ty) (x : Vec F S1x1x4096x512 .bf16)
    (off : Fin 4 → ℕ) (inb : ∀ a, off a + S1x1x256x128.size a ≤ S1x1x4096x512.size a) (k h : ℕ) (hoff : off = ![0, 0, 256 * k, 128 * h])
    (w : Vec F S1x1x256x128 .bf16) (L : List (View.Piece (Elt F) S1x1x4096x512 .bf16))
    (hw : ∀ y : S1x1x4096x512.Idx, (y 2).val / 256 = k → (y 3).val / 128 = h → w (tileIdx y) = x y) (y : S1x1x4096x512.Idx)
    (hL : ¬ ((y 2).val / 256 = k ∧ (y 3).val / 128 = h) → v.read (Elt F) (v.writes (Elt F) f L) y = x y) :
    v.read (Elt F) (v.writes (Elt F) f (⟨Rect.unit (s := S1x1x4096x512) off S1x1x256x128.size inb, w⟩ :: L)) y = x y := by
  have h2 : (y 2).val < 4096 := (y 2).isLt
  have h3 : (y 3).val < 512 := (y 3).isLt
  have h0 : (y 0).val = 0 := by have : (y 0).val < 1 := (y 0).isLt; omega
  have h1 : (y 1).val = 0 := by have : (y 1).val < 1 := (y 1).isLt; omega
  by_cases hy : (y 2).val / 256 = k ∧ (y 3).val / 128 = h
  · refine (View.read_writes_cons_unit_of_mem v f inb w L y (tileIdx y) hoff ?_).trans (hw y hy.1 hy.2)
    intro a
    fin_cases a
    · show (y 0).val = 0 + 0; omega
    · show (y 1).val = 0 + 0; omega
    · show (y 2).val = 256 * k + (y 2).val % 256; omega
    · show (y 3).val = 128 * h + (y 3).val % 128; omega
  · by_cases hk : (y 2).val / 256 = k
    · have h3' : ¬ (y 3).val / 128 = h := fun e => hy ⟨hk, e⟩
      refine (View.read_writes_cons_unit_of_not_mem v f inb w L y hoff (3 : Fin 4) ?_).trans (hL hy)
      show (y 3).val < 128 * h ∨ 128 * h + 128 ≤ (y 3).val
      omega
    · refine (View.read_writes_cons_unit_of_not_mem v f inb w L y hoff (2 : Fin 4) ?_).trans (hL hy)
      show (y 2).val < 256 * k ∨ 256 * k + 256 ≤ (y 2).val
      omega

/-- After trip `k` the block's rows below `256 * (k + 1)` are as wanted, if those below `256 * k` were. -/
theorem read_stored (v : View sig .tc .vmem S1x1x4096x512 .bf16) (f : BufTy.Contents (Elt F) v.ty) (v42 : IVec S256x1 1)
    (x2 : Vec F S1x4x16x256x256 .bf16) (x3 : Vec F S1x4096x256 .bf16) (x4 : Vec F S1x1x144x4096 .bf16) (k : Fin k0_t1_loop.trips)
    (hf : ∀ y : S1x1x4096x512.Idx, (y 2).val < 256 * k.val → v.read (Elt F) f y = blockOut v42 x2 x3 x4 y)
    (y : S1x1x4096x512.Idx) (hy : (y 2).val < 256 * (k.val + 1)) :
    v.read (Elt F) (v.writes (Elt F) f (stored x4 (score v42 x2 x3 0 k.val) (score v42 x2 x3 1 k.val) (score v42 x2 x3 2 k.val) (score v42 x2 x3 3 k.val) k)) y
      = blockOut v42 x2 x3 x4 y := by
  have hw (g : Fin 4) (y : S1x1x4096x512.Idx) (h2 : (y 2).val / 256 = k.val) (h3 : (y 3).val / 128 = g.val) :
      tile x4 (weights (score v42 x2 x3 g k.val)) (tileIdx y) = blockOut v42 x2 x3 x4 y := by
    have hg : headOf y = g := Fin.ext h3
    unfold blockOut
    rw [hg, h2]
  have h3 : (y 3).val < 512 := (y 3).isLt
  refine read_tile v f _ _ (k0_off8_inb k) k.val 3 (k0_off8_eq k) _ _ (hw 3) y fun n3 => ?_
  refine read_tile v f _ _ (k0_off6_inb k) k.val 2 (k0_off6_eq k) _ _ (hw 2) y fun n2 => ?_
  refine read_tile v f _ _ (k0_off4_inb k) k.val 1 (k0_off4_eq k) _ _ (hw 1) y fun n1 => ?_
  refine read_tile v f _ _ (k0_off2_inb k) k.val 0 (k0_off2_eq k) _ _ (hw 0) y fun n0 => ?_
  exact hf y (by omega)

/-- Before trip `k`: the operands' blocks in place, the result's rows below `256 * k` as wanted, the scores of the next tile's first two heads held. -/
abbrev inv (c : Dev nD) (arg2 : Memref sig .tc .vmem S1x4x16x256x256 .bf16) (harg2 : arg2.IsWhole)
    (arg3 : Memref sig .tc .vmem S1x4096x256 .bf16) (harg3 : arg3.IsWhole)
    (arg4 : Memref sig .tc .vmem S1x1x144x4096 .bf16) (harg4 : arg4.IsWhole)
    (arg5 : Memref sig .tc .vmem S1x1x4096x512 .bf16) (harg5 : arg5.IsWhole)
    (arg6 : Memref sig .tc .vmem S4x4096x256 .f32) (harg6 : arg6.IsWhole)
    (arg7 : Memref sig .tc .vmem S2x4096x256 .bf16) (harg7 : arg7.IsWhole) (v42 : IVec S256x1 1)
    (x2 : Vec F S1x4x16x256x256 .bf16) (x3 : Vec F S1x4096x256 .bf16) (x4 : Vec F S1x1x144x4096 .bf16) (k : ℕ) : sProp 𝕄 :=
  iprop((arg2.view.loc (c : Thread nD τ) ↦[arg2.view.set]{fullShare} harg2.unread x2)
      ∗ (arg3.view.loc (c : Thread nD τ) ↦[arg3.view.set]{fullShare} harg3.unread x3)
      ∗ (arg4.view.loc (c : Thread nD τ) ↦[arg4.view.set]{fullShare} harg4.unread x4)
      ∗ (∃ f, (arg5.view.loc (c : Thread nD τ) ↦[arg5.view.set]{fullShare} f)
        ∗ ⌜∀ y : S1x1x4096x512.Idx, (y 2).val < 256 * k → arg5.view.read (Elt F) f y = blockOut v42 x2 x3 x4 y⌝)
      ∗ (∃ f, (arg6.view.loc (c : Thread nD τ) ↦[arg6.view.set]{fullShare} f)
        ∗ ⌜∃ g, f = arg6.view.writes (Elt F) g (held (score v42 x2 x3 0 k) (score v42 x2 x3 1 k))⌝)
      ∗ (∃ f, (arg7.view.loc (c : Thread nD τ) ↦[arg7.view.set]{fullShare} f)))

/-- The loop over the tiles keeps it. -/
theorem tiles (c : Dev nD) (E : Set ℕ) (i : grid0.Coords) (arg2 : Memref sig .tc .vmem S1x4x16x256x256 .bf16) (harg2 : arg2.IsWhole)
    (arg3 : Memref sig .tc .vmem S1x4096x256 .bf16) (harg3 : arg3.IsWhole)
    (arg4 : Memref sig .tc .vmem S1x1x144x4096 .bf16) (harg4 : arg4.IsWhole)
    (arg5 : Memref sig .tc .vmem S1x1x4096x512 .bf16) (harg5 : arg5.IsWhole)
    (arg6 : Memref sig .tc .vmem S4x4096x256 .f32) (harg6 : arg6.IsWhole)
    (arg7 : Memref sig .tc .vmem S2x4096x256 .bf16) (harg7 : arg7.IsWhole) (v42 : IVec S256x1 1)
    (x2 : Vec F S1x4x16x256x256 .bf16) (x3 : Vec F S1x4096x256 .bf16) (x4 : Vec F S1x1x144x4096 .bf16) (k : Fin k0_t1_loop.trips) (acc : Unit) :
    inv (F := F) c arg2 harg2 arg3 harg3 arg4 harg4 arg5 harg5 arg6 harg6 arg7 harg7 v42 x2 x3 x4 k.val
    ⊢ wp frame (wpE (defs₀ (F := F)) Variants.none (c : Thread nD τ) none) E (k0_t1_body (F := F) i arg2 harg2 arg3 harg3 arg4 harg4 arg5 harg5 arg6 harg6 arg7 harg7 v42 k acc)
        (fun _ => inv (F := F) c arg2 harg2 arg3 harg3 arg4 harg4 arg5 harg5 arg6 harg6 arg7 harg7 v42 x2 x3 x4 (k.val + 1)) := by
  iintro ⟨H2, H3, H4, ⟨%f5, H5, %h5⟩, ⟨%f6, H6, %h6⟩, ⟨%f7, H7⟩⟩
  obtain ⟨g6, rfl⟩ := h6
  iapply (wp_wand_r Idealize.ShloMosaic.frame (wpE (defs₀ (F := F)) Variants.none (c : Thread nD τ) none) E)
  isplitl [H2 H3 H4 H5 H6 H7]
  · iapply (trip (F := F) c E i arg2 harg2 arg3 harg3 arg4 harg4 arg5 harg5 arg6 harg6 arg7 harg7 v42 x2 x3 x4 (score v42 x2 x3 0 k.val) (score v42 x2 x3 1 k.val) f5 g6 f7 k)
    isplitl [H2]; · iexact H2
    isplitl [H3]; · iexact H3
    isplitl [H4]; · iexact H4
    isplitl [H5]; · iexact H5
    isplitl [H6]; · iexact H6
    iexact H7
  · iintro %_ ⟨H2, H3, H4, ⟨%g5, H5, %e5⟩, H6, H7⟩
    subst e5
    isplitl [H2]; · iexact H2
    isplitl [H3]; · iexact H3
    isplitl [H4]; · iexact H4
    isplitl [H5]
    · iexists _; isplitl [H5]; · iexact H5
      ipureintro
      exact read_stored arg5.view f5 v42 x2 x3 x4 k h5
    isplitl [H6]; · iexact H6
    iexact H7

/-- The whole body, from the operands' blocks and anything in the result's block and the scratches, to the result's block as wanted. -/
theorem body (c : Dev nD) (E : Set ℕ) (i : grid0.Coords) (arg2 : Memref sig .tc .vmem S1x4x16x256x256 .bf16) (harg2 : arg2.IsWhole)
    (arg3 : Memref sig .tc .vmem S1x4096x256 .bf16) (harg3 : arg3.IsWhole)
    (arg4 : Memref sig .tc .vmem S1x1x144x4096 .bf16) (harg4 : arg4.IsWhole)
    (arg5 : Memref sig .tc .vmem S1x1x4096x512 .bf16) (harg5 : arg5.IsWhole)
    (arg6 : Memref sig .tc .vmem S4x4096x256 .f32) (harg6 : arg6.IsWhole)
    (arg7 : Memref sig .tc .vmem S2x4096x256 .bf16) (harg7 : arg7.IsWhole)
    (x2 : Vec F S1x4x16x256x256 .bf16) (x3 : Vec F S1x4096x256 .bf16) (x4 : Vec F S1x1x144x4096 .bf16)
    (f5 : BufTy.Contents (Elt F) arg5.view.ty) (f6 : BufTy.Contents (Elt F) arg6.view.ty) (f7 : BufTy.Contents (Elt F) arg7.view.ty) :
    iprop((arg2.view.loc (c : Thread nD τ) ↦[arg2.view.set]{fullShare} harg2.unread x2)
      ∗ (arg3.view.loc (c : Thread nD τ) ↦[arg3.view.set]{fullShare} harg3.unread x3)
      ∗ (arg4.view.loc (c : Thread nD τ) ↦[arg4.view.set]{fullShare} harg4.unread x4)
      ∗ (arg5.view.loc (c : Thread nD τ) ↦[arg5.view.set]{fullShare} f5)
      ∗ (arg6.view.loc (c : Thread nD τ) ↦[arg6.view.set]{fullShare} f6)
      ∗ (arg7.view.loc (c : Thread nD τ) ↦[arg7.view.set]{fullShare} f7) : sProp 𝕄)
    ⊢ wp frame (wpE (defs₀ (F := F)) Variants.none (c : Thread nD τ) none) E
        (cc0_gqa_attention (F := F) i arg2 harg2 arg3 harg3 arg4 harg4 arg5 harg5 arg6 harg6 arg7 harg7)
        (fun _ => iprop((arg2.view.loc (c : Thread nD τ) ↦[arg2.view.set]{fullShare} harg2.unread x2)
          ∗ (arg3.view.loc (c : Thread nD τ) ↦[arg3.view.set]{fullShare} harg3.unread x3)
          ∗ (arg4.view.loc (c : Thread nD τ) ↦[arg4.view.set]{fullShare} harg4.unread x4)
          ∗ (arg5.view.loc (c : Thread nD τ) ↦[arg5.view.set]{fullShare} harg5.unread (blockOut (k0_pay22 i) x2 x3 x4))
          ∗ (∃ f, (arg6.view.loc (c : Thread nD τ) ↦[arg6.view.set]{fullShare} f))
          ∗ (∃ f, (arg7.view.loc (c : Thread nD τ) ↦[arg7.view.set]{fullShare} f)))) := by
  rw [cc0_gqa_attention_eq_skeleton]
  unfold cc0_gqa_attention_skel
  simp only [k0_part6_eq_skeleton]
  iintro ⟨H2, H3, H4, H5, H6, H7⟩
  have e0 := read_slab harg2 x2 0 0 (off := ![0, 0, 0, 0, 0]) inb_S1x4x16x256x256_S1x1x1x256x256_0_0_0_0_0 rfl
  have e1 := read_slab harg2 x2 1 0 (off := ![0, 1, 0, 0, 0]) inb_S1x4x16x256x256_S1x1x1x256x256_0_1_0_0_0 rfl
  have r3 := read_all (F := F) harg3 x3 inb_S1x4096x256_S1x4096x256_0_0_0
  unfold k0_part6_skel
  generalize hL : Scf.Loop.for (σ := PUnit) k0_t1_loop k0_t1_ok = L
  sl_exec
  subst hL
  ihave HI : iprop(inv (F := F) c arg2 harg2 arg3 harg3 arg4 harg4 arg5 harg5 arg6 harg6 arg7 harg7 (k0_pay22 i) x2 x3 x4 0) $$ [H2 H3 H4 H5 H6 H7]
  · isplitl [H2]; · iexact H2
    isplitl [H3]; · iexact H3
    isplitl [H4]; · iexact H4
    isplitl [H5]
    · iexists _; isplitl [H5]; · iexact H5
      ipureintro
      intro y hy
      exact absurd hy (by omega)
    isplitl [H6]
    · iexists _; isplitl [H6]; · iexact H6
      ipureintro
      exact ⟨f6, rfl⟩
    iexists _; iexact H7
  iapply (Scf.wp_for_bind Idealize.ShloMosaic.frame (wpE (defs₀ (F := F)) Variants.none (c : Thread nD τ) none) E k0_t1_loop.lb k0_t1_loop.ub k0_t1_loop.st k0_t1_ok ()
    (k0_t1_body (F := F) i arg2 harg2 arg3 harg3 arg4 harg4 arg5 harg5 arg6 harg6 arg7 harg7 (k0_pay22 i)) (fun k _ => inv (F := F) c arg2 harg2 arg3 harg3 arg4 harg4 arg5 harg5 arg6 harg6 arg7 harg7 (k0_pay22 i) x2 x3 x4 k)
    (tiles (F := F) c E i arg2 harg2 arg3 harg3 arg4 harg4 arg5 harg5 arg6 harg6 arg7 harg7 (k0_pay22 i) x2 x3 x4)) $$ HI
  iintro %_ ⟨H2, H3, H4, ⟨%g5, H5, %h5⟩, ⟨%g6, H6, %h6⟩, ⟨%g7, H7⟩⟩
  have hg : g5 = harg5.unread (blockOut (k0_pay22 i) x2 x3 x4) := by
    refine harg5.eq_unread ?_
    funext y
    exact h5 y (Nat.lt_of_lt_of_le (y 2).isLt (by decide))
  subst hg
  sl_step
  isplitl [H2]; · iexact H2
  isplitl [H3]; · iexact H3
  isplitl [H4]; · iexact H4
  isplitl [H5]; · iexact H5
  isplitl [H6]
  · iexists _; iexact H6
  iexists _; iexact H7

end Cert.KernelIdeal.Attn

end
-- ==== Proof.IdealFrame.lean ====
/- The idealized attention call: its pipeline's proof data, the body obligation at every point, its run and its frame. -/
module

public import proofs.«01_k».proof.Proof.IdealBody
public import Idealize.ShloMosaic.Lib.Claim

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result's block at point `t`: the body's function of the operands' blocks there. -/
def outAt (c : Dev nD) (t : Fin cfg0.N) : Vec F S1x1x4096x512 .bf16 :=
  blockOut (k0_pay22 (grid0.coords t)) (iblk m c 0 t) (iblk m c 1 t) (iblk m c 2 t)

/-- The proof data: every operand's block is left in place and the result's is `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Pipeline.ΦA spec0 c
  q _ := fullShare
  owed _ := 0

/-- The arrays are as the region finds them. -/
theorem arrays (c : Dev nD) (w : Fin cfg0.W) : (dats m 0 c).A w = V m c (Pipeline.arrRef spec0 w) := by dsimp only [dats]

theorem after_q (c : Dev nD) (t : Fin cfg0.N) : (dats m 0 c).after 0 t = iblk m c 0 t := by dsimp only [dats]
theorem after_k (c : Dev nD) (t : Fin cfg0.N) : (dats m 0 c).after 1 t = iblk m c 1 t := by dsimp only [dats]
theorem after_v (c : Dev nD) (t : Fin cfg0.N) : (dats m 0 c).after 2 t = iblk m c 2 t := by dsimp only [dats]
theorem after_o (c : Dev nD) (t : Fin cfg0.N) : (dats m 0 c).after 3 t = outAt m c t := by dsimp only [dats]

theorem before_q (c : Dev nD) (t : Fin cfg0.N) (d) : (dats m 0 c).before 0 t d = iblk m c 0 t :=
  before0_0_of m (dats m 0 c) (arrays m c 0) (after_q m c) t d
theorem before_k (c : Dev nD) (t : Fin cfg0.N) (d) : (dats m 0 c).before 1 t d = iblk m c 1 t :=
  before0_1_of m (dats m 0 c) (arrays m c 1) (after_k m c) t d
theorem before_v (c : Dev nD) (t : Fin cfg0.N) (d) : (dats m 0 c).before 2 t d = iblk m c 2 t :=
  before0_2_of m (dats m 0 c) (arrays m c 2) (after_v m c) t d

/-- The body's two scratch buffers at some contents, and the generator's register. -/
theorem scratch (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d))
        ∗ (∃ r, prngReg c r)) := by
  unfold Pipeline.ΦA
  rw [scopedRest0_eq]
  simp only [owns_whole]
  try rfl

/-- What the body is handed at point `t`. -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What it hands back. -/
def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point. -/
theorem body_at (c : Dev nD) (t : Fin cfg0.N) :
    pre m c t ⊢ wp frame (wpE (defs₀ (F := F)) Variants.none c none) Set.univ (bodyAt0 t) (fun _ => post m c t) := by
  unfold pre post bodyAt0
  simp only [before_q, before_k, before_v]
  rw [show (dats m 0 c).Φ t.succ = (dats m 0 c).Φ t.castSucc from rfl,
    show (dats m 0 c).owesAt () t.succ = (dats m 0 c).owesAt () t.castSucc from rfl,
    after_q, after_k, after_v, after_o]
  rw [show (dats m 0 c).Φ t.castSucc = Pipeline.ΦA spec0 c from rfl, scratch]
  unfold owns
  iintro ⟨⟨⟨⟨%ds, %fs, %hs, HS⟩, ⟨%dw, %fw, %hw, HW⟩⟩, Hg⟩, Ho, ⟨%d0, %f0, %h0, H0⟩, ⟨%d1, %f1, %h1, H1⟩, ⟨%d2, %f2, %h2, H2⟩, ⟨%d3, %f3, %h3, H3⟩⟩
  obtain rfl := (hstage0_0 ((cfg0.slots t 0).cast nbuf0_0)).eq_unread h0
  obtain rfl := (hstage0_1 ((cfg0.slots t 1).cast nbuf0_1)).eq_unread h1
  obtain rfl := (hstage0_2 ((cfg0.slots t 2).cast nbuf0_2)).eq_unread h2
  iapply (wp_wand_r Idealize.ShloMosaic.frame (wpE (defs₀ (F := F)) Variants.none (c : Thread nD τ) none) Set.univ)
  isplitl [H0 H1 H2 H3 HS HW]
  · iapply (body (F := F) c Set.univ (grid0.coords t) _ _ _ _ _ _ _ _ _ _ _ _ (iblk m c 0 t) (iblk m c 1 t) (iblk m c 2 t) f3 fs fw)
    isplitl [H0]; · iexact H0
    isplitl [H1]; · iexact H1
    isplitl [H2]; · iexact H2
    isplitl [H3]; · iexact H3
    isplitl [HS]; · iexact HS
    iexact HW
  iintro %_ ⟨H0, H1, H2, H3, ⟨%gs, HS⟩, ⟨%gw, HW⟩⟩
  isplitl [HS HW Hg]
  · isplitl [HS HW]
    · isplitl [HS]
      · iexists _; iexists _; isplitr
        swap; · iexact HS
        ipureintro; rfl
      · iexists _; iexists _; isplitr
        swap; · iexact HW
        ipureintro; rfl
    iexact Hg
  isplitl [Ho]; · iexact Ho
  isplitl [H0]
  · iexists _; isplitr
    swap; · iexact H0
    ipureintro; exact h0
  isplitl [H1]
  · iexists _; isplitr
    swap; · iexact H1
    ipureintro; exact h1
  isplitl [H2]
  · iexists _; isplitr
    swap; · iexact H2
    ipureintro; exact h2
  iexists _; isplitr
  swap; · iexact H3
  ipureintro; exact (hstage0_3 ((cfg0.slots t 3).cast nbuf0_3)).read_unread _

/-- The body the pipeline calls at point `t` is `bodyAt0 t`. -/
theorem row (t : Fin cfg0.N) : defs₀ (F := F) .tc cfg0.body (cfg0.bodyArgs t (cfg0.slots t)) = bodyAt0 t := by
  unfold defs₀; rw [Defs.onTc_tc]

/-- The body's obligation, at every point. -/
theorem obligation (c : Dev nD) : BodyObligation (dats (F := F) m 0 c) (defs₀ (F := F)) Variants.none () Set.univ := fun t => by
  rw [bigSep_W0, bigSep_W0, row]
  exact triple_restated (body_at m c t) rfl .rfl fun _ => .rfl

set_option backward.isDefEq.respectTransparency.types false in
/-- Every execution ends, with the arrays at what the proof data says and every semaphore at zero. -/
theorem run_quiet : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := arrays m) (hΦ := fun _ _ => rfl)

/-- Every execution ends, with the arrays at what the proof data says. -/
theorem run_arrays : θ_run defs (onTc (τ := τ) (main (F := F))) (s₀ m ρ) (Pipeline.FramePost cfgs (dats m) 0 (V m)) :=
  (θ_run defs _ _).mono (fun _ h => h.1) (run_quiet m ρ)

/-- The frame: every execution ends, the arguments unchanged and every semaphore at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (arrays m) (run_arrays m ρ)) ((θ_run defs _ _).mono (fun _ h => h.2) (run_quiet m ρ))

end Cert.KernelIdeal.Attn

end
-- ==== Proof.SoftmaxEq.lean ====
/- The equation behind the attention, over extended reals: weights taken to base two of scores divided by log 2, divided
   after the sum over the keys, are the softmax of the scores. -/
module

public import Idealize.ShloMosaic.Lib.Pointwise

@[expose] public section

noncomputable section

open Idealize.ShloMosaic

namespace Cert.Softmax

/-- The product of two rows. -/
def dot {n : ℕ} (a b : Fin n → EReal) : EReal := ∑ d, a d * b d

/-- A nonnegative real factor moves into a sum of extended reals. -/
theorem sum_mul_real {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih, mul_comm, EReal.left_distrib_of_nonneg_of_ne_top (by exact_mod_cast hc) (EReal.coe_ne_top c),
      mul_comm _ (f a), mul_comm (c : EReal)]

/-- A sum of finite extended reals is the sum of the reals. -/
theorem sum_real {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The maximum of finitely many reals is one of them. -/
theorem max_real {ι : Type} [Fintype ι] (f : ι → ℝ) (k0 : ι) (h : ∀ k, f k ≤ f k0) :
    Finset.univ.fold max (⊥ : EReal) (fun k => (f k : EReal)) = (f k0 : EReal) := by
  refine le_antisymm ((Finset.fold_max_le _).2 ⟨bot_le, fun k _ => by exact_mod_cast h k⟩) ?_
  exact (Finset.le_fold_max _).2 (.inr ⟨k0, Finset.mem_univ _, le_rfl⟩)

/-- Two to a power over log 2 is the exponential of the power. -/
theorem exp2_real (x : ℝ) : Ideal.exp2 ((x * (1 / Real.log 2) : ℝ) : EReal) = (Real.exp x : EReal) := by
  show ((Real.rpow 2 (x * (1 / Real.log 2)) : ℝ) : EReal) = _
  have h2 : Real.log 2 ≠ 0 := (Real.log_pos one_lt_two).ne'
  have h : Real.rpow 2 (x * (1 / Real.log 2)) = Real.exp x := by
    show (2 : ℝ) ^ (x * (1 / Real.log 2)) = _
    rw [Real.rpow_def_of_pos two_pos]
    congr 1
    field_simp
  rw [h]

/-- Over finite scores: the values summed with weights to base two of the scaled scores, over the weights' sum, are the
    values summed with the softmax of the scores. -/
theorem softmax_eq {ι : Type} [Fintype ι] [Nonempty ι] (s : ι → ℝ) (v : ι → EReal) :
    Ideal.div
      (∑ k, v k * Ideal.exp2 ((s k : EReal) * ((1 / Real.log 2 : ℝ) : EReal)
        - Finset.univ.fold max ⊥ fun k => (s k : EReal) * ((1 / Real.log 2 : ℝ) : EReal)))
      (∑ k, Ideal.exp2 ((s k : EReal) * ((1 / Real.log 2 : ℝ) : EReal)
        - Finset.univ.fold max ⊥ fun k => (s k : EReal) * ((1 / Real.log 2 : ℝ) : EReal)))
      = ∑ k, v k * Ideal.div (Ideal.exp ((s k : EReal) - Finset.univ.fold max ⊥ fun k => (s k : EReal)))
          (∑ k, Ideal.exp ((s k : EReal) - Finset.univ.fold max ⊥ fun k => (s k : EReal))) := by
  obtain ⟨k0, -, hk0⟩ := Finset.exists_max_image Finset.univ s Finset.univ_nonempty
  have hc : 0 ≤ 1 / Real.log 2 := (one_div_pos.2 (Real.log_pos one_lt_two)).le
  have e1 : (Finset.univ.fold max ⊥ fun k => (s k : EReal) * ((1 / Real.log 2 : ℝ) : EReal)) = ((s k0 * (1 / Real.log 2) : ℝ) : EReal) := by
    simp only [← EReal.coe_mul]
    exact max_real (fun k => s k * (1 / Real.log 2)) k0 fun k => mul_le_mul_of_nonneg_right (hk0 k (Finset.mem_univ _)) hc
  rw [e1, max_real s k0 fun k => hk0 k (Finset.mem_univ _)]
  have e2 (k : ι) : Ideal.exp2 ((s k : EReal) * ((1 / Real.log 2 : ℝ) : EReal) - ((s k0 * (1 / Real.log 2) : ℝ) : EReal))
      = ((Real.exp (s k - s k0) : ℝ) : EReal) := by
    rw [← EReal.coe_mul, ← EReal.coe_sub, ← sub_mul, exp2_real]
  have e3 (k : ι) : Ideal.exp ((s k : EReal) - (s k0 : EReal)) = ((Real.exp (s k - s k0) : ℝ) : EReal) := by
    rw [← EReal.coe_sub]; rfl
  simp only [e2, e3]
  rw [sum_real]
  have hL : 0 < ∑ k, Real.exp (s k - s k0) := Finset.sum_pos (fun k _ => Real.exp_pos _) Finset.univ_nonempty
  simp only [Ideal.div_coe hL.ne']
  rw [sum_mul_real _ _ _ (one_div_pos.2 hL).le]
  exact Finset.sum_congr rfl fun k _ => mul_assoc _ _ _

/-- A sum of products of finite extended reals is a real. -/
theorem dot_real {ι : Type} [Fintype ι] (a b : ι → EReal) (ha : ∀ i, a i ≠ ⊤ ∧ a i ≠ ⊥) (hb : ∀ i, b i ≠ ⊤ ∧ b i ≠ ⊥) :
    ∃ r : ℝ, ∑ i, a i * b i = (r : EReal) := by
  refine ⟨∑ i, (a i).toReal * (b i).toReal, ?_⟩
  rw [← sum_real]
  refine Finset.sum_congr rfl fun i _ => ?_
  rw [EReal.coe_mul, EReal.coe_toReal (ha i).1 (ha i).2, EReal.coe_toReal (hb i).1 (hb i).2]

/-- The word of 2. -/
theorem two_word : Ideal.ofBits .f32 0x40000000#32 = ((2 : ℝ) : EReal) := by
  simp [Ideal.ofBits, Ideal.ieee, -EReal.coe_mul]
  norm_num

/-- The word of −∞. -/
theorem bot_word : Ideal.ofBits .f32 0xFF800000#32 = (⊥ : EReal) := by
  simp [Ideal.ofBits, Ideal.ieee]

/-- Division by log 2 is the product with its reciprocal. -/
theorem div_log_two (x : EReal) : Ideal.div x (Ideal.log (Ideal.ofBits .f32 0x40000000#32)) = x * ((1 / Real.log 2 : ℝ) : EReal) := by
  have h : Ideal.log (Ideal.ofBits .f32 0x40000000#32) = ((Real.log 2 : ℝ) : EReal) := by
    rw [two_word]
    show (if (2 : ℝ) ≤ 0 then (⊥ : EReal) else (Real.log 2 : EReal)) = _
    rw [if_neg (by norm_num)]
  rw [h, Ideal.div_coe (Real.log_pos one_lt_two).ne']

end Cert.Softmax

end
-- ==== Proof.IdealBlockValue.lean ====
/- The idealized attention call: what its body computes in the result's block, at an index. -/
module

public import proofs.«01_k».proof.Proof.IdealTrip
public import Idealize.ShloMosaic.Lib.Pointwise
public import proofs.«01_k».proof.Proof.SoftmaxEq

set_option maxRecDepth 16384

@[expose] public section

noncomputable section

open Idealize.ShloMosaic Idealize.ShloMosaic.TcCoe Idealize.SL.Sem

namespace Cert.KernelIdeal.Attn

open Cert.KernelIdeal Cert.KernelIdeal.Gen

/-- An entry of a tile's scores: the key's row by the query's column, over the rows the mask keeps. -/
theorem score_at (v42 : IVec S256x1 1) (x2 : FVec Ideal S1x4x16x256x256 .bf16) (x3 : FVec Ideal S1x4096x256 .bf16) (g : Fin 4) (k : Fin 16)
    (r : Fin 4096) (q : Fin 256) :
    score (F := Ideal) v42 x2 x3 g k.val (ix3 0 r q)
      = ∑ x : Fin 256, Scalar.select (v42 (ix2 x 0)) (x3 (ix3 0 r x) * x2 (ix5 0 g k x q) : EReal) 0 := by
  unfold score slab
  pointwise [k0_pay1]
  refine Finset.sum_congr rfl fun x _ => ?_
  have e : VecWindow.window x2 ![0, g.val, min k.val 15, 0, 0] ![1, 1, 1, 256, 256] (slab_inb g.val k.val g.isLt) (ix5 0 0 0 x q) = x2 (ix5 0 g k x q) := by
    unfold VecWindow.window
    refine congrArg x2 ?_
    funext a
    apply Fin.ext
    have hk := k.isLt
    match a with
    | ⟨0, _⟩ => simp
    | ⟨1, _⟩ => simp
    | ⟨2, _⟩ => simp; omega
    | ⟨3, _⟩ => simp
    | ⟨4, _⟩ => simp
  rw [e]

/-- An entry of a tile's weights: two to the score less its column's maximum. -/
theorem weights_at (s : FVec Ideal S1x4096x256 .f32) (r : Fin 4096) (q : Fin 256) :
    weights (F := Ideal) s (ix3 0 r q)
      = Ideal.exp2 (s (ix3 0 r q) - Finset.univ.fold max (⊥ : EReal) fun x : Fin 4096 => s (ix3 0 x q)) := by
  rw [← Cert.Softmax.bot_word]
  unfold weights
  pointwise [k0_pay4]
  rfl

/-- An entry of a tile's result: the value column's product with the weights, over the product of the row of ones. -/
theorem tile_at (x4 : FVec Ideal S1x1x144x4096 .bf16) (p : FVec Ideal S1x4096x256 .bf16) (q : Fin 256) (e : Fin 128) :
    tile (F := Ideal) x4 p (ix4 0 0 q e)
      = Ideal.div (∑ r : Fin 4096, (x4 (ix4 0 0 ⟨e.val, by omega⟩ r) * p (ix3 0 r q) : EReal)) (∑ r : Fin 4096, (x4 (ix4 0 0 128 r) * p (ix3 0 r q) : EReal)) := by
  unfold tile
  pointwise [k0_pay3]

/-- The scores of one query with every key, as the body computes them. -/
def rowScores (v42 : IVec S256x1 1) (x2 : FVec Ideal S1x4x16x256x256 .bf16) (x3 : FVec Ideal S1x4096x256 .bf16) (g : Fin 4) (k : Fin 16) (q : Fin 256)
    (r : Fin 4096) : EReal :=
  ∑ x : Fin 256, Scalar.select (v42 (ix2 x 0)) (x3 (ix3 0 r x) * x2 (ix5 0 g k x q) : EReal) 0

/-- An entry of the block the body leaves. -/
theorem blockOut_at (v42 : IVec S256x1 1) (x2 : FVec Ideal S1x4x16x256x256 .bf16) (x3 : FVec Ideal S1x4096x256 .bf16) (x4 : FVec Ideal S1x1x144x4096 .bf16)
    (n : Fin 4096) (e : Fin 512) :
    blockOut (F := Ideal) v42 x2 x3 x4 (ix4 0 0 n e)
      = Ideal.div
        (∑ r : Fin 4096, (x4 (ix4 0 0 ⟨e.val % 128, by omega⟩ r)
          * Ideal.exp2 (rowScores v42 x2 x3 ⟨e.val / 128, by omega⟩ ⟨n.val / 256, by omega⟩ ⟨n.val % 256, by omega⟩ r
            - Finset.univ.fold max (⊥ : EReal) (rowScores v42 x2 x3 ⟨e.val / 128, by omega⟩ ⟨n.val / 256, by omega⟩ ⟨n.val % 256, by omega⟩)) : EReal))
        (∑ r : Fin 4096, (x4 (ix4 0 0 128 r)
          * Ideal.exp2 (rowScores v42 x2 x3 ⟨e.val / 128, by omega⟩ ⟨n.val / 256, by omega⟩ ⟨n.val % 256, by omega⟩ r
            - Finset.univ.fold max (⊥ : EReal) (rowScores v42 x2 x3 ⟨e.val / 128, by omega⟩ ⟨n.val / 256, by omega⟩ ⟨n.val % 256, by omega⟩)) : EReal)) := by
  have ht : tileIdx (ix4 0 0 n e) = ix4 0 0 ⟨n.val % 256, by omega⟩ ⟨e.val % 128, by omega⟩ := by
    funext a
    match a with
    | ⟨0, _⟩ => rfl
    | ⟨1, _⟩ => rfl
    | ⟨2, _⟩ => rfl
    | ⟨3, _⟩ => rfl
  unfold blockOut
  rw [ht]
  refine (tile_at _ _ _ _).trans ?_
  have hw (r : Fin 4096) := (weights_at (score (F := Ideal) v42 x2 x3 ⟨e.val / 128, by omega⟩ (n.val / 256)) r ⟨n.val % 256, by omega⟩)
  have hs (r : Fin 4096) : score (F := Ideal) v42 x2 x3 ⟨e.val / 128, by omega⟩ (n.val / 256) (ix3 0 r ⟨n.val % 256, by omega⟩)
      = rowScores v42 x2 x3 ⟨e.val / 128, by omega⟩ ⟨n.val / 256, by omega⟩ ⟨n.val % 256, by omega⟩ r :=
    score_at v42 x2 x3 ⟨e.val / 128, by omega⟩ ⟨n.val / 256, by omega⟩ r ⟨n.val % 256, by omega⟩
  simp only [hs] at hw
  exact congrArg₂ Ideal.div (Finset.sum_congr rfl fun r _ => congrArg _ (hw r)) (Finset.sum_congr rfl fun r _ => congrArg _ (hw r))

end Cert.KernelIdeal.Attn

end
-- ==== Proof.IdealHostValue.lean ====
/- The idealized attention call: what the arrays it is called with hold, and which rows its mask keeps. -/
module

public import proofs.«01_k».proof.Proof.IdealFrame
public import Idealize.ShloMosaic.Lib.Pointwise
public import Idealize.ShloMosaic.Lib.Pipeline.ValueKit

set_option maxRecDepth 16384

@[expose] public section

noncomputable section

open Idealize.ShloMosaic Idealize.ShloMosaic.TcCoe Idealize.SL.Sem

namespace Cert.KernelIdeal.Attn

open Cert.KernelIdeal Cert.KernelIdeal.Gen

variable (m : (ℓ : Loc nD τ sig) → Buf (Elt Ideal) ℓ)

/-- The prepared keys: a group's coordinates laid out in quarters of 32. -/
theorem keys_at (c : Dev nD) (b : Fin 16) (r : Fin 4096) (x : Fin 256) :
    (show FVec Ideal S16x4096x256 .bf16 from V m c main_v13) (ix3 b r x)
      = (show FVec Ideal S16x4096x2x128 .f32 from m ((c : Thread nD τ).loc main_arg1)) (ix4 b r ⟨x.val / 64 % 2, by omega⟩ ⟨x.val / 32 % 2 * 64 + x.val / 128 * 32 + x.val % 32, by omega⟩) := by
  entry_read
  pointwise

/-- The prepared values: transposed, with rows of ones below. -/
theorem values_at (c : Dev nD) (b : Fin 16) (h : Fin 2) (e : Fin 144) (r : Fin 4096) :
    (show FVec Ideal S16x2x144x4096 .bf16 from V m c main_v14) (ix4 b h e r)
      = if h1 : e.val < 128 then (show FVec Ideal S16x4096x2x128 .f32 from m ((c : Thread nD τ).loc main_arg2)) (ix4 b r h ⟨e.val, h1⟩) else 1 := by
  entry_read
  pointwise

/-- The prepared queries: divided by log 2 and laid out like the keys, a query to a column. -/
theorem queries_at (c : Dev nD) (b : Fin 16) (g : Fin 4) (k : Fin 16) (x q : Fin 256) :
    (show FVec Ideal S16x4x16x256x256 .bf16 from V m c main_v12) (ix5 b g k x q)
      = Ideal.div ((show FVec Ideal S16x4096x8x128 .f32 from m ((c : Thread nD τ).loc main_arg0))
          (ix4 b ⟨k.val * 256 + q.val, by omega⟩ ⟨x.val / 64 % 2 * 4 + g.val, by omega⟩ ⟨x.val / 32 % 2 * 64 + x.val / 128 * 32 + x.val % 32, by omega⟩))
        (Ideal.log (Ideal.ofBits .f32 0x40000000#32)) := by
  entry_read
  pointwise

/-- The mask keeps the rows of the point's group: every other run of 64. -/
theorem mask_at (i : grid0.Coords) (x : Fin 256) : k0_pay22 i (ix2 x 0) = if x.val / 64 % 2 = (i 1).val then 1#1 else 0#1 := by
  have h2 : (i 1).val < 2 := (i 1).isLt
  pointwise [k0_pay22]
  generalize (i 1).val = h at h2
  revert x h
  decide +kernel

end Cert.KernelIdeal.Attn

end
-- ==== Proof.ReferenceValue.lean ====
/- The reference attention: its result, read at an index, as softmax weights times values. -/
module

public import proofs.«01_k».proof.Proof.Gen.ReferenceIdeal.Run
public import proofs.«01_k».proof.Proof.SoftmaxEq

set_option maxRecDepth 16384

@[expose] public section

noncomputable section

open Idealize.ShloMosaic Idealize.ShloMosaic.TcCoe Idealize.SL.Sem

namespace Cert.ReferenceIdeal.Attn

open Cert.ReferenceIdeal Cert.ReferenceIdeal.Gen

/-- The scores: every query of a head by every key of its group. -/
def scores (q : FVec Ideal S16x4096x8x128 .f32) (k : FVec Ideal S16x4096x2x128 .f32) : FVec Ideal S16x2x4x4096x4096 .f32 :=
  transpose S16x2x4x4096x4096 [0, 1, 4, 3, 2] (Host.dotGeneral dot_S16x4096x2x128_S16x4096x2x4x128_S16x2x4096x4096x4_3_4_1_13_02_02 none k (shapeCast _ q shapeCasts_S16x4096x8x128_S16x4096x2x4x128)) transposes_S16x2x4096x4096x4_S16x2x4x4096x4096_0_1_4_3_2

/-- The maximum along the last of five axes, read at an index. -/
theorem last_max {n0 n1 n2 n3 n4 : ℕ} (v : FVec Ideal ⟨5, ![n0, n1, n2, n3, n4]⟩ .f32) (c : FVec Ideal S_ .f32)
    (h : (⟨5, ![n0, n1, n2, n3, n4]⟩ : Shape).ReducesTo [4] ⟨4, ![n0, n1, n2, n3]⟩) (hu : 0 < S_.numel)
    (i0 : Fin n0) (i1 : Fin n1) (i2 : Fin n2) (i3 : Fin n3) :
    Host.reduce FloatOps.maximumf v c h hu (ix4 i0 i1 i2 i3)
      = Finset.univ.fold max (c (Shape.Idx.first hu)) fun k : Fin n4 => v (ix5 i0 i1 i2 i3 k) := by
  pointwise

/-- The scores' maximum along the keys. -/
def rowMax (s : FVec Ideal S16x2x4x4096x4096 .f32) : FVec Ideal S16x2x4x4096 .f32 :=
  Host.reduce FloatOps.maximumf s (constant S_ .f32 0xFF800000#32) reducesTo_S16x2x4x4096x4096_S16x2x4x4096_d4 h_S_

/-- An entry of the maxima. -/
theorem rowMax_at (s : FVec Ideal S16x2x4x4096x4096 .f32) (b : Fin 16) (h : Fin 2) (g : Fin 4) (n : Fin 4096) :
    rowMax s (ix4 b h g n) = Finset.univ.fold max (⊥ : EReal) fun r : Fin 4096 => s (ix5 b h g n r) := by
  refine (last_max s _ _ _ b h g n).trans ?_
  rw [← Cert.Softmax.bot_word]
  rfl

/-- The exponentials of an array less another along its last axis. -/
def expOf (s : FVec Ideal S16x2x4x4096x4096 .f32) (M : FVec Ideal S16x2x4x4096 .f32) : FVec Ideal S16x2x4x4096x4096 .f32 :=
  Host.exp (subf s (broadcastInDim S16x2x4x4096x4096 ![0, 1, 2, 3, 4] bcast_S16x2x4x4096x1_S16x2x4x4096x4096_0_1_2_3_4 (broadcastInDim S16x2x4x4096x1 ![0, 1, 2, 3] bcast_S16x2x4x4096_S16x2x4x4096x1_0_1_2_3 (maximumf (broadcastInDim S16x2x4x4096 ![] bcast_S_S16x2x4x4096 (constant S_ .f32 0xFF800000#32)) M))))

/-- The exponentials of the scores less their row's maximum. -/
def expd (s : FVec Ideal S16x2x4x4096x4096 .f32) : FVec Ideal S16x2x4x4096x4096 .f32 := expOf s (rowMax s)

/-- The weights: the exponentials over their row's sum. -/
def softmax (s : FVec Ideal S16x2x4x4096x4096 .f32) : FVec Ideal S16x2x4x4096x4096 .f32 :=
  Host.divf (expd s) (broadcastInDim S16x2x4x4096x4096 ![0, 1, 2, 3, 4] bcast_S16x2x4x4096x1_S16x2x4x4096x4096_0_1_2_3_4 (broadcastInDim S16x2x4x4096x1 ![0, 1, 2, 3] bcast_S16x2x4x4096_S16x2x4x4096x1_0_1_2_3 (Host.reduceAdd (expd s) (constant S_ .f32 0x00000000#32) reducesTo_S16x2x4x4096x4096_S16x2x4x4096_d4 h_S_)))

/-- The result: the values summed with the weights, heads side by side within their group. -/
def attention (q : FVec Ideal S16x4096x8x128 .f32) (k v : FVec Ideal S16x4096x2x128 .f32) : FVec Ideal S16x2x4096x512 .bf16 :=
  truncf .bf16 (transpose S16x2x4096x512 [0, 2, 1, 3] (shapeCast _ (transpose S16x4096x2x4x128 [0, 4, 1, 3, 2] (Host.dotGeneral dot_S16x4096x2x128_S16x2x4x4096x4096_S16x2x128x4x4096_1_4_3_23_02_01 none v (softmax (scores q k))) transposes_S16x2x128x4x4096_S16x4096x2x4x128_0_4_1_3_2) shapeCasts_S16x4096x2x4x128_S16x4096x2x512) transposes_S16x4096x2x512_S16x2x4096x512_0_2_1_3) bitsLt_bf16_f32

/-- A score is the product of a query's and a key's rows. -/
theorem scores_at (q : FVec Ideal S16x4096x8x128 .f32) (k : FVec Ideal S16x4096x2x128 .f32) (b : Fin 16) (h : Fin 2) (g : Fin 4) (n r : Fin 4096) :
    scores q k (ix5 b h g n r) = Cert.Softmax.dot (fun d : Fin 128 => k (ix4 b r h d)) (fun d => q (ix4 b n ⟨h.val * 4 + g.val, by omega⟩ d)) := by
  pointwise [scores, Cert.Softmax.dot]

/-- The exponentials of an array less another along its last axis, at an index. -/
theorem expOf_at (s : FVec Ideal S16x2x4x4096x4096 .f32) (M : FVec Ideal S16x2x4x4096 .f32) (b : Fin 16) (h : Fin 2) (g : Fin 4) (n r : Fin 4096) :
    expOf s M (ix5 b h g n r) = Ideal.exp (s (ix5 b h g n r) - max (Ideal.ofBits .f32 0xFF800000#32) (M (ix4 b h g n))) := by
  pointwise [expOf]

/-- An entry of the exponentials. -/
theorem expd_at (s : FVec Ideal S16x2x4x4096x4096 .f32) (b : Fin 16) (h : Fin 2) (g : Fin 4) (n r : Fin 4096) :
    expd s (ix5 b h g n r) = Ideal.exp (s (ix5 b h g n r) - Finset.univ.fold max (⊥ : EReal) fun x : Fin 4096 => s (ix5 b h g n x)) := by
  refine Eq.trans (b := Ideal.exp (s (ix5 b h g n r) - max (Ideal.ofBits .f32 0xFF800000#32) (rowMax s (ix4 b h g n)))) ?_ ?_
  · exact expOf_at s (rowMax s) b h g n r
  · rw [Cert.Softmax.bot_word, max_eq_right bot_le]
    exact congrArg (fun z : EReal => Ideal.exp (s (ix5 b h g n r) - z)) (rowMax_at s b h g n)

/-- An entry of the weights. -/
theorem softmax_at (s : FVec Ideal S16x2x4x4096x4096 .f32) (b : Fin 16) (h : Fin 2) (g : Fin 4) (n r : Fin 4096) :
    softmax s (ix5 b h g n r) = Ideal.div (expd s (ix5 b h g n r)) (∑ x : Fin 4096, expd s (ix5 b h g n x)) := by
  pointwise [softmax]

/-- An entry of the result: the values of a group's column summed with the weights of a head's query. -/
theorem attention_at (q : FVec Ideal S16x4096x8x128 .f32) (k v : FVec Ideal S16x4096x2x128 .f32) (b : Fin 16) (h : Fin 2) (n : Fin 4096) (e : Fin 512) :
    attention q k v (ix4 b h n e) = ∑ x : Fin 4096, v (ix4 b x h ⟨e.val % 128, Nat.mod_lt _ (by decide)⟩)
      * softmax (scores q k) (ix5 b h ⟨e.val / 128, Nat.div_lt_of_lt_mul e.isLt⟩ n x) := by
  pointwise [attention]

end Cert.ReferenceIdeal.Attn

end
-- ==== Proof.IdealParts.lean ====
/- The idealized attention call: its blocks as parts of its arguments. -/
module

public import proofs.«01_k».proof.Proof.IdealBlockValue
public import proofs.«01_k».proof.Proof.IdealHostValue
public import proofs.«01_k».proof.Proof.ReferenceValue

set_option maxRecDepth 16384

@[expose] public section

noncomputable section

open Idealize.ShloMosaic Idealize.ShloMosaic.TcCoe Idealize.SL.Sem
open Idealize.ShloMosaic.Pipeline (Dat)

namespace Cert.KernelIdeal.Attn

open Cert.KernelIdeal Cert.KernelIdeal.Gen

/-- The row of a group's layout that holds a coordinate of its heads. -/
def slot (h : Fin 2) (d : Fin 128) : Fin 256 := ⟨d.val / 32 % 2 * 128 + h.val * 64 + d.val / 64 * 32 + d.val % 32, by omega⟩

/-- A row's head and coordinate are the ones it was made of. -/
theorem slot_head (h : Fin 2) (d : Fin 128) : (slot h d).val / 64 % 2 = h.val := by revert h d; decide +kernel
theorem slot_coord (h : Fin 2) (d : Fin 128) : (slot h d).val / 32 % 2 * 64 + (slot h d).val / 128 * 32 + (slot h d).val % 32 = d.val := by revert h d; decide +kernel

/-- A sum over the rows the mask keeps is a sum over a head's coordinates. -/
theorem sum_slots (h : Fin 2) (f : Fin 256 → EReal) :
    (∑ x : Fin 256, Scalar.select (if x.val / 64 % 2 = h.val then 1#1 else 0#1) (f x) 0) = ∑ d : Fin 128, f (slot h d) := by
  have inj : ∀ h : Fin 2, ∀ a b : Fin 128, slot h a = slot h b → a = b := by decide +kernel
  have sur : ∀ h : Fin 2, ∀ x : Fin 256, x.val / 64 % 2 = h.val → ∃ d, slot h d = x := by decide +kernel
  refine (Finset.sum_of_injOn (slot h) (fun a _ b _ e => inj h a b e) (fun _ _ => Finset.mem_coe.2 (Finset.mem_univ _)) ?_ ?_).symm
  · intro x _ hx
    have hn : ¬ x.val / 64 % 2 = h.val := fun e => by
      obtain ⟨d, hd⟩ := sur h x e
      exact hx ⟨d, Finset.mem_coe.2 (Finset.mem_univ _), hd⟩
    rw [if_neg hn]; rfl
  · intro d _
    rw [if_pos (slot_head h d)]; rfl

variable (m : (ℓ : Loc nD τ sig) → Buf (Elt Ideal) ℓ)

/-- The queries, keys and values the program is called with. -/
abbrev argQ (c : Dev nD) : FVec Ideal S16x4096x8x128 .f32 := m ((c : Thread nD τ).loc main_arg0)
abbrev argK (c : Dev nD) : FVec Ideal S16x4096x2x128 .f32 := m ((c : Thread nD τ).loc main_arg1)
abbrev argV (c : Dev nD) : FVec Ideal S16x4096x2x128 .f32 := m ((c : Thread nD τ).loc main_arg2)

/-- The windows' block indices, at every point. -/
theorem idx : ∀ t : Fin cfg0.N, win0_0.index t = ![(grid0.coords t 0).val, 0, 0, 0, 0] ∧ win0_1.index t = ![(grid0.coords t 0).val, 0, 0]
    ∧ win0_2.index t = ![(grid0.coords t 0).val, (grid0.coords t 1).val, 0, 0] ∧ win0_3.index t = ![(grid0.coords t 0).val, (grid0.coords t 1).val, 0, 0] :=
  (by decide +kernel : ∀ t : Fin grid0.N, _)

/-- A block of the prepared queries, cut from any contents of their array. -/
theorem read_q (c : Dev nD) (A : Buf (Elt Ideal) ((c : Thread nD τ).loc main_v12)) (t : Fin cfg0.N) (b : Fin 16) (hb : b.val = (grid0.coords t 0).val) (g : Fin 4) (k : Fin 16) (x q : Fin 256) :
    ((cfg0.win 0).blk t).view.read (Elt Ideal) A (ix5 0 g k x q) = (show FVec Ideal S16x4x16x256x256 .bf16 from A) (ix5 b g k x q) := by
  have he : ((cfg0.win 0).blk t).view.emb (ix5 0 g k x q) = ix5 b g k x q := by
    blk_ext [idx t]
  exact congrArg A he

/-- The queries' block at a point. -/
theorem block_q (c : Dev nD) (t : Fin cfg0.N) (b : Fin 16) (hb : b.val = (grid0.coords t 0).val) (g : Fin 4) (k : Fin 16) (x q : Fin 256) :
    (show FVec Ideal S1x4x16x256x256 .bf16 from iblk m c 0 t) (ix5 0 g k x q) = (show FVec Ideal S16x4x16x256x256 .bf16 from V m c main_v12) (ix5 b g k x q) :=
  read_q c (V m c main_v12) t b hb g k x q

/-- A block of the prepared keys, cut from any contents of their array. -/
theorem read_k (c : Dev nD) (A : Buf (Elt Ideal) ((c : Thread nD τ).loc main_v13)) (t : Fin cfg0.N) (b : Fin 16) (hb : b.val = (grid0.coords t 0).val) (r : Fin 4096) (x : Fin 256) :
    ((cfg0.win 1).blk t).view.read (Elt Ideal) A (ix3 0 r x) = (show FVec Ideal S16x4096x256 .bf16 from A) (ix3 b r x) := by
  have he : ((cfg0.win 1).blk t).view.emb (ix3 0 r x) = ix3 b r x := by
    blk_ext [idx t]
  exact congrArg A he

/-- The keys' block at a point. -/
theorem block_k (c : Dev nD) (t : Fin cfg0.N) (b : Fin 16) (hb : b.val = (grid0.coords t 0).val) (r : Fin 4096) (x : Fin 256) :
    (show FVec Ideal S1x4096x256 .bf16 from iblk m c 1 t) (ix3 0 r x) = (show FVec Ideal S16x4096x256 .bf16 from V m c main_v13) (ix3 b r x) :=
  read_k c (V m c main_v13) t b hb r x

/-- A block of the prepared values, cut from any contents of their array. -/
theorem read_v (c : Dev nD) (A : Buf (Elt Ideal) ((c : Thread nD τ).loc main_v14)) (t : Fin cfg0.N) (b : Fin 16) (hb : b.val = (grid0.coords t 0).val) (h : Fin 2) (hh : h.val = (grid0.coords t 1).val) (e : Fin 144) (r : Fin 4096) :
    ((cfg0.win 2).blk t).view.read (Elt Ideal) A (ix4 0 0 e r) = (show FVec Ideal S16x2x144x4096 .bf16 from A) (ix4 b h e r) := by
  have he : ((cfg0.win 2).blk t).view.emb (ix4 0 0 e r) = ix4 b h e r := by
    blk_ext [idx t]
  exact congrArg A he

/-- The values' block at a point. -/
theorem block_v (c : Dev nD) (t : Fin cfg0.N) (b : Fin 16) (hb : b.val = (grid0.coords t 0).val) (h : Fin 2) (hh : h.val = (grid0.coords t 1).val) (e : Fin 144) (r : Fin 4096) :
    (show FVec Ideal S1x1x144x4096 .bf16 from iblk m c 2 t) (ix4 0 0 e r) = (show FVec Ideal S16x2x144x4096 .bf16 from V m c main_v14) (ix4 b h e r) :=
  read_v c (V m c main_v14) t b hb h hh e r

end Cert.KernelIdeal.Attn

end
-- ==== Proof.IdealScores.lean ====
/- The idealized attention call: the scores its body computes are the reference's over log 2. -/
module

public import proofs.«01_k».proof.Proof.IdealParts

set_option maxRecDepth 16384

@[expose] public section

noncomputable section

open Idealize.ShloMosaic Idealize.ShloMosaic.TcCoe Idealize.SL.Sem
open Idealize.ShloMosaic.Pipeline (Dat)

namespace Cert.KernelIdeal.Attn

open Cert.KernelIdeal Cert.KernelIdeal.Gen

variable (m : (ℓ : Loc nD τ sig) → Buf (Elt Ideal) ℓ)

/-- The scores of a query with every key, as the body computes them from its blocks, are the reference's over log 2. -/
theorem rowScores_eq (c : Dev nD) (t : Fin cfg0.N) (b : Fin 16) (hb : b.val = (grid0.coords t 0).val) (h : Fin 2) (hh : h.val = (grid0.coords t 1).val)
    (g : Fin 4) (n r : Fin 4096) :
    rowScores (k0_pay22 (grid0.coords t)) (iblk m c 0 t) (iblk m c 1 t) g ⟨n.val / 256, by omega⟩ ⟨n.val % 256, by omega⟩ r
      = Cert.Softmax.dot (fun d : Fin 128 => argK m c (ix4 b r h d)) (fun d => argQ m c (ix4 b n ⟨h.val * 4 + g.val, by omega⟩ d)) * ((1 / Real.log 2 : ℝ) : EReal) := by
  unfold rowScores Cert.Softmax.dot
  have hm (x : Fin 256) : k0_pay22 (grid0.coords t) (ix2 x 0) = if x.val / 64 % 2 = h.val then 1#1 else 0#1 := by
    rw [mask_at, hh]
  simp only [hm]
  refine (sum_slots h _).trans ?_
  rw [Cert.Softmax.sum_mul_real _ _ _ (one_div_pos.2 (Real.log_pos one_lt_two)).le]
  refine Finset.sum_congr rfl fun d _ => ?_
  have ek : (show FVec Ideal S1x4096x256 .bf16 from iblk m c 1 t) (ix3 0 r (slot h d)) = argK m c (ix4 b r h d) := by
    refine (block_k m c t b hb r (slot h d)).trans ((keys_at m c b r (slot h d)).trans ?_)
    refine congrArg (argK m c) ((ix4_inj ..).2 ⟨rfl, rfl, Fin.ext (slot_head h d), Fin.ext (slot_coord h d)⟩)
  have eq : (show FVec Ideal S1x4x16x256x256 .bf16 from iblk m c 0 t) (ix5 0 g ⟨n.val / 256, by omega⟩ (slot h d) ⟨n.val % 256, by omega⟩)
      = argQ m c (ix4 b n ⟨h.val * 4 + g.val, by omega⟩ d) * ((1 / Real.log 2 : ℝ) : EReal) := by
    refine (block_q m c t b hb g _ (slot h d) _).trans ((queries_at m c b g _ (slot h d) _).trans ((Cert.Softmax.div_log_two _).trans ?_))
    refine congrArg (fun z : EReal => z * ((1 / Real.log 2 : ℝ) : EReal)) (congrArg (argQ m c) ((ix4_inj ..).2 ⟨rfl, Fin.ext (by simp only; omega), Fin.ext (by simp only [slot_head]), Fin.ext (slot_coord h d)⟩))
  exact (congrArg₂ (fun a b : EReal => a * b) ek eq).trans (mul_assoc _ _ _).symm

end Cert.KernelIdeal.Attn

end
-- ==== Proof.IdealPoint.lean ====
/- The idealized attention call: what its body leaves at a point is the reference's attention there. -/
module

public import proofs.«01_k».proof.Proof.IdealScores

set_option maxRecDepth 16384

@[expose] public section

noncomputable section

open Idealize.ShloMosaic Idealize.ShloMosaic.TcCoe Idealize.SL.Sem
open Idealize.ShloMosaic.Pipeline (Dat)

namespace Cert.KernelIdeal.Attn

open Cert.KernelIdeal Cert.KernelIdeal.Gen

variable (m : (ℓ : Loc nD τ sig) → Buf (Elt Ideal) ℓ)

/-- Every query and every key is finite. -/
def Finite (c : Dev nD) : Prop := (∀ i, argQ m c i ≠ (⊤ : EReal) ∧ argQ m c i ≠ (⊥ : EReal)) ∧ (∀ i, argK m c i ≠ (⊤ : EReal) ∧ argK m c i ≠ (⊥ : EReal))

/-- A quotient of weighted sums, its weighted terms replaced by equal ones and the ones dropped. -/
theorem quotient_congr {ι : Type} [Fintype ι] (v v' o w : ι → EReal) (hv : ∀ r, v r = v' r) (ho : ∀ r, o r = 1) :
    Ideal.div (∑ r, v r * w r) (∑ r, o r * w r) = Ideal.div (∑ r, v' r * w r) (∑ r, w r) := by
  simp only [hv, ho, one_mul]

/-- What the body leaves at a point, at an index, is the reference's attention there. -/
theorem point (c : Dev nD) (hf : Finite m c) (t : Fin cfg0.N) (b : Fin 16) (hb : b.val = (grid0.coords t 0).val) (h : Fin 2) (hh : h.val = (grid0.coords t 1).val)
    (n : Fin 4096) (e : Fin 512) :
    outAt m c t (ix4 0 0 n e) = Cert.ReferenceIdeal.Attn.attention (argQ m c) (argK m c) (argV m c) (ix4 b h n e) := by
  have hd (r : Fin 4096) := Cert.Softmax.dot_real (fun d : Fin 128 => argK m c (ix4 b r h d))
    (fun d => argQ m c (ix4 b n ⟨h.val * 4 + e.val / 128, by omega⟩ d)) (fun _ => hf.2 _) (fun _ => hf.1 _)
  choose s hs using hd
  have hrow (r : Fin 4096) := (rowScores_eq m c t b hb h hh ⟨e.val / 128, by omega⟩ n r).trans
    (congrArg (fun z : EReal => z * ((1 / Real.log 2 : ℝ) : EReal)) (hs r))
  have hv (r : Fin 4096) : (show FVec Ideal S1x1x144x4096 .bf16 from iblk m c 2 t) (ix4 0 0 ⟨e.val % 128, by omega⟩ r) = argV m c (ix4 b r h ⟨e.val % 128, by omega⟩) := by
    refine (block_v m c t b hb h hh _ r).trans ((values_at m c b h _ r).trans ?_)
    exact dif_pos (show e.val % 128 < 128 by omega)
  have h1 (r : Fin 4096) : (show FVec Ideal S1x1x144x4096 .bf16 from iblk m c 2 t) (ix4 0 0 128 r) = (1 : EReal) := by
    refine (block_v m c t b hb h hh _ r).trans ((values_at m c b h _ r).trans ?_)
    exact dif_neg (by decide)
  have hsc (r : Fin 4096) : Cert.ReferenceIdeal.Attn.scores (argQ m c) (argK m c) (ix5 b h ⟨e.val / 128, by omega⟩ n r) = (s r : EReal) :=
    (Cert.ReferenceIdeal.Attn.scores_at _ _ b h ⟨e.val / 128, by omega⟩ n r).trans (hs r)
  have hex (r : Fin 4096) := Cert.ReferenceIdeal.Attn.expd_at (Cert.ReferenceIdeal.Attn.scores (argQ m c) (argK m c)) b h ⟨e.val / 128, by omega⟩ n r
  simp only [hsc] at hex
  have hso (r : Fin 4096) := Cert.ReferenceIdeal.Attn.softmax_at (Cert.ReferenceIdeal.Attn.scores (argQ m c) (argK m c)) b h ⟨e.val / 128, by omega⟩ n r
  simp only [hex] at hso
  refine (blockOut_at _ _ _ _ n e).trans (Eq.trans ?_ (Cert.ReferenceIdeal.Attn.attention_at _ _ _ b h n e).symm)
  have hrow' : rowScores (k0_pay22 (grid0.coords t)) (iblk m c 0 t) (iblk m c 1 t) ⟨e.val / 128, by omega⟩ ⟨n.val / 256, by omega⟩ ⟨n.val % 256, by omega⟩
      = fun r => (s r : EReal) * ((1 / Real.log 2 : ℝ) : EReal) := funext hrow
  rw [hrow']
  refine (quotient_congr _ _ _ _ hv h1).trans ((Cert.Softmax.softmax_eq s fun r => argV m c (ix4 b r h ⟨e.val % 128, by omega⟩)).trans ?_)
  exact Finset.sum_congr rfl fun r _ => congrArg (fun z : EReal => argV m c (ix4 b r h ⟨e.val % 128, by omega⟩) * z) (hso r).symm

end Cert.KernelIdeal.Attn

end
-- ==== Proof.IdealValue.lean ====
/- The idealized attention call: the array it leaves is the reference's attention of its arguments. -/
module

public import proofs.«01_k».proof.Proof.IdealPoint

set_option maxRecDepth 16384

@[expose] public section

noncomputable section

open Idealize.ShloMosaic Idealize.ShloMosaic.TcCoe Idealize.SL.Sem
open Idealize.ShloMosaic.Pipeline (Dat)

namespace Cert.KernelIdeal.Attn

open Cert.KernelIdeal Cert.KernelIdeal.Gen

variable (m : (ℓ : Loc nD τ sig) → Buf (Elt Ideal) ℓ)

/-- The array the call leaves is the reference's attention of the arguments. -/
theorem final (c : Dev nD) (hf : Finite m c) :
    (dats m 0 c).arrAt 3 (cfgs 0).N = Cert.ReferenceIdeal.Attn.attention (argQ m c) (argK m c) (argV m c) := by
  refine (dats m 0 c).arrAt_eq_of_covers 3 _ (by decide +kernel) fun t _ y => ?_
  blk_simp
  rw [after_o]
  have hy : y = ix4 (0 : Fin 1) (0 : Fin 1) (y 2) (y 3) := by
    refine (eq_ix4 y).trans ?_
    exact (ix4_inj ..).2 ⟨Subsingleton.elim _ _, Subsingleton.elim _ _, rfl, rfl⟩
  have he : ((cfg0.win 3).blk t).view.emb y = ix4 (⟨(grid0.coords t 0).val, (grid0.coords t 0).isLt⟩ : Fin 16) (⟨(grid0.coords t 1).val, (grid0.coords t 1).isLt⟩ : Fin 2) (y 2) (y 3) := by
    blk_ext [idx t]
  exact (congrArg (outAt m c t) hy).trans ((point m c hf t _ rfl _ rfl (y 2) (y 3)).trans (congrArg (Cert.ReferenceIdeal.Attn.attention (argQ m c) (argK m c) (argV m c)) he.symm))

end Cert.KernelIdeal.Attn

end
-- ==== Proof.IdealPre.lean ====
/- The precondition of the attention's claim: what it says of the queries and keys. -/
module

public import proofs.«01_k».proof.Defs
public import proofs.«01_k».proof.Proof.IdealValue
public import Idealize.ShloMosaic.Lib.ReduceAll

set_option maxRecDepth 16384

@[expose] public section

noncomputable section

open Idealize.ShloMosaic Idealize.ShloMosaic.TcCoe Idealize.SL.Sem

namespace Cert.Pre_finite_queries_and_keys

/-- The facts about shapes the precondition's operations take. -/
theorem facts : Facts where
  bcast_S_S16x4096x8x128 := by decide
  reducesTo_S16x4096x8x128_S_d0_1_2_3 := by decide
  h_S_ := by decide
  bcast_S_S16x4096x2x128 := by decide
  reducesTo_S16x4096x2x128_S_d0_1_2_3 := by decide

/-- The word of plus infinity. -/
theorem top_word : Ideal.ofBits .f32 0x7F800000#32 = (⊤ : EReal) := by
  simp [Ideal.ofBits, Ideal.ieee]

/-- A conjunction, over a whole array, of "below plus infinity and above minus infinity" says that every entry is finite. -/
theorem all_finite {s : Shape} (x : FVec Ideal s .f32) (hb : S_.BroadcastsInDim s (![] : Fin 0 → Fin s.rank)) {dims : List (Fin s.rank)} (hr : s.ReducesTo dims S_)
    (ht : 0 < S_.numel) (j : S_.Idx)
    (e : Host.reduce IntOp.andi (andi (cmpf .olt x (broadcastInDim s ![] hb (constant S_ .f32 0x7F800000#32))) (cmpf .ogt x (broadcastInDim s ![] hb (constant S_ .f32 0xFF800000#32))))
      (constantI S_ 1 1#1) hr ht j = 1#1) (i : s.Idx) : x i ≠ (⊤ : EReal) ∧ x i ≠ (⊥ : EReal) := by
  have h : IntOp.andi (FloatOps.cmpf .olt (x i) (Ideal.ofBits .f32 0x7F800000#32 : Ideal .f32)) (FloatOps.cmpf .ogt (x i) (Ideal.ofBits .f32 0xFF800000#32 : Ideal .f32)) = 1#1 :=
    Host.reduce_andi_all _ _ _ _ j e i
  obtain ⟨h1, h2⟩ := IntOp.andi_eq_one.1 h
  have h1 : Ideal.cmp .olt (x i) (Ideal.ofBits .f32 0x7F800000#32) = 1#1 := h1
  have h2 : Ideal.cmp .ogt (x i) (Ideal.ofBits .f32 0xFF800000#32) = 1#1 := h2
  rw [top_word] at h1
  rw [Cert.Softmax.bot_word] at h2
  refine ⟨fun e => ?_, fun e => ?_⟩
  · rw [e] at h1
    simp [Ideal.cmp] at h1
  · rw [e] at h2
    simp [Ideal.cmp] at h2

attribute [local instance] facts

/-- The precondition says that the queries and the keys are finite. -/
theorem finite (q : FVec Ideal S16x4096x8x128 .f32) (k v : FVec Ideal S16x4096x2x128 .f32) (h : fn (F := Ideal) q k v = fun _ => 1#1) :
    (∀ i, q i ≠ (⊤ : EReal) ∧ q i ≠ (⊥ : EReal)) ∧ ∀ i, k i ≠ (⊤ : EReal) ∧ k i ≠ (⊥ : EReal) := by
  obtain ⟨h1, h2⟩ := IntOp.andi_eq_one.1 (congrFun h ix0)
  exact ⟨all_finite q _ _ _ _ h1, all_finite k _ _ _ _ h2⟩

end Cert.Pre_finite_queries_and_keys

end
-- ==== Proof.IdealClaim.lean ====
/- The attention's claim: the idealized call and the reference leave the same array. -/
module

public import proofs.«01_k».proof.Proof.IdealPre
public import proofs.«01_k».proof.Proof.Gen.ReferenceIdeal.Run
public import Idealize.ShloMosaic.Lib.Claim

set_option maxRecDepth 16384

@[expose] public section

noncomputable section

open Idealize.ShloMosaic Idealize.ShloMosaic.TcCoe Idealize.SL.Sem

namespace Cert.KernelIdeal.Attn

open Cert.KernelIdeal Cert.KernelIdeal.Gen

variable (m : (ℓ : Loc nD τ sig) → Buf (Elt Ideal) ℓ) (ρ : Dev nD → PrngReg)

/-- Every execution of the call ends with its result at the reference's attention of the arguments, which are unchanged. -/
theorem run_value (hf : ∀ c, Finite m c) : θ_run defs (onTc (τ := τ) (main (F := Ideal))) ⟨m, fun _ => 0, ρ⟩ (fun r => ∀ c : Dev nD,
      r.2.mem ((c.tc : Thread nD τ).loc main_v15) = Cert.ReferenceIdeal.Attn.attention (argQ m c) (argK m c) (argV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 3).trans (final m c (hf c)), h.2.1 c⟩) (θ_run_and (run_arrays m ρ) (frame_all m ρ))

end Cert.KernelIdeal.Attn

namespace Cert.ReferenceIdeal.Attn

open Cert.ReferenceIdeal Cert.ReferenceIdeal.Gen

variable (m : (ℓ : Loc nD τ sig) → Buf (Elt Ideal) ℓ) (ρ : Dev nD → PrngReg)

/-- Every execution of the reference ends with its result at the attention of its arguments, which are unchanged. -/
theorem run_value : θ_run defs (onTc (τ := τ) (main (F := Ideal))) ⟨m, fun _ => 0, ρ⟩ (fun r => ∀ c : Dev nD,
      r.2.mem ((c.tc : Thread nD τ).loc main_v18) = attention (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  have h := Cert.ReferenceIdeal.Value.run (F := Ideal) m ρ
  unfold attention softmax expd expOf rowMax scores
  exact h

end Cert.ReferenceIdeal.Attn

namespace Cert.Proof

attribute [local instance] Cert.Pre_finite_queries_and_keys.facts

/-- With finite queries and keys, the idealized call and the reference leave the same array. -/
theorem attention_equal : Cert.algebraic_KernelIdeal_ReferenceIdeal_pre_finite_queries_and_keys := fun m ρ m' ρ' hp ha =>
  ⟨fun c => Cert.ReferenceIdeal.Attn.attention (Cert.KernelIdeal.Attn.argQ m c) (Cert.KernelIdeal.Attn.argK m c) (Cert.KernelIdeal.Attn.argV m c),
    Cert.KernelIdeal.Attn.run_value m ρ fun c => Cert.Pre_finite_queries_and_keys.finite _ _ _ (hp c),
    (θ_run _ _ _).mono (fun _ h c => ⟨(h c).1.trans (by rw [(ha c).1, (ha c).2.1, (ha c).2.2]), (h c).2⟩) (Cert.ReferenceIdeal.Attn.run_value m' ρ')⟩

end Cert.Proof

end
-- ==== Proof.Mlp.lean ====
/- The equation behind the output projection and the perceptron after it, over extended reals: a row's perceptron summed
   over four quarters of its hidden width, each scaled and added in turn, is the perceptron summed at once. -/
module

public import Idealize.ShloMosaic.Lib.Pointwise
public import proofs.«01_k».proof.Proof.SoftmaxEq

@[expose] public section

noncomputable section

open Idealize.ShloMosaic

namespace Cert.Mlp

/-- The width a row's squares are averaged over, as the programs write it. -/
def width : EReal := Ideal.ofBits .f32 0x44800000#32

/-- The small number under the root, as the programs write it. -/
def small : EReal := Ideal.ofBits .f32 0x358637BD#32

/-- A row over the root of its mean square, times a gain. -/
def rms {d : ℕ} (x g : Fin d → EReal) (j : Fin d) : EReal := x j * Ideal.rsqrt (Ideal.div (∑ i, x i * x i) width + small) * g j

/-- A row scaled by one more than a scale and moved by a shift. -/
def modulate {d : ℕ} (h sc sh : Fin d → EReal) (j : Fin d) : EReal := h j * (1 + sc j) + sh j

/-- The nonnegative part of a row's product with a matrix. -/
def relu {d f : ℕ} (h : Fin d → EReal) (w : Fin d → Fin f → EReal) (a : Fin f) : EReal := max (∑ i, h i * w i a) 0

/-- The product of a row's squares with a matrix. -/
def squares {d f : ℕ} (u : Fin f → EReal) (w : Fin f → Fin d → EReal) (j : Fin d) : EReal := ∑ a, u a * u a * w a j

/-- A row plus its gated perceptron. -/
def residual {d f : ℕ} (x g sc sh gate : Fin d → EReal) (w1 : Fin d → Fin f → EReal) (w2 : Fin f → Fin d → EReal) (j : Fin d) : EReal :=
  x j + gate j * squares (relu (modulate (rms x g) sc sh) w1) w2 j

/-- A quarter's place in the hidden width. -/
def place (q : Fin 4) (a : Fin 1024) : Fin 4096 := ⟨q.val * 1024 + a.val, by omega⟩

/-- The same with a quarter of the hidden width at a time. -/
def quarters {d : ℕ} (x g sc sh gate : Fin d → EReal) (w1 : Fin d → Fin 4096 → EReal) (w2 : Fin 4096 → Fin d → EReal) (j : Fin d) : EReal :=
  x j + gate j * squares (relu (modulate (rms x g) sc sh) fun i a => w1 i (place 0 a)) (fun a => w2 (place 0 a)) j
    + gate j * squares (relu (modulate (rms x g) sc sh) fun i a => w1 i (place 1 a)) (fun a => w2 (place 1 a)) j
    + gate j * squares (relu (modulate (rms x g) sc sh) fun i a => w1 i (place 2 a)) (fun a => w2 (place 2 a)) j
    + gate j * squares (relu (modulate (rms x g) sc sh) fun i a => w1 i (place 3 a)) (fun a => w2 (place 3 a)) j

/-- Neither infinity. -/
def IsFin (x : EReal) : Prop := x ≠ ⊤ ∧ x ≠ ⊥

theorem IsFin.real {x : EReal} (h : IsFin x) : ∃ r : ℝ, x = (r : EReal) := ⟨x.toReal, (EReal.coe_toReal h.1 h.2).symm⟩

theorem fin_coe (r : ℝ) : IsFin (r : EReal) := ⟨EReal.coe_ne_top r, EReal.coe_ne_bot r⟩

theorem fin_zero : IsFin 0 := by rw [← EReal.coe_zero]; exact fin_coe 0
theorem fin_one : IsFin 1 := by rw [← EReal.coe_one]; exact fin_coe 1

theorem IsFin.mul {x y : EReal} (hx : IsFin x) (hy : IsFin y) : IsFin (x * y) := by
  obtain ⟨a, rfl⟩ := hx.real
  obtain ⟨b, rfl⟩ := hy.real
  rw [← EReal.coe_mul]; exact fin_coe _

theorem IsFin.add {x y : EReal} (hx : IsFin x) (hy : IsFin y) : IsFin (x + y) := by
  obtain ⟨a, rfl⟩ := hx.real
  obtain ⟨b, rfl⟩ := hy.real
  rw [← EReal.coe_add]; exact fin_coe _

theorem fin_sum {ι : Type} (s : Finset ι) (f : ι → EReal) (h : ∀ i, IsFin (f i)) : IsFin (∑ i ∈ s, f i) := by
  have e : f = fun i => ((f i).toReal : EReal) := funext fun i => (EReal.coe_toReal (h i).1 (h i).2).symm
  rw [e, Cert.Softmax.sum_real]; exact fin_coe _

theorem width_eq : width = ((1024 : ℝ) : EReal) := by
  unfold width
  simp [Ideal.ofBits, Ideal.ieee, -EReal.coe_mul]
  norm_num

theorem small_pos : ∃ r : ℝ, 0 < r ∧ small = (r : EReal) := by
  refine ⟨_, ?_, by unfold small; simp [Ideal.ofBits, Ideal.ieee, -EReal.coe_mul]; rfl⟩
  positivity

/-- A square is not negative. -/
theorem square_nonneg (x : EReal) : 0 ≤ x * x := by
  induction x using EReal.rec with
  | bot => simp
  | top => simp
  | coe r => rw [← EReal.coe_mul]; exact_mod_cast mul_self_nonneg r

/-- A row over the root of its mean square is finite, whatever the row: a row with an infinite entry is scaled to zero. -/
theorem fin_rms {d : ℕ} (x g : Fin d → EReal) (hg : ∀ j, IsFin (g j)) (j : Fin d) : IsFin (rms x g j) := by
  obtain ⟨e, he, hs⟩ := small_pos
  refine IsFin.mul ?_ (hg j)
  rw [width_eq, Ideal.div_coe (by norm_num), hs]
  by_cases h : ∀ i, IsFin (x i)
  · obtain ⟨r, hr⟩ : ∃ r : Fin d → ℝ, x = fun i => (r i : EReal) := ⟨fun i => (x i).toReal, funext fun i => (EReal.coe_toReal (h i).1 (h i).2).symm⟩
    subst hr
    have e1 : (∑ i, (r i : EReal) * (r i : EReal)) = ((∑ i, r i * r i : ℝ) : EReal) := by
      rw [← Cert.Softmax.sum_real]
      exact Finset.sum_congr rfl fun i _ => (EReal.coe_mul _ _).symm
    have hp : 0 < (∑ i, r i * r i) * (1 / 1024) + e :=
      add_pos_of_nonneg_of_pos (mul_nonneg (Finset.sum_nonneg fun i _ => mul_self_nonneg _) (by norm_num)) he
    rw [e1, ← EReal.coe_mul, ← EReal.coe_add, Ideal.rsqrt_coe, if_neg (not_lt.2 hp.le), if_neg hp.ne']
    exact (fin_coe _).mul (fin_coe _)
  · obtain ⟨i, hi⟩ := not_forall.1 h
    have ht : x i * x i = ⊤ := by
      unfold IsFin at hi
      by_cases h1 : x i = ⊤
      · rw [h1]; rfl
      · have h2 : x i = ⊥ := by
          by_contra h2
          exact hi ⟨h1, h2⟩
        rw [h2]; rfl
    have e1 : (∑ i, x i * x i) = ⊤ := by
      refine top_le_iff.1 ?_
      rw [← ht]
      exact Finset.single_le_sum (f := fun i => x i * x i) (fun i _ => square_nonneg _) (Finset.mem_univ i)
    rw [e1, EReal.top_mul_coe_of_pos (by norm_num), EReal.top_add_coe, Ideal.rsqrt_top, mul_zero]
    exact fin_zero

theorem fin_modulate {d : ℕ} (h sc sh : Fin d → EReal) (hh : ∀ j, IsFin (h j)) (hc : ∀ j, IsFin (sc j)) (hs : ∀ j, IsFin (sh j)) (j : Fin d) : IsFin (modulate h sc sh j) :=
  ((hh j).mul (IsFin.add fin_one (hc j))).add (hs j)

theorem fin_relu {d f : ℕ} (h : Fin d → EReal) (w : Fin d → Fin f → EReal) (hh : ∀ j, IsFin (h j)) (hw : ∀ i a, IsFin (w i a)) (a : Fin f) : IsFin (relu h w a) := by
  unfold relu
  rcases max_choice (∑ i, h i * w i a) 0 with e | e
  · rw [e]; exact fin_sum _ _ fun i => (hh i).mul (hw i a)
  · rw [e]; exact fin_zero

/-- A place among `m` runs of `n` lies among all `N`. -/
theorem run_lt {N m n : ℕ} (h : N = m * n) (q : Fin m) (a : Fin n) : q.val * n + a.val < N := by
  have h1 : (q.val + 1) * n ≤ m * n := Nat.mul_le_mul_right n q.isLt
  have h2 := a.isLt
  rw [Nat.add_mul, Nat.one_mul] at h1
  omega

/-- A sum is the sum of its runs' sums. -/
theorem sum_runs {N m n : ℕ} (h : N = m * n) (f : Fin N → EReal) : (∑ a, f a) = ∑ q : Fin m, ∑ a : Fin n, f ⟨q.val * n + a.val, run_lt h q a⟩ := by
  subst h
  rw [← finProdFinEquiv.sum_comp f, Fintype.sum_prod_type]
  refine Finset.sum_congr rfl fun q _ => Finset.sum_congr rfl fun a _ => congrArg f (Fin.ext ?_)
  show a.val + n * q.val = q.val * n + a.val
  rw [Nat.add_comm, Nat.mul_comm]

/-- A sum over the hidden width is the sum of its quarters' sums. -/
theorem sum_quarters (f : Fin 4096 → EReal) :
    (∑ a, f a) = (∑ a, f (place 0 a)) + (∑ a, f (place 1 a)) + (∑ a, f (place 2 a)) + ∑ a, f (place 3 a) :=
  (sum_runs (by norm_num : 4096 = 4 * 1024) f).trans (Fin.sum_univ_four _)

/-- Scaling the quarters' sums one by one is scaling their sum, when all are finite. -/
theorem scale_quarters (x g a b c d : EReal) (hg : IsFin g) (ha : IsFin a) (hb : IsFin b) (hc : IsFin c) (hd : IsFin d) :
    x + g * a + g * b + g * c + g * d = x + g * (a + b + c + d) := by
  obtain ⟨g, rfl⟩ := hg.real
  obtain ⟨a, rfl⟩ := ha.real
  obtain ⟨b, rfl⟩ := hb.real
  obtain ⟨c, rfl⟩ := hc.real
  obtain ⟨d, rfl⟩ := hd.real
  rw [add_assoc, add_assoc, add_assoc]
  congr 1
  simp only [← EReal.coe_mul, ← EReal.coe_add]
  congr 1
  ring

/-- The perceptron by quarters is the perceptron, whatever the row, over finite weights and modulation. -/
theorem quarters_eq {d : ℕ} (x g sc sh gate : Fin d → EReal) (w1 : Fin d → Fin 4096 → EReal) (w2 : Fin 4096 → Fin d → EReal)
    (hg : ∀ j, IsFin (g j)) (hc : ∀ j, IsFin (sc j)) (hs : ∀ j, IsFin (sh j)) (ht : ∀ j, IsFin (gate j)) (h1 : ∀ i a, IsFin (w1 i a)) (h2 : ∀ a j, IsFin (w2 a j)) (j : Fin d) :
    quarters x g sc sh gate w1 w2 j = residual x g sc sh gate w1 w2 j := by
  have hu := fin_relu (modulate (rms x g) sc sh) w1 (fin_modulate _ _ _ (fin_rms x g hg) hc hs) h1
  have hq (q : Fin 4) : IsFin (∑ a, relu (modulate (rms x g) sc sh) w1 (place q a) * relu (modulate (rms x g) sc sh) w1 (place q a) * w2 (place q a) j) :=
    fin_sum _ _ fun a => ((hu _).mul (hu _)).mul (h2 _ j)
  unfold residual squares
  rw [sum_quarters]
  exact scale_quarters _ _ _ _ _ _ (ht j) (hq 0) (hq 1) (hq 2) (hq 3)

end Cert.Mlp

end
-- ==== Proof.LastBlockValue.lean ====
/- The last block's call: what its body computes in the result's block, at an index. -/
module

public import proofs.«01_k».proof.Proof.Gen.LastIdeal.Skeleton
public import Idealize.ShloMosaic.Lib.Pointwise
public import Idealize.ShloMosaic.Lib.Pipeline.ValueKit
public import proofs.«01_k».proof.Proof.Mlp

set_option maxRecDepth 16384

@[expose] public section

noncomputable section

open Idealize.ShloMosaic Idealize.ShloMosaic.TcCoe Idealize.SL.Sem

namespace Cert.LastIdeal.Block

open Cert.LastIdeal Cert.LastIdeal.Gen Cert.Mlp

/-- A tile's rows plus their gated output projection. -/
theorem mix_at (v0 : FVec Ideal S1x1x6x1024 .f32) (y0 : FVec Ideal S1x1x512x512 .bf16) (o0 : FVec Ideal S512x1024 .bf16) (y1 : FVec Ideal S1x1x512x512 .bf16)
    (o1 : FVec Ideal S512x1024 .bf16) (x : FVec Ideal S1x512x1024 .f32) (r : Fin 512) (j : Fin 1024) :
    k0_pay4 (F := Ideal) v0 y0 o0 y1 o1 x (ix2 r j)
      = x (ix3 0 r j) + v0 (ix4 0 0 2 j) * ((∑ k : Fin 512, (y0 (ix4 0 0 r k) * o0 (ix2 k j) : EReal)) + ∑ k : Fin 512, (y1 (ix4 0 0 r k) * o1 (ix2 k j) : EReal)) := by
  pointwise [k0_pay4, k0_pay3]

/-- A tile's rows normalized and modulated. -/
theorem hid_at (v0 : FVec Ideal S1x1x6x1024 .f32) (x : FVec Ideal S512x1024 .f32) (g : FVec Ideal S1x1024 .f32) (r : Fin 512) (j : Fin 1024) :
    k0_pay13 (F := Ideal) (k0_pay3 v0) x g (ix3 0 r j)
      = modulate (rms (fun i => x (ix2 r i)) (fun i => g (ix2 0 i))) (fun i => v0 (ix4 0 0 4 i)) (fun i => v0 (ix4 0 0 3 i)) j := by
  pointwise [k0_pay13, k0_pay3]
  rfl

/-- A tile's hidden rows. -/
theorem act_at (h : FVec Ideal S1x512x1024 .bf16) (w : FVec Ideal S1024x1024 .bf16) (r : Fin 512) (j : Fin 1024) :
    k0_pay14 (F := Ideal) h w (ix2 r j) = relu (fun i => h (ix3 0 r i)) (fun i a => w (ix2 i a)) j := by
  pointwise [k0_pay14]
  rfl

/-- A tile's rows plus the gated product of the hidden rows' squares. -/
theorem add_at (v0 : FVec Ideal S1x1x6x1024 .f32) (u : FVec Ideal S512x1024 .f32) (o : FVec Ideal S1x512x1024 .f32) (w : FVec Ideal S1024x1024 .bf16) (r : Fin 512) (j : Fin 1024) :
    k0_pay15 (F := Ideal) (k0_pay3 v0) u o w (ix3 0 r j)
      = o (ix3 0 r j) + v0 (ix4 0 0 5 j) * squares (fun a => u (ix2 r a)) (fun a i => w (ix2 a i)) j := by
  pointwise [k0_pay15, k0_pay3]
  rfl

/-- A tile's rows normalized at the end. -/
theorem norm_at (o : FVec Ideal S1x512x1024 .f32) (g : FVec Ideal S1x1024 .f32) (r : Fin 512) (j : Fin 1024) :
    k0_pay2 (F := Ideal) o g (ix3 0 r j) = rms (fun i => o (ix3 0 r i)) (fun i => g (ix2 0 i)) j := by
  pointwise [k0_pay2]
  rfl

/-- A tile's row before its perceptron. -/
theorem start_at (x : FVec Ideal S512x1024 .f32) (r : Fin 512) (j : Fin 1024) :
    k0_pay12 (F := Ideal) x (ix3 0 r j) = x (ix2 r j) := by
  pointwise [k0_pay12]

/-- A quarter of the perceptron added to a tile's rows. -/
def stage (v0 : FVec Ideal S1x1x6x1024 .f32) (h : FVec Ideal S1x512x1024 .bf16) (o : FVec Ideal S1x512x1024 .f32) (w1 w2 : FVec Ideal S1024x1024 .bf16) : FVec Ideal S1x512x1024 .f32 :=
  k0_pay15 (F := Ideal) (k0_pay3 v0) (k0_pay14 h w1) o w2

theorem stage_at (v0 : FVec Ideal S1x1x6x1024 .f32) (h : FVec Ideal S1x512x1024 .bf16) (o : FVec Ideal S1x512x1024 .f32) (w1 w2 : FVec Ideal S1024x1024 .bf16) (r : Fin 512) (j : Fin 1024) :
    stage v0 h o w1 w2 (ix3 0 r j)
      = o (ix3 0 r j) + v0 (ix4 0 0 5 j) * squares (relu (fun i => h (ix3 0 r i)) fun i a => w1 (ix2 i a)) (fun a i => w2 (ix2 a i)) j := by
  unfold stage
  rw [add_at]
  simp only [act_at]

/-- A tile of the result: the projected rows through the four quarters, normalized. -/
def tile (v0 : FVec Ideal S1x1x6x1024 .f32) (x : FVec Ideal S512x1024 .f32) (g fg : FVec Ideal S1x1024 .f32) (p0 p1 p2 p3 q0 q1 q2 q3 : FVec Ideal S1024x1024 .bf16) : FVec Ideal S1x512x1024 .f32 :=
  k0_pay2 (F := Ideal) (stage v0 (k0_pay13 (k0_pay3 v0) x g) (stage v0 (k0_pay13 (k0_pay3 v0) x g) (stage v0 (k0_pay13 (k0_pay3 v0) x g)
    (stage v0 (k0_pay13 (k0_pay3 v0) x g) (k0_pay12 x) p0 q0) p1 q1) p2 q2) p3 q3) fg

/-- An entry of a tile: the perceptron by quarters, normalized. -/
theorem tile_at (v0 : FVec Ideal S1x1x6x1024 .f32) (x : FVec Ideal S512x1024 .f32) (g fg : FVec Ideal S1x1024 .f32) (p0 p1 p2 p3 q0 q1 q2 q3 : FVec Ideal S1024x1024 .bf16)
    (w1 : Fin 1024 → Fin 4096 → EReal) (w2 : Fin 4096 → Fin 1024 → EReal)
    (hp0 : ∀ i a, p0 (ix2 i a) = w1 i (place 0 a)) (hp1 : ∀ i a, p1 (ix2 i a) = w1 i (place 1 a)) (hp2 : ∀ i a, p2 (ix2 i a) = w1 i (place 2 a)) (hp3 : ∀ i a, p3 (ix2 i a) = w1 i (place 3 a))
    (hq0 : ∀ a i, q0 (ix2 a i) = w2 (place 0 a) i) (hq1 : ∀ a i, q1 (ix2 a i) = w2 (place 1 a) i) (hq2 : ∀ a i, q2 (ix2 a i) = w2 (place 2 a) i) (hq3 : ∀ a i, q3 (ix2 a i) = w2 (place 3 a) i)
    (r : Fin 512) (j : Fin 1024) :
    tile v0 x g fg p0 p1 p2 p3 q0 q1 q2 q3 (ix3 0 r j)
      = rms (quarters (fun i => x (ix2 r i)) (fun i => g (ix2 0 i)) (fun i => v0 (ix4 0 0 4 i)) (fun i => v0 (ix4 0 0 3 i)) (fun i => v0 (ix4 0 0 5 i)) w1 w2)
        (fun i => fg (ix2 0 i)) j := by
  unfold tile
  rw [norm_at]
  simp only [stage_at, hid_at, start_at, hp0, hp1, hp2, hp3, hq0, hq1, hq2, hq3]
  rfl

/-- The lower half of the block, as the body stores it, is a tile of the result. -/
theorem lower_tile (v0 : FVec Ideal S1x1x6x1024 .f32) (y0 : FVec Ideal S1x1x512x512 .bf16) (o0 : FVec Ideal S512x1024 .bf16) (y1 : FVec Ideal S1x1x512x512 .bf16)
    (o1 : FVec Ideal S512x1024 .bf16) (x : FVec Ideal S1x512x1024 .f32) (g fg : FVec Ideal S1x1024 .f32) (p0 p1 p2 p3 q0 q1 q2 q3 : FVec Ideal S1024x1024 .bf16) :
    k0_pay22 (F := Ideal) (k0_pay21 (F := Ideal) (k0_pay18 (F := Ideal) (k0_pay17 (F := Ideal) (k0_pay3 (F := Ideal) v0) (k0_pay10 (F := Ideal) (k0_pay4 (F := Ideal) v0 y0 o0 y1 o1 x) (k0_pay6 (F := Ideal) g) (k0_pay7 (F := Ideal) v0) (k0_pay8 (F := Ideal) v0) (k0_pay9 (F := Ideal) v0 y0 o0 y1 o1 x) (FloatOps.ofBits (F := Ideal) FTy.f32 1149239296#32)) p2
      (k0_pay16 (F := Ideal) (k0_pay3 (F := Ideal) v0) (k0_pay10 (F := Ideal) (k0_pay4 (F := Ideal) v0 y0 o0 y1 o1 x) (k0_pay6 (F := Ideal) g) (k0_pay7 (F := Ideal) v0) (k0_pay8 (F := Ideal) v0) (k0_pay9 (F := Ideal) v0 y0 o0 y1 o1 x) (FloatOps.ofBits (F := Ideal) FTy.f32 1149239296#32)) p1
        (k0_pay15 (F := Ideal) (k0_pay3 (F := Ideal) v0) (k0_pay14 (F := Ideal) (k0_pay10 (F := Ideal) (k0_pay4 (F := Ideal) v0 y0 o0 y1 o1 x) (k0_pay6 (F := Ideal) g) (k0_pay7 (F := Ideal) v0) (k0_pay8 (F := Ideal) v0) (k0_pay9 (F := Ideal) v0 y0 o0 y1 o1 x) (FloatOps.ofBits (F := Ideal) FTy.f32 1149239296#32)) p0)
          (k0_pay5 (F := Ideal) v0 y0 o0 y1 o1 x) q0) q1) q2)) (k0_pay19 (F := Ideal) (k0_pay3 (F := Ideal) v0))
      (k0_pay20 (F := Ideal) (k0_pay10 (F := Ideal) (k0_pay4 (F := Ideal) v0 y0 o0 y1 o1 x) (k0_pay6 (F := Ideal) g) (k0_pay7 (F := Ideal) v0) (k0_pay8 (F := Ideal) v0) (k0_pay9 (F := Ideal) v0 y0 o0 y1 o1 x) (FloatOps.ofBits (F := Ideal) FTy.f32 1149239296#32)) p3) q3) fg
      = tile v0 (k0_pay4 (F := Ideal) v0 y0 o0 y1 o1 x) g fg p0 p1 p2 p3 q0 q1 q2 q3 := rfl

/-- The upper half of the block, as the body stores it, is a tile of the result. -/
theorem upper_tile (v0 : FVec Ideal S1x1x6x1024 .f32) (y0 : FVec Ideal S1x1x512x512 .bf16) (o0 : FVec Ideal S512x1024 .bf16) (y1 : FVec Ideal S1x1x512x512 .bf16)
    (o1 : FVec Ideal S512x1024 .bf16) (x : FVec Ideal S1x512x1024 .f32) (g fg : FVec Ideal S1x1024 .f32) (p0 p1 p2 p3 q0 q1 q2 q3 : FVec Ideal S1024x1024 .bf16) :
    k0_pay2 (F := Ideal) (k0_pay1 (F := Ideal) (k0_pay27 (F := Ideal) (k0_pay26 (F := Ideal) (k0_pay3 (F := Ideal) v0) (k0_pay13 (F := Ideal) (k0_pay3 (F := Ideal) v0) (k0_pay11 (F := Ideal) (k0_pay3 (F := Ideal) v0) y0 o0 y1 o1 x) g) p2
      (k0_pay25 (F := Ideal) (k0_pay3 (F := Ideal) v0) (k0_pay13 (F := Ideal) (k0_pay3 (F := Ideal) v0) (k0_pay11 (F := Ideal) (k0_pay3 (F := Ideal) v0) y0 o0 y1 o1 x) g) p1
        (k0_pay24 (F := Ideal) (k0_pay3 (F := Ideal) v0) (k0_pay23 (F := Ideal) (k0_pay13 (F := Ideal) (k0_pay3 (F := Ideal) v0) (k0_pay11 (F := Ideal) (k0_pay3 (F := Ideal) v0) y0 o0 y1 o1 x) g) p0) (k0_pay12 (F := Ideal) (k0_pay11 (F := Ideal) (k0_pay3 (F := Ideal) v0) y0 o0 y1 o1 x)) q0) q1) q2))
      (k0_pay28 (F := Ideal) (k0_pay3 (F := Ideal) v0)) (k0_pay29 (F := Ideal) (k0_pay13 (F := Ideal) (k0_pay3 (F := Ideal) v0) (k0_pay11 (F := Ideal) (k0_pay3 (F := Ideal) v0) y0 o0 y1 o1 x) g) p3) q3) fg
      = tile v0 (k0_pay4 (F := Ideal) v0 y0 o0 y1 o1 x) g fg p0 p1 p2 p3 q0 q1 q2 q3 := rfl

/-- A row of the block plus its gated output projection, over the blocks. -/
def mixRow (X : FVec Ideal S1x1024x1024 .f32) (Y : FVec Ideal S1x2x1024x512 .bf16) (M : FVec Ideal S1x1x6x1024 .f32) (O : FVec Ideal S1024x1024 .bf16) (n : Fin 1024) (j : Fin 1024) : EReal :=
  X (ix3 0 n j) + M (ix4 0 0 2 j) * ((∑ k : Fin 512, (Y (ix4 0 0 n k) * O (ix2 ⟨k.val, by omega⟩ j) : EReal)) + ∑ k : Fin 512, (Y (ix4 0 1 n k) * O (ix2 ⟨512 + k.val, by omega⟩ j) : EReal))

/-- A row of the block the body leaves, over the blocks. -/
def outRow (X : FVec Ideal S1x1024x1024 .f32) (Y : FVec Ideal S1x2x1024x512 .bf16) (M : FVec Ideal S1x1x6x1024 .f32) (O : FVec Ideal S1024x1024 .bf16) (G : FVec Ideal S1x1024 .f32)
    (W1 : FVec Ideal S1024x4096 .bf16) (W2 : FVec Ideal S4096x1024 .bf16) (FG : FVec Ideal S1x1024 .f32) (n : Fin 1024) : Fin 1024 → EReal :=
  rms (quarters (mixRow X Y M O n) (fun i => G (ix2 0 i)) (fun i => M (ix4 0 0 4 i)) (fun i => M (ix4 0 0 3 i)) (fun i => M (ix4 0 0 5 i))
    (fun i a => W1 (ix2 i a)) (fun a i => W2 (ix2 a i))) (fun i => FG (ix2 0 i))

/-- A tile over loads from the blocks, at an index, is the block's row. -/
theorem tile_row (X : FVec Ideal S1x1024x1024 .f32) (Y : FVec Ideal S1x2x1024x512 .bf16) (M : FVec Ideal S1x1x6x1024 .f32) (O : FVec Ideal S1024x1024 .bf16) (G : FVec Ideal S1x1024 .f32)
    (W1 : FVec Ideal S1024x4096 .bf16) (W2 : FVec Ideal S4096x1024 .bf16) (FG : FVec Ideal S1x1024 .f32) (n : Fin 1024) (o : ℕ) (r : Fin 512) (hn : n.val = o + r.val) (j : Fin 1024)
    (bx) (by0) (by1) (bo0) (bo1) (b10) (b11) (b12) (b13) (b20) (b21) (b22) (b23) :
    tile M (k0_pay4 (F := Ideal) M (View.ld (Val := Elt Ideal) (e' := .bf16) Y (Rect.unit (s := S1x2x1024x512) ![0, 0, o, 0] S1x1x512x512.size by0)) (View.ld (Val := Elt Ideal) (e' := .bf16) O (Rect.unit (s := S1024x1024) ![0, 0] S512x1024.size bo0))
        (View.ld (Val := Elt Ideal) (e' := .bf16) Y (Rect.unit (s := S1x2x1024x512) ![0, 1, o, 0] S1x1x512x512.size by1)) (View.ld (Val := Elt Ideal) (e' := .bf16) O (Rect.unit (s := S1024x1024) ![512, 0] S512x1024.size bo1))
        (View.ld (Val := Elt Ideal) (e' := .f32) X (Rect.unit (s := S1x1024x1024) ![0, o, 0] S1x512x1024.size bx))) G FG
      (View.ld (Val := Elt Ideal) (e' := .bf16) W1 (Rect.unit (s := S1024x4096) ![0, 0] S1024x1024.size b10)) (View.ld (Val := Elt Ideal) (e' := .bf16) W1 (Rect.unit (s := S1024x4096) ![0, 1024] S1024x1024.size b11))
      (View.ld (Val := Elt Ideal) (e' := .bf16) W1 (Rect.unit (s := S1024x4096) ![0, 2048] S1024x1024.size b12)) (View.ld (Val := Elt Ideal) (e' := .bf16) W1 (Rect.unit (s := S1024x4096) ![0, 3072] S1024x1024.size b13))
      (View.ld (Val := Elt Ideal) (e' := .bf16) W2 (Rect.unit (s := S4096x1024) ![0, 0] S1024x1024.size b20)) (View.ld (Val := Elt Ideal) (e' := .bf16) W2 (Rect.unit (s := S4096x1024) ![1024, 0] S1024x1024.size b21))
      (View.ld (Val := Elt Ideal) (e' := .bf16) W2 (Rect.unit (s := S4096x1024) ![2048, 0] S1024x1024.size b22)) (View.ld (Val := Elt Ideal) (e' := .bf16) W2 (Rect.unit (s := S4096x1024) ![3072, 0] S1024x1024.size b23)) (ix3 0 r j)
      = outRow X Y M O G W1 W2 FG n j := by
  have hw1 (q : Fin 4) (off : ℕ) (ho : off = q.val * 1024) (inb) (i a : Fin 1024) :
      View.ld (Val := Elt Ideal) (e' := .bf16) W1 (Rect.unit (s := S1024x4096) ![0, off] S1024x1024.size inb) (ix2 i a) = W1 (ix2 i (place q a)) := by
    refine View.ld_unit_apply_of _ _ _ _ _ _ fun b => ?_
    match b with
    | ⟨0, _⟩ => exact (Nat.zero_add _).symm
    | ⟨1, _⟩ => exact congrArg (· + a.val) ho.symm
  have hw2 (q : Fin 4) (off : ℕ) (ho : off = q.val * 1024) (inb) (a i : Fin 1024) :
      View.ld (Val := Elt Ideal) (e' := .bf16) W2 (Rect.unit (s := S4096x1024) ![off, 0] S1024x1024.size inb) (ix2 a i) = W2 (ix2 (place q a) i) := by
    refine View.ld_unit_apply_of _ _ _ _ _ _ fun b => ?_
    match b with
    | ⟨0, _⟩ => exact congrArg (· + a.val) ho.symm
    | ⟨1, _⟩ => exact (Nat.zero_add _).symm
  refine (tile_at _ _ _ _ _ _ _ _ _ _ _ _ (fun i a => W1 (ix2 i a)) (fun a i => W2 (ix2 a i)) (hw1 0 _ rfl _) (hw1 1 _ rfl _) (hw1 2 _ rfl _) (hw1 3 _ rfl _)
    (hw2 0 _ rfl _) (hw2 1 _ rfl _) (hw2 2 _ rfl _) (hw2 3 _ rfl _) r j).trans ?_
  unfold outRow
  refine congrArg (fun x => rms (quarters x _ _ _ _ _ _) _ j) (funext fun i => ?_)
  refine (mix_at _ _ _ _ _ _ r i).trans ?_
  have hx : View.ld (Val := Elt Ideal) (e' := .f32) X (Rect.unit (s := S1x1024x1024) ![0, o, 0] S1x512x1024.size bx) (ix3 0 r i) = X (ix3 0 n i) := by
    refine View.ld_unit_apply_of _ _ _ _ _ _ fun b => ?_
    match b with
    | ⟨0, _⟩ => rfl
    | ⟨1, _⟩ => exact hn
    | ⟨2, _⟩ => exact (Nat.zero_add _).symm
  have hy (h : Fin 2) (inb) (k : Fin 512) : View.ld (Val := Elt Ideal) (e' := .bf16) Y (Rect.unit (s := S1x2x1024x512) ![0, h.val, o, 0] S1x1x512x512.size inb) (ix4 0 0 r k) = Y (ix4 0 h n k) := by
    refine View.ld_unit_apply_of _ _ _ _ _ _ fun b => ?_
    match b with
    | ⟨0, _⟩ => rfl
    | ⟨1, _⟩ => rfl
    | ⟨2, _⟩ => exact hn
    | ⟨3, _⟩ => exact (Nat.zero_add _).symm
  have h0 (k : Fin 512) : View.ld (Val := Elt Ideal) (e' := .bf16) O (Rect.unit (s := S1024x1024) ![0, 0] S512x1024.size bo0) (ix2 k i) = O (ix2 ⟨k.val, by omega⟩ i) := by
    refine View.ld_unit_apply_of _ _ _ _ _ _ fun b => ?_
    match b with
    | ⟨0, _⟩ => exact (Nat.zero_add _).symm
    | ⟨1, _⟩ => exact (Nat.zero_add _).symm
  have h1 (k : Fin 512) : View.ld (Val := Elt Ideal) (e' := .bf16) O (Rect.unit (s := S1024x1024) ![512, 0] S512x1024.size bo1) (ix2 k i) = O (ix2 ⟨512 + k.val, by omega⟩ i) := by
    refine View.ld_unit_apply_of _ _ _ _ _ _ fun b => ?_
    match b with
    | ⟨0, _⟩ => rfl
    | ⟨1, _⟩ => exact (Nat.zero_add _).symm
  unfold mixRow
  rw [hx]
  refine congrArg (fun z => X (ix3 0 n i) + M (ix4 0 0 2 i) * z) (congrArg₂ (· + ·) ?_ ?_)
  · exact Finset.sum_congr rfl fun k _ => congrArg₂ (· * ·) (hy 0 _ k) (h0 k)
  · exact Finset.sum_congr rfl fun k _ => congrArg₂ (· * ·) (hy 1 _ k) (h1 k)

end Cert.LastIdeal.Block

end
-- ==== Proof.Pieces.lean ====
/- What a list of stores leaves at an index. -/
module

public import Idealize.ShloMosaic.Lib.Pipeline.ValueKit
public import Idealize.ShloMosaic.Lib.Pipeline.ReadBack

@[expose] public section

noncomputable section

open Idealize.ShloMosaic Idealize.ShloMosaic.TcCoe Idealize.SL.Sem

namespace Cert.Pieces

/-- A store at an index leaves its own value there. -/
theorem hit {Val : EltTy → Type} [∀ e, Nonempty (Val e)] {s : Shape} {e : EltTy} (r : Rect s) (w : r.shape.Idx → Val e) (L : List (View.Piece Val s e)) (y : s.Idx) (x : r.shape.Idx) (h : r.emb x = y) :
    View.canon (⟨r, w⟩ :: L) y = w x := by
  subst h
  exact View.canon_cons_emb r w L x

/-- A store elsewhere leaves an index as the earlier ones did. -/
theorem skip {Val : EltTy → Type} [∀ e, Nonempty (Val e)] {s : Shape} {e : EltTy} (r : Rect s) (w : r.shape.Idx → Val e) (L : List (View.Piece Val s e)) (y : s.Idx) (h : y ∉ r.set) :
    View.canon (⟨r, w⟩ :: L) y = View.canon L y :=
  View.canon_cons_of_not_mem ⟨r, w⟩ L h

/-- An index below a rectangle's first along an axis is not in it. -/
theorem below {s : Shape} (off size : Fin s.rank → ℕ) (inb) (a : Fin s.rank) (y : s.Idx) (h : (y a).val < off a) : y ∉ (Rect.unit off size inb).set := fun hm =>
  absurd (Rect.mem_set_unit.1 hm a).1 (not_le.2 h)

/-- Every store of a list leaves a function's values. -/
def Agree {Val : EltTy → Type} {s : Shape} {e : EltTy} (f : s.Idx → Val e) : List (View.Piece Val s e) → Prop
  | [] => True
  | p :: L => (∀ x, p.2 x = f (p.1.emb x)) ∧ Agree f L

/-- No store leaves any other value. -/
theorem agree_nil {Val : EltTy → Type} {s : Shape} {e : EltTy} (f : s.Idx → Val e) : Agree f [] := trivial

/-- One more store of the function's values. -/
theorem agree_cons {Val : EltTy → Type} {s : Shape} {e : EltTy} {f : s.Idx → Val e} {r : Rect s} {w : r.shape.Idx → Val e} {L : List (View.Piece Val s e)} (h : ∀ x, w x = f (r.emb x)) (t : Agree f L) :
    Agree f (⟨r, w⟩ :: L) := ⟨h, t⟩

/-- Stores of a function's values leave the function at every index one of them reaches. -/
theorem whole {Val : EltTy → Type} [∀ e, Nonempty (Val e)] {s : Shape} {e : EltTy} (f : s.Idx → Val e) (L : List (View.Piece Val s e)) (h : Agree f L) (y : s.Idx) (hy : ∃ p ∈ L, y ∈ p.1.set) :
    View.canon L y = f y := by
  induction L with
  | nil => exact absurd hy.choose_spec.1 List.not_mem_nil
  | cons p L ih =>
    by_cases hp : y ∈ p.1.set
    · have hm : y ∈ Finset.univ.map p.1.emb := by rw [p.1.map_emb_univ]; exact hp
      obtain ⟨x, _, rfl⟩ := Finset.mem_map.1 hm
      exact (View.canon_cons_emb p.1 p.2 L x).trans (h.1 x)
    · refine (View.canon_cons_of_not_mem p L hp).trans (ih h.2 ?_)
      obtain ⟨q, hq, hm⟩ := hy
      rcases List.mem_cons.1 hq with rfl | hq
      · exact absurd hm hp
      · exact ⟨q, hq, hm⟩

end Cert.Pieces

end
-- ==== Proof.LastOut.lean ====
/- The last block's call: what its body leaves in the result's block, by rows. -/
module

public import proofs.«01_k».proof.Proof.Gen.LastIdeal.Value
public import proofs.«01_k».proof.Proof.LastBlockValue
public import proofs.«01_k».proof.Proof.Pieces
public import Idealize.ShloMosaic.Lib.Pipeline.ReadBack

set_option maxRecDepth 65536
set_option maxHeartbeats 400000

@[expose] public section

noncomputable section

open Idealize.ShloMosaic Idealize.ShloMosaic.TcCoe Idealize.SL.Sem
open Idealize.ShloMosaic.Pipeline (Dat)

namespace Cert.LastIdeal.Block

open Cert.LastIdeal Cert.LastIdeal.Gen Cert.Mlp Cert.Pieces

/-- A row in the upper half of the block, over any blocks. -/
theorem upper (c : Dev nD) (i : grid0.Coords) (arg2 : Memref sig .tc .vmem S1x1024x1024 .f32) (harg2 : arg2.IsWhole) (arg3 : Memref sig .tc .vmem S1x2x1024x512 .bf16) (harg3 : arg3.IsWhole) (arg4 : Memref sig .tc .vmem S1x1x8x128 .bf16) (harg4 : arg4.IsWhole) (arg5 : Memref sig .tc .vmem S1x1x6x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x4096 .bf16) (harg8 : arg8.IsWhole) (arg9 : Memref sig .tc .vmem S4096x1024 .bf16) (harg9 : arg9.IsWhole) (arg10 : Memref sig .tc .vmem S1x1024 .f32) (harg10 : arg10.IsWhole) (arg11 : Memref sig .tc .vmem S1x1024x1024 .f32) (harg11 : arg11.IsWhole) (arg12 : Memref sig .tc .vmem S2x512x1024 .bf16) (harg12 : arg12.IsWhole)
    (x0 : Vec Ideal S1x1024x1024 .f32) (x1 : Vec Ideal S1x2x1024x512 .bf16) (x2 : Vec Ideal S1x1x8x128 .bf16) (x3 : Vec Ideal S1x1x6x1024 .f32) (x4 : Vec Ideal S1024x1024 .bf16) (x5 : Vec Ideal S1x1024 .f32) (x6 : Vec Ideal S1024x4096 .bf16) (x7 : Vec Ideal S4096x1024 .bf16) (x8 : Vec Ideal S1x1024 .f32)
    (n : Fin 1024) (r : Fin 512) (hn : n.val = 512 + r.val) (j : Fin 1024) :
    out0_A_9 (F := Ideal) c i arg2 harg2 arg3 harg3 arg4 harg4 arg5 harg5 arg6 harg6 arg7 harg7 arg8 harg8 arg9 harg9 arg10 harg10 arg11 harg11 arg12 harg12 x0 x1 x2 x3 x4 x5 x6 x7 x8 (ix3 0 n j) = outRow x0 x1 x3 x4 x5 x6 x7 x8 n j := by
  have he (inb) : (Rect.unit (s := S1x1024x1024) ![0, 512, 0] ![1, 512, 1024] inb).emb (ix3 (0 : Fin 1) r j) = ix3 (0 : Fin 1) n j := by
    funext b
    apply Fin.ext
    match b with
    | ⟨0, _⟩ => rfl
    | ⟨1, _⟩ => simp [hn]
    | ⟨2, _⟩ => simp
  unfold out0_A_9
  frame_open
  simp (disch := decide) only [↓ View.readCov_skip, ↓ View.readCov_cons_toLoadRect, ↓ View.readCov_fill]
  frame_out
  refine (hit _ _ _ _ (ix3 0 r j) (he _)).trans ?_
  refine (congrFun (upper_tile _ _ _ _ _ _ _ _ _ _ _ _ _ _ _ _) _).trans ?_
  exact tile_row x0 x1 x3 x4 x5 x6 x7 x8 n 512 r hn j _ _ _ _ _ _ _ _ _ _ _ _ _

set_option maxHeartbeats 4000000 in
/-- A row in the lower half of the block, over any blocks. -/
theorem lower (c : Dev nD) (i : grid0.Coords) (arg2 : Memref sig .tc .vmem S1x1024x1024 .f32) (harg2 : arg2.IsWhole) (arg3 : Memref sig .tc .vmem S1x2x1024x512 .bf16) (harg3 : arg3.IsWhole) (arg4 : Memref sig .tc .vmem S1x1x8x128 .bf16) (harg4 : arg4.IsWhole) (arg5 : Memref sig .tc .vmem S1x1x6x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x4096 .bf16) (harg8 : arg8.IsWhole) (arg9 : Memref sig .tc .vmem S4096x1024 .bf16) (harg9 : arg9.IsWhole) (arg10 : Memref sig .tc .vmem S1x1024 .f32) (harg10 : arg10.IsWhole) (arg11 : Memref sig .tc .vmem S1x1024x1024 .f32) (harg11 : arg11.IsWhole) (arg12 : Memref sig .tc .vmem S2x512x1024 .bf16) (harg12 : arg12.IsWhole)
    (x0 : Vec Ideal S1x1024x1024 .f32) (x1 : Vec Ideal S1x2x1024x512 .bf16) (x2 : Vec Ideal S1x1x8x128 .bf16) (x3 : Vec Ideal S1x1x6x1024 .f32) (x4 : Vec Ideal S1024x1024 .bf16) (x5 : Vec Ideal S1x1024 .f32) (x6 : Vec Ideal S1024x4096 .bf16) (x7 : Vec Ideal S4096x1024 .bf16) (x8 : Vec Ideal S1x1024 .f32)
    (n : Fin 1024) (r : Fin 512) (hn : n.val = 0 + r.val) (j : Fin 1024) :
    out0_A_9 (F := Ideal) c i arg2 harg2 arg3 harg3 arg4 harg4 arg5 harg5 arg6 harg6 arg7 harg7 arg8 harg8 arg9 harg9 arg10 harg10 arg11 harg11 arg12 harg12 x0 x1 x2 x3 x4 x5 x6 x7 x8 (ix3 0 n j) = outRow x0 x1 x3 x4 x5 x6 x7 x8 n j := by
  have he (inb) : (Rect.unit (s := S1x1024x1024) ![0, 0, 0] ![1, 512, 1024] inb).emb (ix3 (0 : Fin 1) r j) = ix3 (0 : Fin 1) n j := by
    funext b
    apply Fin.ext
    match b with
    | ⟨0, _⟩ => rfl
    | ⟨1, _⟩ => simp [hn]
    | ⟨2, _⟩ => simp
  unfold out0_A_9
  frame_open
  simp (disch := decide) only [↓ View.readCov_skip, ↓ View.readCov_cons_toLoadRect, ↓ View.readCov_fill]
  frame_out
  have hb (inb) : ix3 (0 : Fin 1) n j ∉ (Rect.unit (s := S1x1024x1024) ![0, 512, 0] ![1, 512, 1024] inb).set :=
    below _ _ _ 1 _ (by have h : n.val < 512 := by omega
                        simpa using h)
  refine (skip _ _ _ _ (hb _)).trans ?_
  refine (skip _ _ _ _ (hb _)).trans ?_
  refine (skip _ _ _ _ (hb _)).trans ?_
  refine (skip _ _ _ _ (hb _)).trans ?_
  refine (skip _ _ _ _ (hb _)).trans ?_
  refine (hit _ _ _ _ (ix3 0 r j) (he _)).trans ?_
  refine (congrFun (lower_tile _ _ _ _ _ _ _ _ _ _ _ _ _ _ _ _) _).trans ?_
  exact tile_row x0 x1 x3 x4 x5 x6 x7 x8 n 0 r hn j _ _ _ _ _ _ _ _ _ _ _ _ _

variable (m : (ℓ : Loc nD τ sig) → Buf (Elt Ideal) ℓ)

/-- A row of the block the body leaves at a point. -/
theorem outs_at (c : Dev nD) (t : Fin cfg0.N) (n j : Fin 1024) :
    outsAt0 m c t (ix3 0 n j) = outRow (iblk m c 0 t) (iblk m c 1 t) (iblk m c 3 t) (iblk m c 4 t) (iblk m c 5 t) (iblk m c 6 t) (iblk m c 7 t) (iblk m c 8 t) n j := by
  unfold outsAt0
  by_cases h : n.val < 512
  · exact lower _ _ _ _ _ _ _ _ _ _ _ _ _ _ _ _ _ _ _ _ _ _ _ _ _ _ _ _ _ _ _ _ _ n ⟨n.val, h⟩ (Nat.zero_add _).symm j
  · exact upper _ _ _ _ _ _ _ _ _ _ _ _ _ _ _ _ _ _ _ _ _ _ _ _ _ _ _ _ _ _ _ _ _ n ⟨n.val - 512, by omega⟩ (by show n.val = 512 + (n.val - 512); omega) j

end Cert.LastIdeal.Block

end
-- ==== Proof.LastParts.lean ====
/- The last block's call: what the arrays it is called with hold, and its blocks as parts of its arguments. -/
module

public import proofs.«01_k».proof.Proof.LastOut

set_option maxRecDepth 16384

@[expose] public section

noncomputable section

open Idealize.ShloMosaic Idealize.ShloMosaic.TcCoe Idealize.SL.Sem
open Idealize.ShloMosaic.Pipeline (Dat)

namespace Cert.LastIdeal.Block

open Cert.LastIdeal Cert.LastIdeal.Gen

variable (m : (ℓ : Loc nD τ sig) → Buf (Elt Ideal) ℓ)

/-- The program's arguments. -/
abbrev argX (c : Dev nD) : FVec Ideal S16x4096x1024 .f32 := m ((c : Thread nD τ).loc main_arg0)
abbrev argY (c : Dev nD) : FVec Ideal S16x2x4096x512 .f32 := m ((c : Thread nD τ).loc main_arg1)
abbrev argM (c : Dev nD) : FVec Ideal S2x32x6x1024 .f32 := m ((c : Thread nD τ).loc main_arg2)
abbrev argO (c : Dev nD) : FVec Ideal S1x1024x1024 .f32 := m ((c : Thread nD τ).loc main_arg3)
abbrev argG (c : Dev nD) : FVec Ideal S2x1024 .f32 := m ((c : Thread nD τ).loc main_arg4)
abbrev argW1 (c : Dev nD) : FVec Ideal S2x1024x4096 .f32 := m ((c : Thread nD τ).loc main_arg5)
abbrev argW2 (c : Dev nD) : FVec Ideal S2x4096x1024 .f32 := m ((c : Thread nD τ).loc main_arg6)
abbrev argF (c : Dev nD) : FVec Ideal S1024 .f32 := m ((c : Thread nD τ).loc main_arg7)

/-- The arrays the call reads besides its arguments: the arguments, a layer of them where they have two. -/
theorem prep_y (c : Dev nD) (b : Fin 16) (h : Fin 2) (n : Fin 4096) (k : Fin 512) :
    (show FVec Ideal S16x2x4096x512 .bf16 from V m c main_v0) (ix4 b h n k) = argY m c (ix4 b h n k) := by
  entry_read
  pointwise
theorem prep_o (c : Dev nD) (k j : Fin 1024) : (show FVec Ideal S1024x1024 .bf16 from V m c main_v2) (ix2 k j) = argO m c (ix3 0 k j) := by
  entry_read
  pointwise
theorem prep_g (c : Dev nD) (j : Fin 1024) : (show FVec Ideal S1x1024 .f32 from V m c main_v5) (ix2 0 j) = argG m c (ix2 1 j) := by
  entry_read
  pointwise
theorem prep_w1 (c : Dev nD) (i : Fin 1024) (a : Fin 4096) : (show FVec Ideal S1024x4096 .bf16 from V m c main_v8) (ix2 i a) = argW1 m c (ix3 1 i a) := by
  entry_read
  pointwise
theorem prep_w2 (c : Dev nD) (a : Fin 4096) (i : Fin 1024) : (show FVec Ideal S4096x1024 .bf16 from V m c main_v11) (ix2 a i) = argW2 m c (ix3 1 a i) := by
  entry_read
  pointwise
theorem prep_f (c : Dev nD) (j : Fin 1024) : (show FVec Ideal S1x1024 .f32 from V m c main_v12) (ix2 0 j) = argF m c (ix1 j) := by
  entry_read
  pointwise

/-- The windows' block indices, at every point. -/
theorem idx : ∀ t : Fin cfg0.N, win0_0.index t = ![(grid0.coords t 0).val, (grid0.coords t 1).val, 0] ∧ win0_1.index t = ![(grid0.coords t 0).val, 0, (grid0.coords t 1).val, 0]
    ∧ win0_3.index t = ![1, (grid0.coords t 0).val, 0, 0] ∧ win0_4.index t = ![0, 0] ∧ win0_5.index t = ![0, 0] ∧ win0_6.index t = ![0, 0] ∧ win0_7.index t = ![0, 0]
    ∧ win0_8.index t = ![0, 0] ∧ win0_9.index t = ![(grid0.coords t 0).val, (grid0.coords t 1).val, 0] :=
  (by decide +kernel : ∀ t : Fin grid0.N, _)

/-- A token's place in its batch. -/
def token (t : Fin cfg0.N) (n : Fin 1024) : Fin 4096 := ⟨(grid0.coords t 1).val * 1024 + n.val, by have h : (grid0.coords t 1).val < 4 := (grid0.coords t 1).isLt; omega⟩

/-- A point's batch. -/
def batch (t : Fin cfg0.N) : Fin 16 := ⟨(grid0.coords t 0).val, (grid0.coords t 0).isLt⟩

/-- Blocks cut from any contents of their arrays. -/
theorem read_x (c : Dev nD) (A : Buf (Elt Ideal) ((c : Thread nD τ).loc main_arg0)) (t : Fin cfg0.N) (n j : Fin 1024) :
    ((cfg0.win 0).blk t).view.read (Elt Ideal) A (ix3 0 n j) = (show FVec Ideal S16x4096x1024 .f32 from A) (ix3 (batch t) (token t n) j) := by
  have he : ((cfg0.win 0).blk t).view.emb (ix3 0 n j) = ix3 (batch t) (token t n) j := by
    blk_ext [idx t, batch, token]
  exact congrArg A he
theorem read_y (c : Dev nD) (A : Buf (Elt Ideal) ((c : Thread nD τ).loc main_v0)) (t : Fin cfg0.N) (h : Fin 2) (n : Fin 1024) (k : Fin 512) :
    ((cfg0.win 1).blk t).view.read (Elt Ideal) A (ix4 0 h n k) = (show FVec Ideal S16x2x4096x512 .bf16 from A) (ix4 (batch t) h (token t n) k) := by
  have he : ((cfg0.win 1).blk t).view.emb (ix4 0 h n k) = ix4 (batch t) h (token t n) k := by
    blk_ext [idx t, batch, token]
  exact congrArg A he
theorem read_m (c : Dev nD) (A : Buf (Elt Ideal) ((c : Thread nD τ).loc main_arg2)) (t : Fin cfg0.N) (r : Fin 6) (j : Fin 1024) :
    ((cfg0.win 3).blk t).view.read (Elt Ideal) A (ix4 0 0 r j) = (show FVec Ideal S2x32x6x1024 .f32 from A) (ix4 1 ⟨(batch t).val, by omega⟩ r j) := by
  have he : ((cfg0.win 3).blk t).view.emb (ix4 0 0 r j) = ix4 1 ⟨(batch t).val, by omega⟩ r j := by
    blk_ext [idx t, batch]
  exact congrArg A he
theorem read_o (c : Dev nD) (A : Buf (Elt Ideal) ((c : Thread nD τ).loc main_v2)) (t : Fin cfg0.N) (k j : Fin 1024) :
    ((cfg0.win 4).blk t).view.read (Elt Ideal) A (ix2 k j) = (show FVec Ideal S1024x1024 .bf16 from A) (ix2 k j) := by
  have he : ((cfg0.win 4).blk t).view.emb (ix2 k j) = ix2 k j := by
    blk_ext [idx t]
  exact congrArg A he
theorem read_g (c : Dev nD) (A : Buf (Elt Ideal) ((c : Thread nD τ).loc main_v5)) (t : Fin cfg0.N) (j : Fin 1024) :
    ((cfg0.win 5).blk t).view.read (Elt Ideal) A (ix2 0 j) = (show FVec Ideal S1x1024 .f32 from A) (ix2 0 j) := by
  have he : ((cfg0.win 5).blk t).view.emb (ix2 0 j) = ix2 0 j := by
    blk_ext [idx t]
  exact congrArg A he
theorem read_w1 (c : Dev nD) (A : Buf (Elt Ideal) ((c : Thread nD τ).loc main_v8)) (t : Fin cfg0.N) (i : Fin 1024) (a : Fin 4096) :
    ((cfg0.win 6).blk t).view.read (Elt Ideal) A (ix2 i a) = (show FVec Ideal S1024x4096 .bf16 from A) (ix2 i a) := by
  have he : ((cfg0.win 6).blk t).view.emb (ix2 i a) = ix2 i a := by
    blk_ext [idx t]
  exact congrArg A he
theorem read_w2 (c : Dev nD) (A : Buf (Elt Ideal) ((c : Thread nD τ).loc main_v11)) (t : Fin cfg0.N) (a : Fin 4096) (i : Fin 1024) :
    ((cfg0.win 7).blk t).view.read (Elt Ideal) A (ix2 a i) = (show FVec Ideal S4096x1024 .bf16 from A) (ix2 a i) := by
  have he : ((cfg0.win 7).blk t).view.emb (ix2 a i) = ix2 a i := by
    blk_ext [idx t]
  exact congrArg A he
theorem read_f (c : Dev nD) (A : Buf (Elt Ideal) ((c : Thread nD τ).loc main_v12)) (t : Fin cfg0.N) (j : Fin 1024) :
    ((cfg0.win 8).blk t).view.read (Elt Ideal) A (ix2 0 j) = (show FVec Ideal S1x1024 .f32 from A) (ix2 0 j) := by
  have he : ((cfg0.win 8).blk t).view.emb (ix2 0 j) = ix2 0 j := by
    blk_ext [idx t]
  exact congrArg A he

/-- The call's blocks, as parts of the arguments. -/
theorem block_x (c : Dev nD) (t : Fin cfg0.N) (n j : Fin 1024) : (show FVec Ideal S1x1024x1024 .f32 from iblk m c 0 t) (ix3 0 n j) = argX m c (ix3 (batch t) (token t n) j) :=
  (read_x c (V m c main_arg0) t n j).trans (congrFun (V_main_arg0 m c) _)
theorem block_y (c : Dev nD) (t : Fin cfg0.N) (h : Fin 2) (n : Fin 1024) (k : Fin 512) :
    (show FVec Ideal S1x2x1024x512 .bf16 from iblk m c 1 t) (ix4 0 h n k) = argY m c (ix4 (batch t) h (token t n) k) :=
  (read_y c (V m c main_v0) t h n k).trans (prep_y m c _ _ _ _)
theorem block_m (c : Dev nD) (t : Fin cfg0.N) (r : Fin 6) (j : Fin 1024) :
    (show FVec Ideal S1x1x6x1024 .f32 from iblk m c 3 t) (ix4 0 0 r j) = argM m c (ix4 1 ⟨(batch t).val, by omega⟩ r j) :=
  (read_m c (V m c main_arg2) t r j).trans (congrFun (V_main_arg2 m c) _)
theorem block_o (c : Dev nD) (t : Fin cfg0.N) (k j : Fin 1024) : (show FVec Ideal S1024x1024 .bf16 from iblk m c 4 t) (ix2 k j) = argO m c (ix3 0 k j) :=
  (read_o c (V m c main_v2) t k j).trans (prep_o m c _ _)
theorem block_g (c : Dev nD) (t : Fin cfg0.N) (j : Fin 1024) : (show FVec Ideal S1x1024 .f32 from iblk m c 5 t) (ix2 0 j) = argG m c (ix2 1 j) :=
  (read_g c (V m c main_v5) t j).trans (prep_g m c _)
theorem block_w1 (c : Dev nD) (t : Fin cfg0.N) (i : Fin 1024) (a : Fin 4096) : (show FVec Ideal S1024x4096 .bf16 from iblk m c 6 t) (ix2 i a) = argW1 m c (ix3 1 i a) :=
  (read_w1 c (V m c main_v8) t i a).trans (prep_w1 m c _ _)
theorem block_w2 (c : Dev nD) (t : Fin cfg0.N) (a : Fin 4096) (i : Fin 1024) : (show FVec Ideal S4096x1024 .bf16 from iblk m c 7 t) (ix2 a i) = argW2 m c (ix3 1 a i) :=
  (read_w2 c (V m c main_v11) t a i).trans (prep_w2 m c _ _)
theorem block_f (c : Dev nD) (t : Fin cfg0.N) (j : Fin 1024) : (show FVec Ideal S1x1024 .f32 from iblk m c 8 t) (ix2 0 j) = argF m c (ix1 j) :=
  (read_f c (V m c main_v12) t j).trans (prep_f m c _)

end Cert.LastIdeal.Block

end
-- ==== Proof.LastReference.lean ====
/- The last block's reference: its result, read at an index, as the mixed row's gated perceptron, normalized. -/
module

public import proofs.«01_k».proof.Proof.Gen.LastRefIdeal.Run
public import proofs.«01_k».proof.Proof.Mlp
public import Idealize.ShloMosaic.Lib.Pointwise

set_option maxRecDepth 16384

@[expose] public section

noncomputable section

open Idealize.ShloMosaic Idealize.ShloMosaic.TcCoe Idealize.SL.Sem

namespace Cert.LastRefIdeal.Block

open Cert.LastRefIdeal Cert.LastRefIdeal.Gen Cert.Mlp

/-- Rows 2 to 5 of the layer's modulation, a batch to a row. -/
def row2 (a : FVec Ideal S2x32x6x1024 .f32) : FVec Ideal S16x1x1024 .f32 :=
  broadcastInDim S16x1x1024 ![0, 2] bcast_S16x1024_S16x1x1024_0_2 (shapeCast _ (extractStridedSlice S1x16x1x1024 ![1, 0, 2, 0] a slices_S2x32x6x1024_S1x16x1x1024_1_0_2_0) shapeCasts_S1x16x1x1024_S16x1024)
def row3 (a : FVec Ideal S2x32x6x1024 .f32) : FVec Ideal S16x1x1024 .f32 :=
  broadcastInDim S16x1x1024 ![0, 2] bcast_S16x1024_S16x1x1024_0_2 (shapeCast _ (extractStridedSlice S1x16x1x1024 ![1, 0, 3, 0] a slices_S2x32x6x1024_S1x16x1x1024_1_0_3_0) shapeCasts_S1x16x1x1024_S16x1024)
def row4 (a : FVec Ideal S2x32x6x1024 .f32) : FVec Ideal S16x1x1024 .f32 :=
  broadcastInDim S16x1x1024 ![0, 2] bcast_S16x1024_S16x1x1024_0_2 (shapeCast _ (extractStridedSlice S1x16x1x1024 ![1, 0, 4, 0] a slices_S2x32x6x1024_S1x16x1x1024_1_0_4_0) shapeCasts_S1x16x1x1024_S16x1024)
def row5 (a : FVec Ideal S2x32x6x1024 .f32) : FVec Ideal S16x1x1024 .f32 :=
  broadcastInDim S16x1x1024 ![0, 2] bcast_S16x1024_S16x1x1024_0_2 (shapeCast _ (extractStridedSlice S1x16x1x1024 ![1, 0, 5, 0] a slices_S2x32x6x1024_S1x16x1x1024_1_0_5_0) shapeCasts_S1x16x1x1024_S16x1024)

/-- A batch's row, for every token. -/
def spread (a : FVec Ideal S16x1x1024 .f32) : FVec Ideal S16x4096x1024 .f32 :=
  broadcastInDim S16x4096x1024 ![0, 1, 2] bcast_S16x1x1024_S16x4096x1024_0_1_2 a

/-- The product of the attention's heads, side by side, with the output matrix. -/
def heads (y : FVec Ideal S16x2x4096x512 .f32) (o : FVec Ideal S1x1024x1024 .f32) : FVec Ideal S16x4096x1024 .f32 :=
  Host.dotGeneral dot_S16x4096x1024_S1024x1024_S16x4096x1024_2_0_01_1_n_n none (shapeCast _ (transpose S16x4096x2x512 [0, 2, 1, 3] y transposes_S16x2x4096x512_S16x4096x2x512_0_2_1_3) shapeCasts_S16x4096x2x512_S16x4096x1024) (shapeCast _ o shapeCasts_S1x1024x1024_S1024x1024)

/-- A row plus a gated one. -/
def gated (x g y : FVec Ideal S16x4096x1024 .f32) : FVec Ideal S16x4096x1024 .f32 := addf x (mulf g y)

/-- Rows over the root of their mean square, times a gain. -/
def normed (x : FVec Ideal S16x4096x1024 .f32) (g : FVec Ideal S1x1x1024 .f32) : FVec Ideal S16x4096x1024 .f32 :=
  mulf (mulf x (broadcastInDim S16x4096x1024 ![0, 1, 2] bcast_S16x4096x1_S16x4096x1024_0_1_2 (Host.rsqrt (addf (Host.divf (broadcastInDim S16x4096x1 ![0, 1] bcast_S16x4096_S16x4096x1_0_1 (Host.reduceAdd (mulf x x) (constant S_ .f32 0x00000000#32) reducesTo_S16x4096x1024_S16x4096_d2 h_S_)) (broadcastInDim S16x4096x1 ![] bcast_S_S16x4096x1 (constant S_ .f32 0x44800000#32))) (broadcastInDim S16x4096x1 ![] bcast_S_S16x4096x1 (constant S_ .f32 0x358637BD#32)))))) (broadcastInDim S16x4096x1024 ![0, 1, 2] bcast_S1x1x1024_S16x4096x1024_0_1_2 g)

/-- The layer's gain, and the last one. -/
def gain (g : FVec Ideal S2x1024 .f32) : FVec Ideal S1x1x1024 .f32 :=
  broadcastInDim S1x1x1024 ![2] bcast_S1024_S1x1x1024_2 (shapeCast _ (extractStridedSlice S1x1024 ![1, 0] g slices_S2x1024_S1x1024_1_0) shapeCasts_S1x1024_S1024)
def lastGain (g : FVec Ideal S1024 .f32) : FVec Ideal S1x1x1024 .f32 := broadcastInDim S1x1x1024 ![2] bcast_S1024_S1x1x1024_2 g

/-- Rows scaled by one more than a batch's scale and moved by its shift. -/
def moved (h : FVec Ideal S16x4096x1024 .f32) (sc sh : FVec Ideal S16x1x1024 .f32) : FVec Ideal S16x4096x1024 .f32 :=
  addf (mulf h (broadcastInDim S16x4096x1024 ![0, 1, 2] bcast_S16x1x1024_S16x4096x1024_0_1_2 (addf (broadcastInDim S16x1x1024 ![] bcast_S_S16x1x1024 (constant S_ .f32 0x3F800000#32)) sc))) (spread sh)

/-- The nonnegative part of the rows' product with the first matrix. -/
def hidden (h : FVec Ideal S16x4096x1024 .f32) (w : FVec Ideal S2x1024x4096 .f32) : FVec Ideal S16x4096x4096 .f32 :=
  maximumf (Host.dotGeneral dot_S16x4096x1024_S1024x4096_S16x4096x4096_2_0_01_1_n_n none h (shapeCast _ (extractStridedSlice S1x1024x4096 ![1, 0, 0] w slices_S2x1024x4096_S1x1024x4096_1_0_0) shapeCasts_S1x1024x4096_S1024x4096)) (broadcastInDim S16x4096x4096 ![] bcast_S_S16x4096x4096 (constant S_ .f32 0x00000000#32))

/-- The product of the squares with the second matrix. -/
def narrowed (u : FVec Ideal S16x4096x4096 .f32) (w : FVec Ideal S2x4096x1024 .f32) : FVec Ideal S16x4096x1024 .f32 :=
  Host.dotGeneral dot_S16x4096x4096_S4096x1024_S16x4096x1024_2_0_01_1_n_n none (mulf u u) (shapeCast _ (extractStridedSlice S1x4096x1024 ![1, 0, 0] w slices_S2x4096x1024_S1x4096x1024_1_0_0) shapeCasts_S1x4096x1024_S4096x1024)

/-- The mixed tokens. -/
def mixed (x : FVec Ideal S16x4096x1024 .f32) (y : FVec Ideal S16x2x4096x512 .f32) (a : FVec Ideal S2x32x6x1024 .f32) (o : FVec Ideal S1x1024x1024 .f32) : FVec Ideal S16x4096x1024 .f32 :=
  gated x (spread (row2 a)) (heads y o)

/-- The mixed tokens with their gated perceptron. -/
def outOf (z : FVec Ideal S16x4096x1024 .f32) (a : FVec Ideal S2x32x6x1024 .f32) (g : FVec Ideal S2x1024 .f32) (w1 : FVec Ideal S2x1024x4096 .f32) (w2 : FVec Ideal S2x4096x1024 .f32) : FVec Ideal S16x4096x1024 .f32 :=
  gated z (spread (row5 a)) (narrowed (hidden (moved (normed z (gain g)) (row4 a) (row3 a)) w1) w2)

/-- The reference's result of its arguments. -/
def result (x : FVec Ideal S16x4096x1024 .f32) (y : FVec Ideal S16x2x4096x512 .f32) (a : FVec Ideal S2x32x6x1024 .f32) (o : FVec Ideal S1x1024x1024 .f32)
    (g : FVec Ideal S2x1024 .f32) (w1 : FVec Ideal S2x1024x4096 .f32) (w2 : FVec Ideal S2x4096x1024 .f32) (f : FVec Ideal S1024 .f32) : FVec Ideal S16x4096x1024 .f32 :=
  normed (outOf (mixed x y a o) a g w1 w2) (lastGain f)

theorem row2_at (a : FVec Ideal S2x32x6x1024 .f32) (b : Fin 16) (j : Fin 1024) : row2 a (ix3 b 0 j) = a (ix4 1 ⟨b.val, by omega⟩ 2 j) := by
  pointwise [row2]
theorem row3_at (a : FVec Ideal S2x32x6x1024 .f32) (b : Fin 16) (j : Fin 1024) : row3 a (ix3 b 0 j) = a (ix4 1 ⟨b.val, by omega⟩ 3 j) := by
  pointwise [row3]
theorem row4_at (a : FVec Ideal S2x32x6x1024 .f32) (b : Fin 16) (j : Fin 1024) : row4 a (ix3 b 0 j) = a (ix4 1 ⟨b.val, by omega⟩ 4 j) := by
  pointwise [row4]
theorem row5_at (a : FVec Ideal S2x32x6x1024 .f32) (b : Fin 16) (j : Fin 1024) : row5 a (ix3 b 0 j) = a (ix4 1 ⟨b.val, by omega⟩ 5 j) := by
  pointwise [row5]
theorem spread_at (a : FVec Ideal S16x1x1024 .f32) (b : Fin 16) (n : Fin 4096) (j : Fin 1024) : spread a (ix3 b n j) = a (ix3 b 0 j) := by
  pointwise [spread]
theorem gated_at (x g y : FVec Ideal S16x4096x1024 .f32) (b : Fin 16) (n : Fin 4096) (j : Fin 1024) : gated x g y (ix3 b n j) = x (ix3 b n j) + g (ix3 b n j) * y (ix3 b n j) := by
  pointwise [gated]
theorem gain_at (g : FVec Ideal S2x1024 .f32) (j : Fin 1024) : gain g (ix3 0 0 j) = g (ix2 1 j) := by
  pointwise [gain]
theorem lastGain_at (g : FVec Ideal S1024 .f32) (j : Fin 1024) : lastGain g (ix3 0 0 j) = g (ix1 j) := by
  pointwise [lastGain]

/-- A head's coordinate in the row of heads side by side. -/
theorem heads_at (y : FVec Ideal S16x2x4096x512 .f32) (o : FVec Ideal S1x1024x1024 .f32) (b : Fin 16) (n : Fin 4096) (j : Fin 1024) :
    heads y o (ix3 b n j) = ∑ k : Fin 1024, (y (ix4 b ⟨k.val / 512, by omega⟩ n ⟨k.val % 512, by omega⟩) * o (ix3 0 k j) : EReal) := by
  pointwise [heads]

theorem normed_at (x : FVec Ideal S16x4096x1024 .f32) (g : FVec Ideal S1x1x1024 .f32) (b : Fin 16) (n : Fin 4096) (j : Fin 1024) :
    normed x g (ix3 b n j) = rms (fun i => x (ix3 b n i)) (fun i => g (ix3 0 0 i)) j := by
  pointwise [normed, rms, width, small]

theorem moved_at (h : FVec Ideal S16x4096x1024 .f32) (sc sh : FVec Ideal S16x1x1024 .f32) (b : Fin 16) (n : Fin 4096) (j : Fin 1024) :
    moved h sc sh (ix3 b n j) = modulate (fun i => h (ix3 b n i)) (fun i => sc (ix3 b 0 i)) (fun i => sh (ix3 b 0 i)) j := by
  pointwise [moved, spread, modulate]

theorem hidden_at (h : FVec Ideal S16x4096x1024 .f32) (w : FVec Ideal S2x1024x4096 .f32) (b : Fin 16) (n a : Fin 4096) :
    hidden h w (ix3 b n a) = relu (fun i => h (ix3 b n i)) (fun i a => w (ix3 1 i a)) a := by
  pointwise [hidden, relu]

theorem narrowed_at (u : FVec Ideal S16x4096x4096 .f32) (w : FVec Ideal S2x4096x1024 .f32) (b : Fin 16) (n : Fin 4096) (j : Fin 1024) :
    narrowed u w (ix3 b n j) = squares (fun a => u (ix3 b n a)) (fun a i => w (ix3 1 a i)) j := by
  pointwise [narrowed, squares]

/-- A token's row plus the gated product of its heads, side by side, with the output matrix. -/
def mixAt (x : FVec Ideal S16x4096x1024 .f32) (y : FVec Ideal S16x2x4096x512 .f32) (a : FVec Ideal S2x32x6x1024 .f32) (o : FVec Ideal S1x1024x1024 .f32) (b : Fin 16) (n : Fin 4096) (j : Fin 1024) : EReal :=
  x (ix3 b n j) + a (ix4 1 ⟨b.val, by omega⟩ 2 j) * ∑ k : Fin 1024, (y (ix4 b ⟨k.val / 512, by omega⟩ n ⟨k.val % 512, by omega⟩) * o (ix3 0 k j) : EReal)

/-- The reference's result: the mixed row with its gated perceptron, normalized. -/
theorem result_at (x : FVec Ideal S16x4096x1024 .f32) (y : FVec Ideal S16x2x4096x512 .f32) (a : FVec Ideal S2x32x6x1024 .f32) (o : FVec Ideal S1x1024x1024 .f32)
    (g : FVec Ideal S2x1024 .f32) (w1 : FVec Ideal S2x1024x4096 .f32) (w2 : FVec Ideal S2x4096x1024 .f32) (f : FVec Ideal S1024 .f32) (b : Fin 16) (n : Fin 4096) (j : Fin 1024) :
    result x y a o g w1 w2 f (ix3 b n j)
      = rms (residual (mixAt x y a o b n) (fun i => g (ix2 1 i)) (fun i => a (ix4 1 ⟨b.val, by omega⟩ 4 i)) (fun i => a (ix4 1 ⟨b.val, by omega⟩ 3 i))
          (fun i => a (ix4 1 ⟨b.val, by omega⟩ 5 i)) (fun i e => w1 (ix3 1 i e)) (fun e i => w2 (ix3 1 e i))) (fun i => f (ix1 i)) j := by
  simp only [result, outOf, mixed, normed_at, gated_at, spread_at, row2_at, row3_at, row4_at, row5_at, narrowed_at, hidden_at, moved_at, gain_at, lastGain_at, heads_at]
  rfl

end Cert.LastRefIdeal.Block

end
-- ==== Proof.LastValue.lean ====
/- The last block's call: the array it leaves is the reference's result of its arguments, over finite weights. -/
module

public import proofs.«01_k».proof.Proof.LastParts
public import proofs.«01_k».proof.Proof.LastReference

set_option maxRecDepth 16384

@[expose] public section

noncomputable section

open Idealize.ShloMosaic Idealize.ShloMosaic.TcCoe Idealize.SL.Sem
open Idealize.ShloMosaic.Pipeline (Dat)

namespace Cert.LastIdeal.Block

open Cert.LastIdeal Cert.LastIdeal.Gen Cert.Mlp

/-- The sum over the heads side by side is the two heads' sums together. -/
theorem two_heads (y : Fin 2 → Fin 512 → EReal) (o : Fin 1024 → EReal) :
    (∑ k : Fin 1024, y ⟨k.val / 512, by omega⟩ ⟨k.val % 512, by omega⟩ * o k) = (∑ k : Fin 512, y 0 k * o ⟨k.val, by omega⟩) + ∑ k : Fin 512, y 1 k * o ⟨512 + k.val, by omega⟩ := by
  rw [sum_runs (m := 2) (n := 512) rfl, Fin.sum_univ_two]
  refine congrArg₂ (· + ·) (Finset.sum_congr rfl fun k _ => ?_) (Finset.sum_congr rfl fun k _ => ?_)
  · refine congrArg₂ (· * ·) (congrArg₂ y (Fin.ext ?_) (Fin.ext ?_)) (congrArg o (Fin.ext ?_))
    · show (0 * 512 + k.val) / 512 = 0; omega
    · show (0 * 512 + k.val) % 512 = k.val; omega
    · show 0 * 512 + k.val = k.val; omega
  · refine congrArg₂ (· * ·) (congrArg₂ y (Fin.ext ?_) (Fin.ext ?_)) (congrArg o (Fin.ext ?_))
    · show (1 * 512 + k.val) / 512 = 1; omega
    · show (1 * 512 + k.val) % 512 = k.val; omega
    · show 1 * 512 + k.val = 512 + k.val; omega

/-- A mixed row of the blocks, over what they hold. -/
theorem mix_eq (X : FVec Ideal S1x1024x1024 .f32) (Y : FVec Ideal S1x2x1024x512 .bf16) (M : FVec Ideal S1x1x6x1024 .f32) (O : FVec Ideal S1024x1024 .bf16) (n : Fin 1024)
    (x a : Fin 1024 → EReal) (y : Fin 2 → Fin 512 → EReal) (o : Fin 1024 → Fin 1024 → EReal) (hx : ∀ j, X (ix3 0 n j) = x j) (ha : ∀ j, M (ix4 0 0 2 j) = a j)
    (hy : ∀ h k, Y (ix4 0 h n k) = y h k) (ho : ∀ k j, O (ix2 k j) = o k j) (j : Fin 1024) :
    mixRow X Y M O n j = x j + a j * ∑ k : Fin 1024, y ⟨k.val / 512, by omega⟩ ⟨k.val % 512, by omega⟩ * o k j := by
  unfold mixRow
  rw [two_heads y fun k => o k j]
  simp only [hx, ha, hy, ho]

/-- A row of the block the body leaves, over what the blocks hold. -/
theorem out_eq (X : FVec Ideal S1x1024x1024 .f32) (Y : FVec Ideal S1x2x1024x512 .bf16) (M : FVec Ideal S1x1x6x1024 .f32) (O : FVec Ideal S1024x1024 .bf16) (G : FVec Ideal S1x1024 .f32)
    (W1 : FVec Ideal S1024x4096 .bf16) (W2 : FVec Ideal S4096x1024 .bf16) (FG : FVec Ideal S1x1024 .f32) (n : Fin 1024)
    (z g sc sh gate f : Fin 1024 → EReal) (w1 : Fin 1024 → Fin 4096 → EReal) (w2 : Fin 4096 → Fin 1024 → EReal) (hz : ∀ j, mixRow X Y M O n j = z j)
    (hG : ∀ j, G (ix2 0 j) = g j) (hS : ∀ j, M (ix4 0 0 4 j) = sc j) (hH : ∀ j, M (ix4 0 0 3 j) = sh j) (hT : ∀ j, M (ix4 0 0 5 j) = gate j)
    (hA : ∀ i a, W1 (ix2 i a) = w1 i a) (hB : ∀ a i, W2 (ix2 a i) = w2 a i) (hF : ∀ j, FG (ix2 0 j) = f j)
    (hg : ∀ j, IsFin (g j)) (hc : ∀ j, IsFin (sc j)) (hs : ∀ j, IsFin (sh j)) (ht : ∀ j, IsFin (gate j)) (h1 : ∀ i a, IsFin (w1 i a)) (h2 : ∀ a j, IsFin (w2 a j)) (j : Fin 1024) :
    outRow X Y M O G W1 W2 FG n j = rms (residual z g sc sh gate w1 w2) f j := by
  have e : quarters z g sc sh gate w1 w2 = residual z g sc sh gate w1 w2 := funext (quarters_eq z g sc sh gate w1 w2 hg hc hs ht h1 h2)
  unfold outRow
  rw [funext hz, funext hG, funext hS, funext hH, funext hT, funext fun i => funext (hA i), funext fun a => funext (hB a), funext hF, e]

variable (m : (ℓ : Loc nD τ sig) → Buf (Elt Ideal) ℓ)

/-- The modulation, the layer's gain and the two matrices are finite. -/
def Finite (c : Dev nD) : Prop :=
  (∀ i, IsFin (argM m c i)) ∧ (∀ i, IsFin (argG m c i)) ∧ (∀ i, IsFin (argW1 m c i)) ∧ ∀ i, IsFin (argW2 m c i)

/-- The reference's result of the arguments. -/
def value (c : Dev nD) : FVec Ideal S16x4096x1024 .f32 :=
  Cert.LastRefIdeal.Block.result (argX m c) (argY m c) (argM m c) (argO m c) (argG m c) (argW1 m c) (argW2 m c) (argF m c)

/-- The block a point leaves holds the reference's result of its tokens. -/
theorem point (c : Dev nD) (hf : Finite m c) (t : Fin cfg0.N) (n j : Fin 1024) : outsAt0 m c t (ix3 0 n j) = value m c (ix3 (batch t) (token t n) j) := by
  refine (outs_at m c t n j).trans ?_
  refine (out_eq _ _ _ _ _ _ _ _ n _ _ _ _ _ _ _ _
    (mix_eq _ _ _ _ n _ _ _ _ (block_x m c t n) (block_m m c t 2) (fun h k => block_y m c t h n k) (block_o m c t))
    (block_g m c t) (block_m m c t 4) (block_m m c t 3) (block_m m c t 5) (block_w1 m c t) (block_w2 m c t) (block_f m c t)
    (fun _ => hf.2.1 _) (fun _ => hf.1 _) (fun _ => hf.1 _) (fun _ => hf.1 _) (fun _ _ => hf.2.2.1 _) (fun _ _ => hf.2.2.2 _) j).trans ?_
  exact (Cert.LastRefIdeal.Block.result_at _ _ _ _ _ _ _ _ _ _ j).symm

/-- The array the call leaves is the reference's result of the arguments. -/
theorem final (c : Dev nD) (hf : Finite m c) : (dats m 0 c).arrAt 9 cfg0.N = value m c := by
  refine (dats m 0 c).arrAt_eq_of_covers 9 _ (by decide +kernel) fun t _ y => ?_
  blk_simp
  rw [after0_9]
  have hy : y = ix3 (0 : Fin 1) (y 1) (y 2) := by
    refine (eq_ix3 y).trans ?_
    exact (ix3_inj ..).2 ⟨Subsingleton.elim _ _, rfl, rfl⟩
  have he : ((cfg0.win 9).blk t).view.emb y = ix3 (batch t) (token t (y 1)) (y 2) := by
    blk_ext [idx t, batch, token]
  exact (congrArg (outsAt0 m c t) hy).trans ((point m c hf t (y 1) (y 2)).trans (congrArg (value m c) he.symm))

end Cert.LastIdeal.Block

end
-- ==== Proof.LastClaim.lean ====
/- The last block's claim: the idealized call and the reference leave the same array. -/
module

public import proofs.«01_k».proof.Proof.LastValue
public import proofs.«01_k».proof.Proof.IdealPre

set_option maxRecDepth 16384

@[expose] public section

noncomputable section

open Idealize.ShloMosaic Idealize.ShloMosaic.TcCoe Idealize.SL.Sem

namespace Cert.Pre_finite_weights_last

/-- The facts about shapes the precondition's operations take. -/
theorem facts : Facts where
  bcast_S_S2x32x6x1024 := by decide
  reducesTo_S2x32x6x1024_S_d0_1_2_3 := by decide
  h_S_ := by decide
  bcast_S_S2x1024 := by decide
  reducesTo_S2x1024_S_d0_1 := by decide
  bcast_S_S2x1024x4096 := by decide
  reducesTo_S2x1024x4096_S_d0_1_2 := by decide
  bcast_S_S2x4096x1024 := by decide
  reducesTo_S2x4096x1024_S_d0_1_2 := by decide

attribute [local instance] facts

/-- The precondition says that the modulation, the gains and the two matrices are finite. -/
theorem finite (x : FVec Ideal S16x4096x1024 .f32) (y : FVec Ideal S16x2x4096x512 .f32) (a : FVec Ideal S2x32x6x1024 .f32) (o : FVec Ideal S1x1024x1024 .f32)
    (g : FVec Ideal S2x1024 .f32) (w1 : FVec Ideal S2x1024x4096 .f32) (w2 : FVec Ideal S2x4096x1024 .f32) (f : FVec Ideal S1024 .f32) (h : fn (F := Ideal) x y a o g w1 w2 f = fun _ => 1#1) :
    (∀ i, Cert.Mlp.IsFin (a i)) ∧ (∀ i, Cert.Mlp.IsFin (g i)) ∧ (∀ i, Cert.Mlp.IsFin (w1 i)) ∧ ∀ i, Cert.Mlp.IsFin (w2 i) := by
  obtain ⟨h1, h4⟩ := IntOp.andi_eq_one.1 (congrFun h ix0)
  obtain ⟨h1, h3⟩ := IntOp.andi_eq_one.1 h1
  obtain ⟨h1, h2⟩ := IntOp.andi_eq_one.1 h1
  exact ⟨Cert.Pre_finite_queries_and_keys.all_finite a _ _ _ _ h1, Cert.Pre_finite_queries_and_keys.all_finite g _ _ _ _ h2,
    Cert.Pre_finite_queries_and_keys.all_finite w1 _ _ _ _ h3, Cert.Pre_finite_queries_and_keys.all_finite w2 _ _ _ _ h4⟩

end Cert.Pre_finite_weights_last

namespace Cert.LastRefIdeal.Block

open Cert.LastRefIdeal Cert.LastRefIdeal.Gen

variable (m : (ℓ : Loc nD τ sig) → Buf (Elt Ideal) ℓ) (c : Dev nD)

/-- The reference program's result term is the result of its arguments. -/
theorem term_eq : Cert.LastRefIdeal.Value.res_main_v69 (F := Ideal) m c = result (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold result outOf mixed narrowed hidden moved normed gated heads gain lastGain spread row2 row3 row4 row5
  unfold Cert.LastRefIdeal.Value.res_main_v69
  rfl

end Cert.LastRefIdeal.Block

namespace Cert.Proof

attribute [local instance] Cert.Pre_finite_weights_last.facts

/-- With finite weights and modulation, the idealized last block and the reference leave the same array. -/
theorem last_equal : Cert.algebraic_LastIdeal_LastRefIdeal_pre_finite_weights_last := fun m ρ m' ρ' hp ha =>
  ⟨fun c => Cert.LastIdeal.Block.value m c,
    (θ_run _ _ _).mono (fun _ h c => ⟨(h c).1.trans (Cert.LastIdeal.Block.final m c (Cert.Pre_finite_weights_last.finite _ _ _ _ _ _ _ _ (hp c))), (h c).2⟩) (Cert.LastIdeal.Value.run_blocks m ρ),
    (θ_run _ _ _).mono (fun _ h c => ⟨(h c).1.trans ((Cert.LastRefIdeal.Block.term_eq m' c).trans (by
      rw [(ha c).1, (ha c).2.1, (ha c).2.2.1, (ha c).2.2.2.1, (ha c).2.2.2.2.1, (ha c).2.2.2.2.2.1, (ha c).2.2.2.2.2.2.1, (ha c).2.2.2.2.2.2.2]; rfl)), (h c).2⟩) (Cert.LastRefIdeal.Value.run m' ρ')⟩

end Cert.Proof

end
-- ==== Proof.MidBlockValue.lean ====
/- The first block's call: what its body computes in the result's block, at an index. -/
module

public import proofs.«01_k».proof.Proof.Gen.MidIdeal.Skeleton
public import Idealize.ShloMosaic.Lib.Pointwise
public import Idealize.ShloMosaic.Lib.Pipeline.ValueKit
public import proofs.«01_k».proof.Proof.Mlp

set_option maxRecDepth 16384

@[expose] public section

noncomputable section

open Idealize.ShloMosaic Idealize.ShloMosaic.TcCoe Idealize.SL.Sem

namespace Cert.MidIdeal.Block

open Cert.MidIdeal Cert.MidIdeal.Gen Cert.Mlp

/-- A tile's rows plus their gated output projection, head by head. -/
def mix (v0 : FVec Ideal S1x1x6x1024 .f32) (y0 g0 : FVec Ideal S1x1x512x512 .bf16) (o0 : FVec Ideal S512x1024 .bf16) (y1 g1 : FVec Ideal S1x1x512x512 .bf16) (o1 : FVec Ideal S512x1024 .bf16)
    (y2 g2 : FVec Ideal S1x1x512x512 .bf16) (o2 : FVec Ideal S512x1024 .bf16) (y3 g3 : FVec Ideal S1x1x512x512 .bf16) (o3 : FVec Ideal S512x1024 .bf16) (x : FVec Ideal S1x512x1024 .f32) : FVec Ideal S512x1024 .f32 :=
  k0_pay5 (F := Ideal) (k0_pay2 (F := Ideal) v0) (k0_pay3 (F := Ideal) y0 g0 o0 y1 g1 o1) (k0_pay4 (F := Ideal) y2 g2) o2 y3 g3 o3 x

theorem mix_at (v0 : FVec Ideal S1x1x6x1024 .f32) (y0 g0 : FVec Ideal S1x1x512x512 .bf16) (o0 : FVec Ideal S512x1024 .bf16) (y1 g1 : FVec Ideal S1x1x512x512 .bf16) (o1 : FVec Ideal S512x1024 .bf16)
    (y2 g2 : FVec Ideal S1x1x512x512 .bf16) (o2 : FVec Ideal S512x1024 .bf16) (y3 g3 : FVec Ideal S1x1x512x512 .bf16) (o3 : FVec Ideal S512x1024 .bf16) (x : FVec Ideal S1x512x1024 .f32) (r : Fin 512) (j : Fin 1024) :
    mix v0 y0 g0 o0 y1 g1 o1 y2 g2 o2 y3 g3 o3 x (ix2 r j)
      = x (ix3 0 r j) + v0 (ix4 0 0 2 j) * ((∑ k : Fin 512, (y0 (ix4 0 0 r k) * g0 (ix4 0 0 r k) * o0 (ix2 k j) : EReal)) + (∑ k : Fin 512, (y1 (ix4 0 0 r k) * g1 (ix4 0 0 r k) * o1 (ix2 k j) : EReal)) + (∑ k : Fin 512, (y2 (ix4 0 0 r k) * g2 (ix4 0 0 r k) * o2 (ix2 k j) : EReal)) + (∑ k : Fin 512, (y3 (ix4 0 0 r k) * g3 (ix4 0 0 r k) * o3 (ix2 k j) : EReal))) := by
  pointwise [mix, k0_pay5, k0_pay4, k0_pay3, k0_pay2]

/-- A tile's rows normalized and modulated. -/
def hid (v0 : FVec Ideal S1x1x6x1024 .f32) (x : FVec Ideal S512x1024 .f32) (g : FVec Ideal S1x1024 .f32) : FVec Ideal S1x512x1024 .bf16 :=
  k0_pay18 (F := Ideal) x (k0_pay15 (F := Ideal) g) (k0_pay16 (F := Ideal) (k0_pay2 (F := Ideal) v0)) (k0_pay17 (F := Ideal) (k0_pay2 (F := Ideal) v0))

theorem hid_at (v0 : FVec Ideal S1x1x6x1024 .f32) (x : FVec Ideal S512x1024 .f32) (g : FVec Ideal S1x1024 .f32) (r : Fin 512) (j : Fin 1024) :
    hid v0 x g (ix3 0 r j)
      = modulate (rms (fun i => x (ix2 r i)) (fun i => g (ix2 0 i))) (fun i => v0 (ix4 0 0 4 i)) (fun i => v0 (ix4 0 0 3 i)) j := by
  pointwise [hid, k0_pay18, k0_pay15, k0_pay16, k0_pay17, k0_pay2]
  rfl

/-- A tile's rows before the perceptron. -/
def start (x : FVec Ideal S512x1024 .f32) : FVec Ideal S1x512x1024 .f32 := shapeCast S1x512x1024 x shapeCasts_S512x1024_S1x512x1024

theorem start_at (x : FVec Ideal S512x1024 .f32) (r : Fin 512) (j : Fin 1024) : start x (ix3 0 r j) = x (ix2 r j) := by
  pointwise [start]

/-- A quarter of the perceptron added to a tile's rows. -/
def stage (v0 : FVec Ideal S1x1x6x1024 .f32) (h : FVec Ideal S1x512x1024 .bf16) (o : FVec Ideal S1x512x1024 .f32) (w1 w2 : FVec Ideal S1024x1024 .bf16) : FVec Ideal S1x512x1024 .f32 :=
  k0_pay22 (F := Ideal) (k0_pay2 (F := Ideal) v0) h w1 o w2

theorem stage_at (v0 : FVec Ideal S1x1x6x1024 .f32) (h : FVec Ideal S1x512x1024 .bf16) (o : FVec Ideal S1x512x1024 .f32) (w1 w2 : FVec Ideal S1024x1024 .bf16) (r : Fin 512) (j : Fin 1024) :
    stage v0 h o w1 w2 (ix3 0 r j)
      = o (ix3 0 r j) + v0 (ix4 0 0 5 j) * squares (relu (fun i => h (ix3 0 r i)) fun i a => w1 (ix2 i a)) (fun a i => w2 (ix2 a i)) j := by
  pointwise [stage, k0_pay22, k0_pay2]
  rfl

/-- A tile of the result: the projected rows through the four quarters. -/
def tile (v0 : FVec Ideal S1x1x6x1024 .f32) (x : FVec Ideal S512x1024 .f32) (g : FVec Ideal S1x1024 .f32) (p0 p1 p2 p3 q0 q1 q2 q3 : FVec Ideal S1024x1024 .bf16) : FVec Ideal S1x512x1024 .f32 :=
  stage v0 (hid v0 x g) (stage v0 (hid v0 x g) (stage v0 (hid v0 x g) (stage v0 (hid v0 x g) (start x) p0 q0) p1 q1) p2 q2) p3 q3

/-- An entry of a tile: the perceptron by quarters. -/
theorem tile_at (v0 : FVec Ideal S1x1x6x1024 .f32) (x : FVec Ideal S512x1024 .f32) (g : FVec Ideal S1x1024 .f32) (p0 p1 p2 p3 q0 q1 q2 q3 : FVec Ideal S1024x1024 .bf16)
    (w1 : Fin 1024 → Fin 4096 → EReal) (w2 : Fin 4096 → Fin 1024 → EReal)
    (hp0 : ∀ i a, p0 (ix2 i a) = w1 i (place 0 a)) (hp1 : ∀ i a, p1 (ix2 i a) = w1 i (place 1 a)) (hp2 : ∀ i a, p2 (ix2 i a) = w1 i (place 2 a)) (hp3 : ∀ i a, p3 (ix2 i a) = w1 i (place 3 a))
    (hq0 : ∀ a i, q0 (ix2 a i) = w2 (place 0 a) i) (hq1 : ∀ a i, q1 (ix2 a i) = w2 (place 1 a) i) (hq2 : ∀ a i, q2 (ix2 a i) = w2 (place 2 a) i) (hq3 : ∀ a i, q3 (ix2 a i) = w2 (place 3 a) i)
    (r : Fin 512) (j : Fin 1024) :
    tile v0 x g p0 p1 p2 p3 q0 q1 q2 q3 (ix3 0 r j)
      = quarters (fun i => x (ix2 r i)) (fun i => g (ix2 0 i)) (fun i => v0 (ix4 0 0 4 i)) (fun i => v0 (ix4 0 0 3 i)) (fun i => v0 (ix4 0 0 5 i)) w1 w2 j := by
  unfold tile
  simp only [stage_at, hid_at, start_at, hp0, hp1, hp2, hp3, hq0, hq1, hq2, hq3]
  rfl

/-- The lower half of the block, as the body stores it, is a tile of the result. -/
theorem lower_tile (v0 : FVec Ideal S1x1x6x1024 .f32) (y0 g0 : FVec Ideal S1x1x512x512 .bf16) (o0 : FVec Ideal S512x1024 .bf16) (y1 g1 : FVec Ideal S1x1x512x512 .bf16) (o1 : FVec Ideal S512x1024 .bf16)
    (y2 g2 : FVec Ideal S1x1x512x512 .bf16) (o2 : FVec Ideal S512x1024 .bf16) (y3 g3 : FVec Ideal S1x1x512x512 .bf16) (o3 : FVec Ideal S512x1024 .bf16) (x : FVec Ideal S1x512x1024 .f32)
    (g : FVec Ideal S1x1024 .f32) (p0 p1 p2 p3 q0 q1 q2 q3 : FVec Ideal S1024x1024 .bf16) :
    k0_pay26 (F := Ideal) (k0_pay25 (F := Ideal) (k0_pay2 (F := Ideal) v0) (k0_pay11 (F := Ideal) (k0_pay5 (F := Ideal) (k0_pay2 (F := Ideal) v0) (k0_pay3 (F := Ideal) y0 g0 o0 y1 g1 o1) (k0_pay4 (F := Ideal) y2 g2) o2 y3 g3 o3 x) (k0_pay7 (F := Ideal) g) (k0_pay8 (F := Ideal) (k0_pay2 (F := Ideal) v0)) (k0_pay9 (F := Ideal) (k0_pay2 (F := Ideal) v0)) (k0_pay10 (F := Ideal) (k0_pay2 (F := Ideal) v0) (k0_pay3 (F := Ideal) y0 g0 o0 y1 g1 o1) (k0_pay4 (F := Ideal) y2 g2) o2 y3 g3 o3 x)) p3
      (k0_pay24 (F := Ideal) (k0_pay2 (F := Ideal) v0) (k0_pay23 (F := Ideal) (k0_pay11 (F := Ideal) (k0_pay5 (F := Ideal) (k0_pay2 (F := Ideal) v0) (k0_pay3 (F := Ideal) y0 g0 o0 y1 g1 o1) (k0_pay4 (F := Ideal) y2 g2) o2 y3 g3 o3 x) (k0_pay7 (F := Ideal) g) (k0_pay8 (F := Ideal) (k0_pay2 (F := Ideal) v0)) (k0_pay9 (F := Ideal) (k0_pay2 (F := Ideal) v0)) (k0_pay10 (F := Ideal) (k0_pay2 (F := Ideal) v0) (k0_pay3 (F := Ideal) y0 g0 o0 y1 g1 o1) (k0_pay4 (F := Ideal) y2 g2) o2 y3 g3 o3 x)) p2)
        (k0_pay22 (F := Ideal) (k0_pay2 (F := Ideal) v0) (k0_pay11 (F := Ideal) (k0_pay5 (F := Ideal) (k0_pay2 (F := Ideal) v0) (k0_pay3 (F := Ideal) y0 g0 o0 y1 g1 o1) (k0_pay4 (F := Ideal) y2 g2) o2 y3 g3 o3 x) (k0_pay7 (F := Ideal) g) (k0_pay8 (F := Ideal) (k0_pay2 (F := Ideal) v0)) (k0_pay9 (F := Ideal) (k0_pay2 (F := Ideal) v0)) (k0_pay10 (F := Ideal) (k0_pay2 (F := Ideal) v0) (k0_pay3 (F := Ideal) y0 g0 o0 y1 g1 o1) (k0_pay4 (F := Ideal) y2 g2) o2 y3 g3 o3 x)) p1
          (k0_pay21 (F := Ideal) (k0_pay19 (F := Ideal) (k0_pay6 (F := Ideal) (k0_pay2 (F := Ideal) v0) (k0_pay3 (F := Ideal) y0 g0 o0 y1 g1 o1) (k0_pay4 (F := Ideal) y2 g2) o2 y3 g3 o3 x)) (k0_pay20 (F := Ideal) (k0_pay2 (F := Ideal) v0) (k0_pay11 (F := Ideal) (k0_pay5 (F := Ideal) (k0_pay2 (F := Ideal) v0) (k0_pay3 (F := Ideal) y0 g0 o0 y1 g1 o1) (k0_pay4 (F := Ideal) y2 g2) o2 y3 g3 o3 x) (k0_pay7 (F := Ideal) g) (k0_pay8 (F := Ideal) (k0_pay2 (F := Ideal) v0)) (k0_pay9 (F := Ideal) (k0_pay2 (F := Ideal) v0)) (k0_pay10 (F := Ideal) (k0_pay2 (F := Ideal) v0) (k0_pay3 (F := Ideal) y0 g0 o0 y1 g1 o1) (k0_pay4 (F := Ideal) y2 g2) o2 y3 g3 o3 x)) p0 q0)) q1) q2) q3)
      = tile v0 (mix v0 y0 g0 o0 y1 g1 o1 y2 g2 o2 y3 g3 o3 x) g p0 p1 p2 p3 q0 q1 q2 q3 := rfl

/-- The upper half of the block, as the body stores it, is a tile of the result. -/
theorem upper_tile (v0 : FVec Ideal S1x1x6x1024 .f32) (y0 g0 : FVec Ideal S1x1x512x512 .bf16) (o0 : FVec Ideal S512x1024 .bf16) (y1 g1 : FVec Ideal S1x1x512x512 .bf16) (o1 : FVec Ideal S512x1024 .bf16)
    (y2 g2 : FVec Ideal S1x1x512x512 .bf16) (o2 : FVec Ideal S512x1024 .bf16) (y3 g3 : FVec Ideal S1x1x512x512 .bf16) (o3 : FVec Ideal S512x1024 .bf16) (x : FVec Ideal S1x512x1024 .f32)
    (g : FVec Ideal S1x1024 .f32) (p0 p1 p2 p3 q0 q1 q2 q3 : FVec Ideal S1024x1024 .bf16) :
    k0_pay1 (F := Ideal) (k0_pay2 (F := Ideal) v0) (k0_pay18 (F := Ideal) (k0_pay13 (F := Ideal) (k0_pay2 (F := Ideal) v0) (k0_pay12 (F := Ideal) y0 g0 o0 y1 g1 o1) y2 g2 o2 y3 g3 o3 x) (k0_pay15 (F := Ideal) g) (k0_pay16 (F := Ideal) (k0_pay2 (F := Ideal) v0)) (k0_pay17 (F := Ideal) (k0_pay2 (F := Ideal) v0))) p3
      (k0_pay32 (F := Ideal) (k0_pay2 (F := Ideal) v0) (k0_pay18 (F := Ideal) (k0_pay13 (F := Ideal) (k0_pay2 (F := Ideal) v0) (k0_pay12 (F := Ideal) y0 g0 o0 y1 g1 o1) y2 g2 o2 y3 g3 o3 x) (k0_pay15 (F := Ideal) g) (k0_pay16 (F := Ideal) (k0_pay2 (F := Ideal) v0)) (k0_pay17 (F := Ideal) (k0_pay2 (F := Ideal) v0))) p2
        (k0_pay31 (F := Ideal) (k0_pay28 (F := Ideal) (k0_pay18 (F := Ideal) (k0_pay13 (F := Ideal) (k0_pay2 (F := Ideal) v0) (k0_pay12 (F := Ideal) y0 g0 o0 y1 g1 o1) y2 g2 o2 y3 g3 o3 x) (k0_pay15 (F := Ideal) g) (k0_pay16 (F := Ideal) (k0_pay2 (F := Ideal) v0)) (k0_pay17 (F := Ideal) (k0_pay2 (F := Ideal) v0))) p1) (k0_pay29 (F := Ideal) (k0_pay27 (F := Ideal) (k0_pay2 (F := Ideal) v0) (k0_pay18 (F := Ideal) (k0_pay13 (F := Ideal) (k0_pay2 (F := Ideal) v0) (k0_pay12 (F := Ideal) y0 g0 o0 y1 g1 o1) y2 g2 o2 y3 g3 o3 x) (k0_pay15 (F := Ideal) g) (k0_pay16 (F := Ideal) (k0_pay2 (F := Ideal) v0)) (k0_pay17 (F := Ideal) (k0_pay2 (F := Ideal) v0))) p0 (k0_pay14 (F := Ideal) (k0_pay2 (F := Ideal) v0) (k0_pay12 (F := Ideal) y0 g0 o0 y1 g1 o1) y2 g2 o2 y3 g3 o3 x) q0)) (k0_pay30 (F := Ideal) (k0_pay2 (F := Ideal) v0)) q1) q2) q3
      = tile v0 (mix v0 y0 g0 o0 y1 g1 o1 y2 g2 o2 y3 g3 o3 x) g p0 p1 p2 p3 q0 q1 q2 q3 := rfl

/-- A row of the block plus its gated output projection, over the blocks. -/
def mixRow (X : FVec Ideal S1x1024x1024 .f32) (Y A : FVec Ideal S1x4x1024x512 .bf16) (M : FVec Ideal S1x1x6x1024 .f32) (O : FVec Ideal S2048x1024 .bf16) (n : Fin 1024) (j : Fin 1024) : EReal :=
  X (ix3 0 n j) + M (ix4 0 0 2 j) * ((∑ k : Fin 512, (Y (ix4 0 0 n k) * A (ix4 0 0 n k) * O (ix2 ⟨0 + k.val, by omega⟩ j) : EReal)) + (∑ k : Fin 512, (Y (ix4 0 1 n k) * A (ix4 0 1 n k) * O (ix2 ⟨512 + k.val, by omega⟩ j) : EReal)) + (∑ k : Fin 512, (Y (ix4 0 2 n k) * A (ix4 0 2 n k) * O (ix2 ⟨1024 + k.val, by omega⟩ j) : EReal)) + (∑ k : Fin 512, (Y (ix4 0 3 n k) * A (ix4 0 3 n k) * O (ix2 ⟨1536 + k.val, by omega⟩ j) : EReal)))

/-- A row of the block the body leaves, over the blocks. -/
def outRow (X : FVec Ideal S1x1024x1024 .f32) (Y A : FVec Ideal S1x4x1024x512 .bf16) (M : FVec Ideal S1x1x6x1024 .f32) (O : FVec Ideal S2048x1024 .bf16) (G : FVec Ideal S1x1024 .f32)
    (W1 : FVec Ideal S1024x4096 .bf16) (W2 : FVec Ideal S4096x1024 .bf16) (n : Fin 1024) : Fin 1024 → EReal :=
  quarters (mixRow X Y A M O n) (fun i => G (ix2 0 i)) (fun i => M (ix4 0 0 4 i)) (fun i => M (ix4 0 0 3 i)) (fun i => M (ix4 0 0 5 i))
    (fun i a => W1 (ix2 i a)) (fun a i => W2 (ix2 a i))

/-- A tile over loads from the blocks, at an index, is the block's row. -/
theorem tile_row (X : FVec Ideal S1x1024x1024 .f32) (Y A : FVec Ideal S1x4x1024x512 .bf16) (M : FVec Ideal S1x1x6x1024 .f32) (O : FVec Ideal S2048x1024 .bf16) (G : FVec Ideal S1x1024 .f32)
    (W1 : FVec Ideal S1024x4096 .bf16) (W2 : FVec Ideal S4096x1024 .bf16) (n : Fin 1024) (o : ℕ) (r : Fin 512) (hn : n.val = o + r.val) (j : Fin 1024)
    (bx) (by0) (ba0) (bo0) (by1) (ba1) (bo1) (by2) (ba2) (bo2) (by3) (ba3) (bo3) (b10) (b11) (b12) (b13) (b20) (b21) (b22) (b23) :
    tile M (mix M (View.ld (Val := Elt Ideal) (e' := .bf16) Y (Rect.unit (s := S1x4x1024x512) ![0, 0, o, 0] S1x1x512x512.size by0)) (View.ld (Val := Elt Ideal) (e' := .bf16) A (Rect.unit (s := S1x4x1024x512) ![0, 0, o, 0] S1x1x512x512.size ba0)) (View.ld (Val := Elt Ideal) (e' := .bf16) O (Rect.unit (s := S2048x1024) ![0, 0] S512x1024.size bo0)) (View.ld (Val := Elt Ideal) (e' := .bf16) Y (Rect.unit (s := S1x4x1024x512) ![0, 1, o, 0] S1x1x512x512.size by1)) (View.ld (Val := Elt Ideal) (e' := .bf16) A (Rect.unit (s := S1x4x1024x512) ![0, 1, o, 0] S1x1x512x512.size ba1)) (View.ld (Val := Elt Ideal) (e' := .bf16) O (Rect.unit (s := S2048x1024) ![512, 0] S512x1024.size bo1))
        (View.ld (Val := Elt Ideal) (e' := .bf16) Y (Rect.unit (s := S1x4x1024x512) ![0, 2, o, 0] S1x1x512x512.size by2)) (View.ld (Val := Elt Ideal) (e' := .bf16) A (Rect.unit (s := S1x4x1024x512) ![0, 2, o, 0] S1x1x512x512.size ba2)) (View.ld (Val := Elt Ideal) (e' := .bf16) O (Rect.unit (s := S2048x1024) ![1024, 0] S512x1024.size bo2)) (View.ld (Val := Elt Ideal) (e' := .bf16) Y (Rect.unit (s := S1x4x1024x512) ![0, 3, o, 0] S1x1x512x512.size by3)) (View.ld (Val := Elt Ideal) (e' := .bf16) A (Rect.unit (s := S1x4x1024x512) ![0, 3, o, 0] S1x1x512x512.size ba3)) (View.ld (Val := Elt Ideal) (e' := .bf16) O (Rect.unit (s := S2048x1024) ![1536, 0] S512x1024.size bo3))
        (View.ld (Val := Elt Ideal) (e' := .f32) X (Rect.unit (s := S1x1024x1024) ![0, o, 0] S1x512x1024.size bx))) G
      (View.ld (Val := Elt Ideal) (e' := .bf16) W1 (Rect.unit (s := S1024x4096) ![0, 0] S1024x1024.size b10)) (View.ld (Val := Elt Ideal) (e' := .bf16) W1 (Rect.unit (s := S1024x4096) ![0, 1024] S1024x1024.size b11)) (View.ld (Val := Elt Ideal) (e' := .bf16) W1 (Rect.unit (s := S1024x4096) ![0, 2048] S1024x1024.size b12)) (View.ld (Val := Elt Ideal) (e' := .bf16) W1 (Rect.unit (s := S1024x4096) ![0, 3072] S1024x1024.size b13))
      (View.ld (Val := Elt Ideal) (e' := .bf16) W2 (Rect.unit (s := S4096x1024) ![0, 0] S1024x1024.size b20)) (View.ld (Val := Elt Ideal) (e' := .bf16) W2 (Rect.unit (s := S4096x1024) ![1024, 0] S1024x1024.size b21)) (View.ld (Val := Elt Ideal) (e' := .bf16) W2 (Rect.unit (s := S4096x1024) ![2048, 0] S1024x1024.size b22)) (View.ld (Val := Elt Ideal) (e' := .bf16) W2 (Rect.unit (s := S4096x1024) ![3072, 0] S1024x1024.size b23)) (ix3 0 r j)
      = outRow X Y A M O G W1 W2 n j := by
  have hw1 (q : Fin 4) (off : ℕ) (ho : off = q.val * 1024) (inb) (i a : Fin 1024) :
      View.ld (Val := Elt Ideal) (e' := .bf16) W1 (Rect.unit (s := S1024x4096) ![0, off] S1024x1024.size inb) (ix2 i a) = W1 (ix2 i (place q a)) := by
    refine View.ld_unit_apply_of _ _ _ _ _ _ fun b => ?_
    match b with
    | ⟨0, _⟩ => exact (Nat.zero_add _).symm
    | ⟨1, _⟩ => exact congrArg (· + a.val) ho.symm
  have hw2 (q : Fin 4) (off : ℕ) (ho : off = q.val * 1024) (inb) (a i : Fin 1024) :
      View.ld (Val := Elt Ideal) (e' := .bf16) W2 (Rect.unit (s := S4096x1024) ![off, 0] S1024x1024.size inb) (ix2 a i) = W2 (ix2 (place q a) i) := by
    refine View.ld_unit_apply_of _ _ _ _ _ _ fun b => ?_
    match b with
    | ⟨0, _⟩ => exact congrArg (· + a.val) ho.symm
    | ⟨1, _⟩ => exact (Nat.zero_add _).symm
  refine (tile_at _ _ _ _ _ _ _ _ _ _ _ (fun i a => W1 (ix2 i a)) (fun a i => W2 (ix2 a i)) (hw1 0 _ rfl _) (hw1 1 _ rfl _) (hw1 2 _ rfl _) (hw1 3 _ rfl _)
    (hw2 0 _ rfl _) (hw2 1 _ rfl _) (hw2 2 _ rfl _) (hw2 3 _ rfl _) r j).trans ?_
  unfold outRow
  refine congrArg (fun x => quarters x _ _ _ _ _ _ j) (funext fun i => ?_)
  refine (mix_at _ _ _ _ _ _ _ _ _ _ _ _ _ _ r i).trans ?_
  have hx : View.ld (Val := Elt Ideal) (e' := .f32) X (Rect.unit (s := S1x1024x1024) ![0, o, 0] S1x512x1024.size bx) (ix3 0 r i) = X (ix3 0 n i) := by
    refine View.ld_unit_apply_of _ _ _ _ _ _ fun b => ?_
    match b with
    | ⟨0, _⟩ => rfl
    | ⟨1, _⟩ => exact hn
    | ⟨2, _⟩ => exact (Nat.zero_add _).symm
  have hy (Y : FVec Ideal S1x4x1024x512 .bf16) (h : Fin 4) (inb) (k : Fin 512) : View.ld (Val := Elt Ideal) (e' := .bf16) Y (Rect.unit (s := S1x4x1024x512) ![0, h.val, o, 0] S1x1x512x512.size inb) (ix4 0 0 r k) = Y (ix4 0 h n k) := by
    refine View.ld_unit_apply_of _ _ _ _ _ _ fun b => ?_
    match b with
    | ⟨0, _⟩ => rfl
    | ⟨1, _⟩ => rfl
    | ⟨2, _⟩ => exact hn
    | ⟨3, _⟩ => exact (Nat.zero_add _).symm
  have ho (off : ℕ) (inb) (k : Fin 512) (hk : off + k.val < 2048) : View.ld (Val := Elt Ideal) (e' := .bf16) O (Rect.unit (s := S2048x1024) ![off, 0] S512x1024.size inb) (ix2 k i) = O (ix2 ⟨off + k.val, hk⟩ i) := by
    refine View.ld_unit_apply_of _ _ _ _ _ _ fun b => ?_
    match b with
    | ⟨0, _⟩ => rfl
    | ⟨1, _⟩ => exact (Nat.zero_add _).symm
  unfold mixRow
  rw [hx]
  refine congrArg (fun z => X (ix3 0 n i) + M (ix4 0 0 2 i) * z) (congrArg₂ (· + ·) (congrArg₂ (· + ·) (congrArg₂ (· + ·) ?_ ?_) ?_) ?_)
  · exact Finset.sum_congr rfl fun k _ => congrArg₂ (· * ·) (congrArg₂ (· * ·) (hy Y 0 _ k) (hy A 0 _ k)) (ho 0 _ k _)
  · exact Finset.sum_congr rfl fun k _ => congrArg₂ (· * ·) (congrArg₂ (· * ·) (hy Y 1 _ k) (hy A 1 _ k)) (ho 512 _ k _)
  · exact Finset.sum_congr rfl fun k _ => congrArg₂ (· * ·) (congrArg₂ (· * ·) (hy Y 2 _ k) (hy A 2 _ k)) (ho 1024 _ k _)
  · exact Finset.sum_congr rfl fun k _ => congrArg₂ (· * ·) (congrArg₂ (· * ·) (hy Y 3 _ k) (hy A 3 _ k)) (ho 1536 _ k _)

end Cert.MidIdeal.Block

end
-- ==== Proof.MidOut.lean ====
/- The first block's call: what its body leaves in the result's block, by rows. -/
module

public import proofs.«01_k».proof.Proof.Gen.MidIdeal.Value
public import proofs.«01_k».proof.Proof.MidBlockValue
public import proofs.«01_k».proof.Proof.Pieces
public import Idealize.ShloMosaic.Lib.Pipeline.ReadBack

set_option maxRecDepth 65536
set_option maxHeartbeats 400000

@[expose] public section

noncomputable section

open Idealize.ShloMosaic Idealize.ShloMosaic.TcCoe Idealize.SL.Sem
open Idealize.ShloMosaic.Pipeline (Dat)

namespace Cert.MidIdeal.Block

open Cert.MidIdeal Cert.MidIdeal.Gen Cert.Mlp Cert.Pieces

/-- A row in the upper half of the block, over any blocks. -/
theorem upper (c : Dev nD) (i : grid0.Coords) (arg2 : Memref sig .tc .vmem S1x1024x1024 .f32) (harg2 : arg2.IsWhole) (arg3 : Memref sig .tc .vmem S1x4x1024x512 .bf16) (harg3 : arg3.IsWhole) (arg4 : Memref sig .tc .vmem S1x4x1024x512 .bf16) (harg4 : arg4.IsWhole) (arg5 : Memref sig .tc .vmem S1x1x6x1024 .f32) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1024x4096 .bf16) (harg8 : arg8.IsWhole) (arg9 : Memref sig .tc .vmem S4096x1024 .bf16) (harg9 : arg9.IsWhole) (arg10 : Memref sig .tc .vmem S1x1024 .f32) (harg10 : arg10.IsWhole) (arg11 : Memref sig .tc .vmem S1x1024x1024 .f32) (harg11 : arg11.IsWhole) (arg12 : Memref sig .tc .vmem S2x512x1024 .bf16) (harg12 : arg12.IsWhole)
    (x0 : Vec Ideal S1x1024x1024 .f32) (x1 : Vec Ideal S1x4x1024x512 .bf16) (x2 : Vec Ideal S1x4x1024x512 .bf16) (x3 : Vec Ideal S1x1x6x1024 .f32) (x4 : Vec Ideal S2048x1024 .bf16) (x5 : Vec Ideal S1x1024 .f32) (x6 : Vec Ideal S1024x4096 .bf16) (x7 : Vec Ideal S4096x1024 .bf16) (x8 : Vec Ideal S1x1024 .f32)
    (n : Fin 1024) (r : Fin 512) (hn : n.val = 512 + r.val) (j : Fin 1024) :
    out0_A_9 (F := Ideal) c i arg2 harg2 arg3 harg3 arg4 harg4 arg5 harg5 arg6 harg6 arg7 harg7 arg8 harg8 arg9 harg9 arg10 harg10 arg11 harg11 arg12 harg12 x0 x1 x2 x3 x4 x5 x6 x7 x8 (ix3 0 n j) = outRow x0 x1 x2 x3 x4 x5 x6 x7 n j := by
  have he (inb) : (Rect.unit (s := S1x1024x1024) ![0, 512, 0] ![1, 512, 1024] inb).emb (ix3 (0 : Fin 1) r j) = ix3 (0 : Fin 1) n j := by
    funext b
    apply Fin.ext
    match b with
    | ⟨0, _⟩ => rfl
    | ⟨1, _⟩ => simp [hn]
    | ⟨2, _⟩ => simp
  unfold out0_A_9
  frame_open
  simp (disch := decide) only [↓ View.readCov_skip, ↓ View.readCov_cons_toLoadRect, ↓ View.readCov_fill]
  frame_out
  refine (hit _ _ _ _ (ix3 0 r j) (he _)).trans ?_
  refine (congrFun (upper_tile _ _ _ _ _ _ _ _ _ _ _ _ _ _ _ _ _ _ _ _ _ _ _) _).trans ?_
  exact tile_row x0 x1 x2 x3 x4 x5 x6 x7 n 512 r hn j _ _ _ _ _ _ _ _ _ _ _ _ _ _ _ _ _ _ _ _ _

set_option maxHeartbeats 4000000 in
/-- A row in the lower half of the block, over any blocks. -/
theorem lower (c : Dev nD) (i : grid0.Coords) (arg2 : Memref sig .tc .vmem S1x1024x1024 .f32) (harg2 : arg2.IsWhole) (arg3 : Memref sig .tc .vmem S1x4x1024x512 .bf16) (harg3 : arg3.IsWhole) (arg4 : Memref sig .tc .vmem S1x4x1024x512 .bf16) (harg4 : arg4.IsWhole) (arg5 : Memref sig .tc .vmem S1x1x6x1024 .f32) (harg5 : arg5.IsWhole) (arg6 : Memref sig .tc .vmem S2048x1024 .bf16) (harg6 : arg6.IsWhole) (arg7 : Memref sig .tc .vmem S1x1024 .f32) (harg7 : arg7.IsWhole) (arg8 : Memref sig .tc .vmem S1024x4096 .bf16) (harg8 : arg8.IsWhole) (arg9 : Memref sig .tc .vmem S4096x1024 .bf16) (harg9 : arg9.IsWhole) (arg10 : Memref sig .tc .vmem S1x1024 .f32) (harg10 : arg10.IsWhole) (arg11 : Memref sig .tc .vmem S1x1024x1024 .f32) (harg11 : arg11.IsWhole) (arg12 : Memref sig .tc .vmem S2x512x1024 .bf16) (harg12 : arg12.IsWhole)
    (x0 : Vec Ideal S1x1024x1024 .f32) (x1 : Vec Ideal S1x4x1024x512 .bf16) (x2 : Vec Ideal S1x4x1024x512 .bf16) (x3 : Vec Ideal S1x1x6x1024 .f32) (x4 : Vec Ideal S2048x1024 .bf16) (x5 : Vec Ideal S1x1024 .f32) (x6 : Vec Ideal S1024x4096 .bf16) (x7 : Vec Ideal S4096x1024 .bf16) (x8 : Vec Ideal S1x1024 .f32)
    (n : Fin 1024) (r : Fin 512) (hn : n.val = 0 + r.val) (j : Fin 1024) :
    out0_A_9 (F := Ideal) c i arg2 harg2 arg3 harg3 arg4 harg4 arg5 harg5 arg6 harg6 arg7 harg7 arg8 harg8 arg9 harg9 arg10 harg10 arg11 harg11 arg12 harg12 x0 x1 x2 x3 x4 x5 x6 x7 x8 (ix3 0 n j) = outRow x0 x1 x2 x3 x4 x5 x6 x7 n j := by
  have he (inb) : (Rect.unit (s := S1x1024x1024) ![0, 0, 0] ![1, 512, 1024] inb).emb (ix3 (0 : Fin 1) r j) = ix3 (0 : Fin 1) n j := by
    funext b
    apply Fin.ext
    match b with
    | ⟨0, _⟩ => rfl
    | ⟨1, _⟩ => simp [hn]
    | ⟨2, _⟩ => simp
  unfold out0_A_9
  frame_open
  simp (disch := decide) only [↓ View.readCov_skip, ↓ View.readCov_cons_toLoadRect, ↓ View.readCov_fill]
  frame_out
  have hb (inb) : ix3 (0 : Fin 1) n j ∉ (Rect.unit (s := S1x1024x1024) ![0, 512, 0] ![1, 512, 1024] inb).set :=
    below _ _ _ 1 _ (by have h : n.val < 512 := by omega
                        simpa using h)
  refine (skip _ _ _ _ (hb _)).trans ?_
  refine (skip _ _ _ _ (hb _)).trans ?_
  refine (skip _ _ _ _ (hb _)).trans ?_
  refine (skip _ _ _ _ (hb _)).trans ?_
  refine (hit _ _ _ _ (ix3 0 r j) (he _)).trans ?_
  refine (congrFun (lower_tile _ _ _ _ _ _ _ _ _ _ _ _ _ _ _ _ _ _ _ _ _ _ _) _).trans ?_
  exact tile_row x0 x1 x2 x3 x4 x5 x6 x7 n 0 r hn j _ _ _ _ _ _ _ _ _ _ _ _ _ _ _ _ _ _ _ _ _

variable (m : (ℓ : Loc nD τ sig) → Buf (Elt Ideal) ℓ)

/-- A row of the block the body leaves at a point. -/
theorem outs_at (c : Dev nD) (t : Fin cfg0.N) (n j : Fin 1024) :
    outsAt0 m c t (ix3 0 n j) = outRow (iblk m c 0 t) (iblk m c 1 t) (iblk m c 2 t) (iblk m c 3 t) (iblk m c 4 t) (iblk m c 5 t) (iblk m c 6 t) (iblk m c 7 t) n j := by
  unfold outsAt0
  by_cases h : n.val < 512
  · exact lower _ _ _ _ _ _ _ _ _ _ _ _ _ _ _ _ _ _ _ _ _ _ _ _ _ _ _ _ _ _ _ _ _ n ⟨n.val, h⟩ (Nat.zero_add _).symm j
  · exact upper _ _ _ _ _ _ _ _ _ _ _ _ _ _ _ _ _ _ _ _ _ _ _ _ _ _ _ _ _ _ _ _ _ n ⟨n.val - 512, by omega⟩ (by show n.val = 512 + (n.val - 512); omega) j

end Cert.MidIdeal.Block

end
-- ==== Proof.MidParts.lean ====
/- The first block's call: what the arrays it is called with hold, and its blocks as parts of its arguments. -/
module

public import proofs.«01_k».proof.Proof.MidOut

set_option maxRecDepth 16384

@[expose] public section

noncomputable section

open Idealize.ShloMosaic Idealize.ShloMosaic.TcCoe Idealize.SL.Sem
open Idealize.ShloMosaic.Pipeline (Dat)

namespace Cert.MidIdeal.Block

open Cert.MidIdeal Cert.MidIdeal.Gen

variable (m : (ℓ : Loc nD τ sig) → Buf (Elt Ideal) ℓ)

/-- The program's arguments. -/
abbrev argX (c : Dev nD) : FVec Ideal S16x4096x1024 .f32 := m ((c : Thread nD τ).loc main_arg0)
abbrev argY (c : Dev nD) : FVec Ideal S16x4x4096x512 .f32 := m ((c : Thread nD τ).loc main_arg1)
abbrev argE (c : Dev nD) : FVec Ideal S16x4x4096x512 .f32 := m ((c : Thread nD τ).loc main_arg2)
abbrev argM (c : Dev nD) : FVec Ideal S2x32x6x1024 .f32 := m ((c : Thread nD τ).loc main_arg3)
abbrev argO (c : Dev nD) : FVec Ideal S1x2048x1024 .f32 := m ((c : Thread nD τ).loc main_arg4)
abbrev argG (c : Dev nD) : FVec Ideal S2x1024 .f32 := m ((c : Thread nD τ).loc main_arg5)
abbrev argW1 (c : Dev nD) : FVec Ideal S2x1024x4096 .f32 := m ((c : Thread nD τ).loc main_arg6)
abbrev argW2 (c : Dev nD) : FVec Ideal S2x4096x1024 .f32 := m ((c : Thread nD τ).loc main_arg7)

/-- The arrays the call reads besides its arguments: the arguments, a layer of them where they have two. -/
theorem prep_y (c : Dev nD) (b : Fin 16) (h : Fin 4) (n : Fin 4096) (k : Fin 512) :
    (show FVec Ideal S16x4x4096x512 .bf16 from V m c main_v0) (ix4 b h n k) = argY m c (ix4 b h n k) := by
  entry_read
  pointwise
theorem prep_e (c : Dev nD) (b : Fin 16) (h : Fin 4) (n : Fin 4096) (k : Fin 512) :
    (show FVec Ideal S16x4x4096x512 .bf16 from V m c main_v1) (ix4 b h n k) = argE m c (ix4 b h n k) := by
  entry_read
  pointwise
theorem prep_o (c : Dev nD) (k : Fin 2048) (j : Fin 1024) : (show FVec Ideal S2048x1024 .bf16 from V m c main_v3) (ix2 k j) = argO m c (ix3 0 k j) := by
  entry_read
  pointwise
theorem prep_g (c : Dev nD) (j : Fin 1024) : (show FVec Ideal S1x1024 .f32 from V m c main_v6) (ix2 0 j) = argG m c (ix2 0 j) := by
  entry_read
  pointwise
theorem prep_w1 (c : Dev nD) (i : Fin 1024) (a : Fin 4096) : (show FVec Ideal S1024x4096 .bf16 from V m c main_v9) (ix2 i a) = argW1 m c (ix3 0 i a) := by
  entry_read
  pointwise
theorem prep_w2 (c : Dev nD) (a : Fin 4096) (i : Fin 1024) : (show FVec Ideal S4096x1024 .bf16 from V m c main_v12) (ix2 a i) = argW2 m c (ix3 0 a i) := by
  entry_read
  pointwise

/-- The windows' block indices, at every point. -/
theorem idx : ∀ t : Fin cfg0.N, win0_0.index t = ![(grid0.coords t 0).val, (grid0.coords t 1).val, 0] ∧ win0_1.index t = ![(grid0.coords t 0).val, 0, (grid0.coords t 1).val, 0] ∧ win0_2.index t = ![(grid0.coords t 0).val, 0, (grid0.coords t 1).val, 0]
    ∧ win0_3.index t = ![0, (grid0.coords t 0).val, 0, 0] ∧ win0_4.index t = ![0, 0] ∧ win0_5.index t = ![0, 0] ∧ win0_6.index t = ![0, 0] ∧ win0_7.index t = ![0, 0]
    ∧ win0_9.index t = ![(grid0.coords t 0).val, (grid0.coords t 1).val, 0] :=
  (by decide +kernel : ∀ t : Fin grid0.N, _)

/-- A token's place in its batch. -/
def token (t : Fin cfg0.N) (n : Fin 1024) : Fin 4096 := ⟨(grid0.coords t 1).val * 1024 + n.val, by have h : (grid0.coords t 1).val < 4 := (grid0.coords t 1).isLt; omega⟩

/-- A point's batch. -/
def batch (t : Fin cfg0.N) : Fin 16 := ⟨(grid0.coords t 0).val, (grid0.coords t 0).isLt⟩

/-- Blocks cut from any contents of their arrays. -/
theorem read_x (c : Dev nD) (A : Buf (Elt Ideal) ((c : Thread nD τ).loc main_arg0)) (t : Fin cfg0.N) (n j : Fin 1024) :
    ((cfg0.win 0).blk t).view.read (Elt Ideal) A (ix3 0 n j) = (show FVec Ideal S16x4096x1024 .f32 from A) (ix3 (batch t) (token t n) j) := by
  have he : ((cfg0.win 0).blk t).view.emb (ix3 0 n j) = ix3 (batch t) (token t n) j := by
    blk_ext [idx t, batch, token]
  exact congrArg A he
theorem read_y (c : Dev nD) (A : Buf (Elt Ideal) ((c : Thread nD τ).loc main_v0)) (t : Fin cfg0.N) (h : Fin 4) (n : Fin 1024) (k : Fin 512) :
    ((cfg0.win 1).blk t).view.read (Elt Ideal) A (ix4 0 h n k) = (show FVec Ideal S16x4x4096x512 .bf16 from A) (ix4 (batch t) h (token t n) k) := by
  have he : ((cfg0.win 1).blk t).view.emb (ix4 0 h n k) = ix4 (batch t) h (token t n) k := by
    blk_ext [idx t, batch, token]
  exact congrArg A he
theorem read_e (c : Dev nD) (A : Buf (Elt Ideal) ((c : Thread nD τ).loc main_v1)) (t : Fin cfg0.N) (h : Fin 4) (n : Fin 1024) (k : Fin 512) :
    ((cfg0.win 2).blk t).view.read (Elt Ideal) A (ix4 0 h n k) = (show FVec Ideal S16x4x4096x512 .bf16 from A) (ix4 (batch t) h (token t n) k) := by
  have he : ((cfg0.win 2).blk t).view.emb (ix4 0 h n k) = ix4 (batch t) h (token t n) k := by
    blk_ext [idx t, batch, token]
  exact congrArg A he
theorem read_m (c : Dev nD) (A : Buf (Elt Ideal) ((c : Thread nD τ).loc main_arg3)) (t : Fin cfg0.N) (r : Fin 6) (j : Fin 1024) :
    ((cfg0.win 3).blk t).view.read (Elt Ideal) A (ix4 0 0 r j) = (show FVec Ideal S2x32x6x1024 .f32 from A) (ix4 0 ⟨(batch t).val, by omega⟩ r j) := by
  have he : ((cfg0.win 3).blk t).view.emb (ix4 0 0 r j) = ix4 0 ⟨(batch t).val, by omega⟩ r j := by
    blk_ext [idx t, batch]
  exact congrArg A he
theorem read_o (c : Dev nD) (A : Buf (Elt Ideal) ((c : Thread nD τ).loc main_v3)) (t : Fin cfg0.N) (k : Fin 2048) (j : Fin 1024) :
    ((cfg0.win 4).blk t).view.read (Elt Ideal) A (ix2 k j) = (show FVec Ideal S2048x1024 .bf16 from A) (ix2 k j) := by
  have he : ((cfg0.win 4).blk t).view.emb (ix2 k j) = ix2 k j := by
    blk_ext [idx t]
  exact congrArg A he
theorem read_g (c : Dev nD) (A : Buf (Elt Ideal) ((c : Thread nD τ).loc main_v6)) (t : Fin cfg0.N) (j : Fin 1024) :
    ((cfg0.win 5).blk t).view.read (Elt Ideal) A (ix2 0 j) = (show FVec Ideal S1x1024 .f32 from A) (ix2 0 j) := by
  have he : ((cfg0.win 5).blk t).view.emb (ix2 0 j) = ix2 0 j := by
    blk_ext [idx t]
  exact congrArg A he
theorem read_w1 (c : Dev nD) (A : Buf (Elt Ideal) ((c : Thread nD τ).loc main_v9)) (t : Fin cfg0.N) (i : Fin 1024) (a : Fin 4096) :
    ((cfg0.win 6).blk t).view.read (Elt Ideal) A (ix2 i a) = (show FVec Ideal S1024x4096 .bf16 from A) (ix2 i a) := by
  have he : ((cfg0.win 6).blk t).view.emb (ix2 i a) = ix2 i a := by
    blk_ext [idx t]
  exact congrArg A he
theorem read_w2 (c : Dev nD) (A : Buf (Elt Ideal) ((c : Thread nD τ).loc main_v12)) (t : Fin cfg0.N) (a : Fin 4096) (i : Fin 1024) :
    ((cfg0.win 7).blk t).view.read (Elt Ideal) A (ix2 a i) = (show FVec Ideal S4096x1024 .bf16 from A) (ix2 a i) := by
  have he : ((cfg0.win 7).blk t).view.emb (ix2 a i) = ix2 a i := by
    blk_ext [idx t]
  exact congrArg A he

/-- The call's blocks, as parts of the arguments. -/
theorem block_x (c : Dev nD) (t : Fin cfg0.N) (n j : Fin 1024) : (show FVec Ideal S1x1024x1024 .f32 from iblk m c 0 t) (ix3 0 n j) = argX m c (ix3 (batch t) (token t n) j) :=
  (read_x c (V m c main_arg0) t n j).trans (congrFun (V_main_arg0 m c) _)
theorem block_y (c : Dev nD) (t : Fin cfg0.N) (h : Fin 4) (n : Fin 1024) (k : Fin 512) :
    (show FVec Ideal S1x4x1024x512 .bf16 from iblk m c 1 t) (ix4 0 h n k) = argY m c (ix4 (batch t) h (token t n) k) :=
  (read_y c (V m c main_v0) t h n k).trans (prep_y m c _ _ _ _)
theorem block_e (c : Dev nD) (t : Fin cfg0.N) (h : Fin 4) (n : Fin 1024) (k : Fin 512) :
    (show FVec Ideal S1x4x1024x512 .bf16 from iblk m c 2 t) (ix4 0 h n k) = argE m c (ix4 (batch t) h (token t n) k) :=
  (read_e c (V m c main_v1) t h n k).trans (prep_e m c _ _ _ _)
theorem block_m (c : Dev nD) (t : Fin cfg0.N) (r : Fin 6) (j : Fin 1024) :
    (show FVec Ideal S1x1x6x1024 .f32 from iblk m c 3 t) (ix4 0 0 r j) = argM m c (ix4 0 ⟨(batch t).val, by omega⟩ r j) :=
  (read_m c (V m c main_arg3) t r j).trans (congrFun (V_main_arg3 m c) _)
theorem block_o (c : Dev nD) (t : Fin cfg0.N) (k : Fin 2048) (j : Fin 1024) : (show FVec Ideal S2048x1024 .bf16 from iblk m c 4 t) (ix2 k j) = argO m c (ix3 0 k j) :=
  (read_o c (V m c main_v3) t k j).trans (prep_o m c _ _)
theorem block_g (c : Dev nD) (t : Fin cfg0.N) (j : Fin 1024) : (show FVec Ideal S1x1024 .f32 from iblk m c 5 t) (ix2 0 j) = argG m c (ix2 0 j) :=
  (read_g c (V m c main_v6) t j).trans (prep_g m c _)
theorem block_w1 (c : Dev nD) (t : Fin cfg0.N) (i : Fin 1024) (a : Fin 4096) : (show FVec Ideal S1024x4096 .bf16 from iblk m c 6 t) (ix2 i a) = argW1 m c (ix3 0 i a) :=
  (read_w1 c (V m c main_v9) t i a).trans (prep_w1 m c _ _)
theorem block_w2 (c : Dev nD) (t : Fin cfg0.N) (a : Fin 4096) (i : Fin 1024) : (show FVec Ideal S4096x1024 .bf16 from iblk m c 7 t) (ix2 a i) = argW2 m c (ix3 0 a i) :=
  (read_w2 c (V m c main_v12) t a i).trans (prep_w2 m c _ _)

end Cert.MidIdeal.Block

end
-- ==== Proof.MidReference.lean ====
/- The first block's reference: its result, read at an index, as the mixed row with its gated perceptron. -/
module

public import proofs.«01_k».proof.Proof.Gen.MidRefIdeal.Run
public import proofs.«01_k».proof.Proof.Mlp
public import Idealize.ShloMosaic.Lib.Pointwise

set_option maxRecDepth 16384

@[expose] public section

noncomputable section

open Idealize.ShloMosaic Idealize.ShloMosaic.TcCoe Idealize.SL.Sem

namespace Cert.MidRefIdeal.Block

open Cert.MidRefIdeal Cert.MidRefIdeal.Gen Cert.Mlp

/-- Rows 2 to 5 of the layer's modulation, a batch to a row. -/
def row2 (a : FVec Ideal S2x32x6x1024 .f32) : FVec Ideal S16x1x1024 .f32 :=
  broadcastInDim S16x1x1024 ![0, 2] bcast_S16x1024_S16x1x1024_0_2 (shapeCast _ (extractStridedSlice S1x16x1x1024 ![0, 0, 2, 0] a slices_S2x32x6x1024_S1x16x1x1024_0_0_2_0) shapeCasts_S1x16x1x1024_S16x1024)
def row3 (a : FVec Ideal S2x32x6x1024 .f32) : FVec Ideal S16x1x1024 .f32 :=
  broadcastInDim S16x1x1024 ![0, 2] bcast_S16x1024_S16x1x1024_0_2 (shapeCast _ (extractStridedSlice S1x16x1x1024 ![0, 0, 3, 0] a slices_S2x32x6x1024_S1x16x1x1024_0_0_3_0) shapeCasts_S1x16x1x1024_S16x1024)
def row4 (a : FVec Ideal S2x32x6x1024 .f32) : FVec Ideal S16x1x1024 .f32 :=
  broadcastInDim S16x1x1024 ![0, 2] bcast_S16x1024_S16x1x1024_0_2 (shapeCast _ (extractStridedSlice S1x16x1x1024 ![0, 0, 4, 0] a slices_S2x32x6x1024_S1x16x1x1024_0_0_4_0) shapeCasts_S1x16x1x1024_S16x1024)
def row5 (a : FVec Ideal S2x32x6x1024 .f32) : FVec Ideal S16x1x1024 .f32 :=
  broadcastInDim S16x1x1024 ![0, 2] bcast_S16x1024_S16x1x1024_0_2 (shapeCast _ (extractStridedSlice S1x16x1x1024 ![0, 0, 5, 0] a slices_S2x32x6x1024_S1x16x1x1024_0_0_5_0) shapeCasts_S1x16x1x1024_S16x1024)

/-- A batch's row, for every token. -/
def spread (a : FVec Ideal S16x1x1024 .f32) : FVec Ideal S16x4096x1024 .f32 :=
  broadcastInDim S16x4096x1024 ![0, 1, 2] bcast_S16x1x1024_S16x4096x1024_0_1_2 a

/-- The product of the gated retention's heads, side by side, with the output matrix. -/
def heads (y e : FVec Ideal S16x4x4096x512 .f32) (o : FVec Ideal S1x2048x1024 .f32) : FVec Ideal S16x4096x1024 .f32 :=
  Host.dotGeneral dot_S16x4096x2048_S2048x1024_S16x4096x1024_2_0_01_1_n_n none (shapeCast _ (transpose S16x4096x4x512 [0, 2, 1, 3] (mulf y e) transposes_S16x4x4096x512_S16x4096x4x512_0_2_1_3) shapeCasts_S16x4096x4x512_S16x4096x2048) (shapeCast _ o shapeCasts_S1x2048x1024_S2048x1024)

/-- A row plus a gated one. -/
def gated (x g y : FVec Ideal S16x4096x1024 .f32) : FVec Ideal S16x4096x1024 .f32 := addf x (mulf g y)

/-- Rows over the root of their mean square, times a gain. -/
def normed (x : FVec Ideal S16x4096x1024 .f32) (g : FVec Ideal S1x1x1024 .f32) : FVec Ideal S16x4096x1024 .f32 :=
  mulf (mulf x (broadcastInDim S16x4096x1024 ![0, 1, 2] bcast_S16x4096x1_S16x4096x1024_0_1_2 (Host.rsqrt (addf (Host.divf (broadcastInDim S16x4096x1 ![0, 1] bcast_S16x4096_S16x4096x1_0_1 (Host.reduceAdd (mulf x x) (constant S_ .f32 0x00000000#32) reducesTo_S16x4096x1024_S16x4096_d2 h_S_)) (broadcastInDim S16x4096x1 ![] bcast_S_S16x4096x1 (constant S_ .f32 0x44800000#32))) (broadcastInDim S16x4096x1 ![] bcast_S_S16x4096x1 (constant S_ .f32 0x358637BD#32)))))) (broadcastInDim S16x4096x1024 ![0, 1, 2] bcast_S1x1x1024_S16x4096x1024_0_1_2 g)

/-- The layer's gain. -/
def gain (g : FVec Ideal S2x1024 .f32) : FVec Ideal S1x1x1024 .f32 :=
  broadcastInDim S1x1x1024 ![2] bcast_S1024_S1x1x1024_2 (shapeCast _ (extractStridedSlice S1x1024 ![0, 0] g slices_S2x1024_S1x1024_0_0) shapeCasts_S1x1024_S1024)

/-- Rows scaled by one more than a batch's scale and moved by its shift. -/
def moved (h : FVec Ideal S16x4096x1024 .f32) (sc sh : FVec Ideal S16x1x1024 .f32) : FVec Ideal S16x4096x1024 .f32 :=
  addf (mulf h (broadcastInDim S16x4096x1024 ![0, 1, 2] bcast_S16x1x1024_S16x4096x1024_0_1_2 (addf (broadcastInDim S16x1x1024 ![] bcast_S_S16x1x1024 (constant S_ .f32 0x3F800000#32)) sc))) (spread sh)

/-- The nonnegative part of the rows' product with the first matrix. -/
def hidden (h : FVec Ideal S16x4096x1024 .f32) (w : FVec Ideal S2x1024x4096 .f32) : FVec Ideal S16x4096x4096 .f32 :=
  maximumf (Host.dotGeneral dot_S16x4096x1024_S1024x4096_S16x4096x4096_2_0_01_1_n_n none h (shapeCast _ (extractStridedSlice S1x1024x4096 ![0, 0, 0] w slices_S2x1024x4096_S1x1024x4096_0_0_0) shapeCasts_S1x1024x4096_S1024x4096)) (broadcastInDim S16x4096x4096 ![] bcast_S_S16x4096x4096 (constant S_ .f32 0x00000000#32))

/-- The product of the squares with the second matrix. -/
def narrowed (u : FVec Ideal S16x4096x4096 .f32) (w : FVec Ideal S2x4096x1024 .f32) : FVec Ideal S16x4096x1024 .f32 :=
  Host.dotGeneral dot_S16x4096x4096_S4096x1024_S16x4096x1024_2_0_01_1_n_n none (mulf u u) (shapeCast _ (extractStridedSlice S1x4096x1024 ![0, 0, 0] w slices_S2x4096x1024_S1x4096x1024_0_0_0) shapeCasts_S1x4096x1024_S4096x1024)

/-- The mixed tokens. -/
def mixed (x : FVec Ideal S16x4096x1024 .f32) (y e : FVec Ideal S16x4x4096x512 .f32) (a : FVec Ideal S2x32x6x1024 .f32) (o : FVec Ideal S1x2048x1024 .f32) : FVec Ideal S16x4096x1024 .f32 :=
  gated x (spread (row2 a)) (heads y e o)

/-- The mixed tokens with their gated perceptron. -/
def outOf (z : FVec Ideal S16x4096x1024 .f32) (a : FVec Ideal S2x32x6x1024 .f32) (g : FVec Ideal S2x1024 .f32) (w1 : FVec Ideal S2x1024x4096 .f32) (w2 : FVec Ideal S2x4096x1024 .f32) : FVec Ideal S16x4096x1024 .f32 :=
  gated z (spread (row5 a)) (narrowed (hidden (moved (normed z (gain g)) (row4 a) (row3 a)) w1) w2)

/-- The reference's result of its arguments. -/
def result (x : FVec Ideal S16x4096x1024 .f32) (y e : FVec Ideal S16x4x4096x512 .f32) (a : FVec Ideal S2x32x6x1024 .f32) (o : FVec Ideal S1x2048x1024 .f32)
    (g : FVec Ideal S2x1024 .f32) (w1 : FVec Ideal S2x1024x4096 .f32) (w2 : FVec Ideal S2x4096x1024 .f32) : FVec Ideal S16x4096x1024 .f32 :=
  outOf (mixed x y e a o) a g w1 w2

theorem row2_at (a : FVec Ideal S2x32x6x1024 .f32) (b : Fin 16) (j : Fin 1024) : row2 a (ix3 b 0 j) = a (ix4 0 ⟨b.val, by omega⟩ 2 j) := by
  pointwise [row2]
theorem row3_at (a : FVec Ideal S2x32x6x1024 .f32) (b : Fin 16) (j : Fin 1024) : row3 a (ix3 b 0 j) = a (ix4 0 ⟨b.val, by omega⟩ 3 j) := by
  pointwise [row3]
theorem row4_at (a : FVec Ideal S2x32x6x1024 .f32) (b : Fin 16) (j : Fin 1024) : row4 a (ix3 b 0 j) = a (ix4 0 ⟨b.val, by omega⟩ 4 j) := by
  pointwise [row4]
theorem row5_at (a : FVec Ideal S2x32x6x1024 .f32) (b : Fin 16) (j : Fin 1024) : row5 a (ix3 b 0 j) = a (ix4 0 ⟨b.val, by omega⟩ 5 j) := by
  pointwise [row5]
theorem spread_at (a : FVec Ideal S16x1x1024 .f32) (b : Fin 16) (n : Fin 4096) (j : Fin 1024) : spread a (ix3 b n j) = a (ix3 b 0 j) := by
  pointwise [spread]
theorem gated_at (x g y : FVec Ideal S16x4096x1024 .f32) (b : Fin 16) (n : Fin 4096) (j : Fin 1024) : gated x g y (ix3 b n j) = x (ix3 b n j) + g (ix3 b n j) * y (ix3 b n j) := by
  pointwise [gated]
theorem gain_at (g : FVec Ideal S2x1024 .f32) (j : Fin 1024) : gain g (ix3 0 0 j) = g (ix2 0 j) := by
  pointwise [gain]

/-- A head's coordinate in the row of heads side by side. -/
theorem heads_at (y e : FVec Ideal S16x4x4096x512 .f32) (o : FVec Ideal S1x2048x1024 .f32) (b : Fin 16) (n : Fin 4096) (j : Fin 1024) :
    heads y e o (ix3 b n j) = ∑ k : Fin 2048, (y (ix4 b ⟨k.val / 512, by omega⟩ n ⟨k.val % 512, by omega⟩) * e (ix4 b ⟨k.val / 512, by omega⟩ n ⟨k.val % 512, by omega⟩) * o (ix3 0 k j) : EReal) := by
  pointwise [heads]

theorem normed_at (x : FVec Ideal S16x4096x1024 .f32) (g : FVec Ideal S1x1x1024 .f32) (b : Fin 16) (n : Fin 4096) (j : Fin 1024) :
    normed x g (ix3 b n j) = rms (fun i => x (ix3 b n i)) (fun i => g (ix3 0 0 i)) j := by
  pointwise [normed, rms, width, small]

theorem moved_at (h : FVec Ideal S16x4096x1024 .f32) (sc sh : FVec Ideal S16x1x1024 .f32) (b : Fin 16) (n : Fin 4096) (j : Fin 1024) :
    moved h sc sh (ix3 b n j) = modulate (fun i => h (ix3 b n i)) (fun i => sc (ix3 b 0 i)) (fun i => sh (ix3 b 0 i)) j := by
  pointwise [moved, spread, modulate]

theorem hidden_at (h : FVec Ideal S16x4096x1024 .f32) (w : FVec Ideal S2x1024x4096 .f32) (b : Fin 16) (n a : Fin 4096) :
    hidden h w (ix3 b n a) = relu (fun i => h (ix3 b n i)) (fun i a => w (ix3 0 i a)) a := by
  pointwise [hidden, relu]

theorem narrowed_at (u : FVec Ideal S16x4096x4096 .f32) (w : FVec Ideal S2x4096x1024 .f32) (b : Fin 16) (n : Fin 4096) (j : Fin 1024) :
    narrowed u w (ix3 b n j) = squares (fun a => u (ix3 b n a)) (fun a i => w (ix3 0 a i)) j := by
  pointwise [narrowed, squares]

/-- A token's row plus the gated product of its heads, side by side, with the output matrix. -/
def mixAt (x : FVec Ideal S16x4096x1024 .f32) (y e : FVec Ideal S16x4x4096x512 .f32) (a : FVec Ideal S2x32x6x1024 .f32) (o : FVec Ideal S1x2048x1024 .f32) (b : Fin 16) (n : Fin 4096) (j : Fin 1024) : EReal :=
  x (ix3 b n j) + a (ix4 0 ⟨b.val, by omega⟩ 2 j) * ∑ k : Fin 2048, (y (ix4 b ⟨k.val / 512, by omega⟩ n ⟨k.val % 512, by omega⟩) * e (ix4 b ⟨k.val / 512, by omega⟩ n ⟨k.val % 512, by omega⟩) * o (ix3 0 k j) : EReal)

/-- The reference's result: the mixed row with its gated perceptron. -/
theorem result_at (x : FVec Ideal S16x4096x1024 .f32) (y e : FVec Ideal S16x4x4096x512 .f32) (a : FVec Ideal S2x32x6x1024 .f32) (o : FVec Ideal S1x2048x1024 .f32)
    (g : FVec Ideal S2x1024 .f32) (w1 : FVec Ideal S2x1024x4096 .f32) (w2 : FVec Ideal S2x4096x1024 .f32) (b : Fin 16) (n : Fin 4096) (j : Fin 1024) :
    result x y e a o g w1 w2 (ix3 b n j)
      = residual (mixAt x y e a o b n) (fun i => g (ix2 0 i)) (fun i => a (ix4 0 ⟨b.val, by omega⟩ 4 i)) (fun i => a (ix4 0 ⟨b.val, by omega⟩ 3 i))
          (fun i => a (ix4 0 ⟨b.val, by omega⟩ 5 i)) (fun i d => w1 (ix3 0 i d)) (fun d i => w2 (ix3 0 d i)) j := by
  simp only [result, outOf, mixed, normed_at, gated_at, spread_at, row2_at, row3_at, row4_at, row5_at, narrowed_at, hidden_at, moved_at, gain_at, heads_at]
  rfl

end Cert.MidRefIdeal.Block

end
-- ==== Proof.MidValue.lean ====
/- The first block's call: the array it leaves is the reference's result of its arguments, over finite weights. -/
module

public import proofs.«01_k».proof.Proof.MidParts
public import proofs.«01_k».proof.Proof.MidReference

set_option maxRecDepth 16384

@[expose] public section

noncomputable section

open Idealize.ShloMosaic Idealize.ShloMosaic.TcCoe Idealize.SL.Sem
open Idealize.ShloMosaic.Pipeline (Dat)

namespace Cert.MidIdeal.Block

open Cert.MidIdeal Cert.MidIdeal.Gen Cert.Mlp

/-- The sum over the heads side by side is the four heads' sums together. -/
theorem four_heads (y : Fin 4 → Fin 512 → EReal) (o : Fin 2048 → EReal) :
    (∑ k : Fin 2048, y ⟨k.val / 512, by omega⟩ ⟨k.val % 512, by omega⟩ * o k)
      = (∑ k : Fin 512, y 0 k * o ⟨0 + k.val, by omega⟩) + (∑ k : Fin 512, y 1 k * o ⟨512 + k.val, by omega⟩) + (∑ k : Fin 512, y 2 k * o ⟨1024 + k.val, by omega⟩) + (∑ k : Fin 512, y 3 k * o ⟨1536 + k.val, by omega⟩) := by
  rw [sum_runs (m := 4) (n := 512) rfl, Fin.sum_univ_four]
  refine congrArg₂ (· + ·) (congrArg₂ (· + ·) (congrArg₂ (· + ·) (Finset.sum_congr rfl fun k _ => ?_) (Finset.sum_congr rfl fun k _ => ?_)) (Finset.sum_congr rfl fun k _ => ?_)) (Finset.sum_congr rfl fun k _ => ?_)
  · refine congrArg₂ (· * ·) (congrArg₂ y (Fin.ext ?_) (Fin.ext ?_)) (congrArg o (Fin.ext ?_))
    · show (0 * 512 + k.val) / 512 = 0; omega
    · show (0 * 512 + k.val) % 512 = k.val; omega
    · show 0 * 512 + k.val = 0 + k.val; omega
  · refine congrArg₂ (· * ·) (congrArg₂ y (Fin.ext ?_) (Fin.ext ?_)) (congrArg o (Fin.ext ?_))
    · show (1 * 512 + k.val) / 512 = 1; omega
    · show (1 * 512 + k.val) % 512 = k.val; omega
    · show 1 * 512 + k.val = 512 + k.val; omega
  · refine congrArg₂ (· * ·) (congrArg₂ y (Fin.ext ?_) (Fin.ext ?_)) (congrArg o (Fin.ext ?_))
    · show (2 * 512 + k.val) / 512 = 2; omega
    · show (2 * 512 + k.val) % 512 = k.val; omega
    · show 2 * 512 + k.val = 1024 + k.val; omega
  · refine congrArg₂ (· * ·) (congrArg₂ y (Fin.ext ?_) (Fin.ext ?_)) (congrArg o (Fin.ext ?_))
    · show (3 * 512 + k.val) / 512 = 3; omega
    · show (3 * 512 + k.val) % 512 = k.val; omega
    · show 3 * 512 + k.val = 1536 + k.val; omega

/-- A mixed row of the blocks, over what they hold. -/
theorem mix_eq (X : FVec Ideal S1x1024x1024 .f32) (Y A : FVec Ideal S1x4x1024x512 .bf16) (M : FVec Ideal S1x1x6x1024 .f32) (O : FVec Ideal S2048x1024 .bf16) (n : Fin 1024)
    (x a : Fin 1024 → EReal) (y e : Fin 4 → Fin 512 → EReal) (o : Fin 2048 → Fin 1024 → EReal) (hx : ∀ j, X (ix3 0 n j) = x j) (ha : ∀ j, M (ix4 0 0 2 j) = a j)
    (hy : ∀ h k, Y (ix4 0 h n k) = y h k) (he : ∀ h k, A (ix4 0 h n k) = e h k) (ho : ∀ k j, O (ix2 k j) = o k j) (j : Fin 1024) :
    mixRow X Y A M O n j = x j + a j * ∑ k : Fin 2048, y ⟨k.val / 512, by omega⟩ ⟨k.val % 512, by omega⟩ * e ⟨k.val / 512, by omega⟩ ⟨k.val % 512, by omega⟩ * o k j := by
  unfold mixRow
  rw [four_heads (fun h k => y h k * e h k) fun k => o k j]
  simp only [hx, ha, hy, he, ho]

/-- A row of the block the body leaves, over what the blocks hold. -/
theorem out_eq (X : FVec Ideal S1x1024x1024 .f32) (Y A : FVec Ideal S1x4x1024x512 .bf16) (M : FVec Ideal S1x1x6x1024 .f32) (O : FVec Ideal S2048x1024 .bf16) (G : FVec Ideal S1x1024 .f32)
    (W1 : FVec Ideal S1024x4096 .bf16) (W2 : FVec Ideal S4096x1024 .bf16) (n : Fin 1024)
    (z g sc sh gate : Fin 1024 → EReal) (w1 : Fin 1024 → Fin 4096 → EReal) (w2 : Fin 4096 → Fin 1024 → EReal) (hz : ∀ j, mixRow X Y A M O n j = z j)
    (hG : ∀ j, G (ix2 0 j) = g j) (hS : ∀ j, M (ix4 0 0 4 j) = sc j) (hH : ∀ j, M (ix4 0 0 3 j) = sh j) (hT : ∀ j, M (ix4 0 0 5 j) = gate j)
    (hA : ∀ i a, W1 (ix2 i a) = w1 i a) (hB : ∀ a i, W2 (ix2 a i) = w2 a i)
    (hg : ∀ j, IsFin (g j)) (hc : ∀ j, IsFin (sc j)) (hs : ∀ j, IsFin (sh j)) (ht : ∀ j, IsFin (gate j)) (h1 : ∀ i a, IsFin (w1 i a)) (h2 : ∀ a j, IsFin (w2 a j)) (j : Fin 1024) :
    outRow X Y A M O G W1 W2 n j = residual z g sc sh gate w1 w2 j := by
  have e : quarters z g sc sh gate w1 w2 = residual z g sc sh gate w1 w2 := funext (quarters_eq z g sc sh gate w1 w2 hg hc hs ht h1 h2)
  unfold outRow
  rw [funext hz, funext hG, funext hS, funext hH, funext hT, funext fun i => funext (hA i), funext fun a => funext (hB a), e]

variable (m : (ℓ : Loc nD τ sig) → Buf (Elt Ideal) ℓ)

/-- The modulation, the layer's gain and the two matrices are finite. -/
def Finite (c : Dev nD) : Prop :=
  (∀ i, IsFin (argM m c i)) ∧ (∀ i, IsFin (argG m c i)) ∧ (∀ i, IsFin (argW1 m c i)) ∧ ∀ i, IsFin (argW2 m c i)

/-- The reference's result of the arguments. -/
def value (c : Dev nD) : FVec Ideal S16x4096x1024 .f32 :=
  Cert.MidRefIdeal.Block.result (argX m c) (argY m c) (argE m c) (argM m c) (argO m c) (argG m c) (argW1 m c) (argW2 m c)

/-- The block a point leaves holds the reference's result of its tokens. -/
theorem point (c : Dev nD) (hf : Finite m c) (t : Fin cfg0.N) (n j : Fin 1024) : outsAt0 m c t (ix3 0 n j) = value m c (ix3 (batch t) (token t n) j) := by
  refine (outs_at m c t n j).trans ?_
  refine (out_eq _ _ _ _ _ _ _ _ n _ _ _ _ _ _ _
    (mix_eq _ _ _ _ _ n _ _ _ _ _ (block_x m c t n) (block_m m c t 2) (fun h k => block_y m c t h n k) (fun h k => block_e m c t h n k) (block_o m c t))
    (block_g m c t) (block_m m c t 4) (block_m m c t 3) (block_m m c t 5) (block_w1 m c t) (block_w2 m c t)
    (fun _ => hf.2.1 _) (fun _ => hf.1 _) (fun _ => hf.1 _) (fun _ => hf.1 _) (fun _ _ => hf.2.2.1 _) (fun _ _ => hf.2.2.2 _) j).trans ?_
  exact (Cert.MidRefIdeal.Block.result_at _ _ _ _ _ _ _ _ _ _ j).symm

/-- The array the call leaves is the reference's result of the arguments. -/
theorem final (c : Dev nD) (hf : Finite m c) : (dats m 0 c).arrAt 9 cfg0.N = value m c := by
  refine (dats m 0 c).arrAt_eq_of_covers 9 _ (by decide +kernel) fun t _ y => ?_
  blk_simp
  rw [after0_9]
  have hy : y = ix3 (0 : Fin 1) (y 1) (y 2) := by
    refine (eq_ix3 y).trans ?_
    exact (ix3_inj ..).2 ⟨Subsingleton.elim _ _, rfl, rfl⟩
  have he : ((cfg0.win 9).blk t).view.emb y = ix3 (batch t) (token t (y 1)) (y 2) := by
    blk_ext [idx t, batch, token]
  exact (congrArg (outsAt0 m c t) hy).trans ((point m c hf t (y 1) (y 2)).trans (congrArg (value m c) he.symm))

end Cert.MidIdeal.Block

end
-- ==== Proof.MidClaim.lean ====
/- The first block's claim: the idealized call and the reference leave the same array. -/
module

public import proofs.«01_k».proof.Proof.MidValue
public import proofs.«01_k».proof.Proof.IdealPre

set_option maxRecDepth 16384

@[expose] public section

noncomputable section

open Idealize.ShloMosaic Idealize.ShloMosaic.TcCoe Idealize.SL.Sem

namespace Cert.Pre_finite_weights_mid

/-- The facts about shapes the precondition's operations take. -/
theorem facts : Facts where
  bcast_S_S2x32x6x1024 := by decide
  reducesTo_S2x32x6x1024_S_d0_1_2_3 := by decide
  h_S_ := by decide
  bcast_S_S2x1024 := by decide
  reducesTo_S2x1024_S_d0_1 := by decide
  bcast_S_S2x1024x4096 := by decide
  reducesTo_S2x1024x4096_S_d0_1_2 := by decide
  bcast_S_S2x4096x1024 := by decide
  reducesTo_S2x4096x1024_S_d0_1_2 := by decide

attribute [local instance] facts

/-- The precondition says that the modulation, the gains and the two matrices are finite. -/
theorem finite (x : FVec Ideal S16x4096x1024 .f32) (y e : FVec Ideal S16x4x4096x512 .f32) (a : FVec Ideal S2x32x6x1024 .f32) (o : FVec Ideal S1x2048x1024 .f32)
    (g : FVec Ideal S2x1024 .f32) (w1 : FVec Ideal S2x1024x4096 .f32) (w2 : FVec Ideal S2x4096x1024 .f32) (f : FVec Ideal S1024 .f32) (h : fn (F := Ideal) x y e a o g w1 w2 f = fun _ => 1#1) :
    (∀ i, Cert.Mlp.IsFin (a i)) ∧ (∀ i, Cert.Mlp.IsFin (g i)) ∧ (∀ i, Cert.Mlp.IsFin (w1 i)) ∧ ∀ i, Cert.Mlp.IsFin (w2 i) := by
  obtain ⟨h1, h4⟩ := IntOp.andi_eq_one.1 (congrFun h ix0)
  obtain ⟨h1, h3⟩ := IntOp.andi_eq_one.1 h1
  obtain ⟨h1, h2⟩ := IntOp.andi_eq_one.1 h1
  exact ⟨Cert.Pre_finite_queries_and_keys.all_finite a _ _ _ _ h1, Cert.Pre_finite_queries_and_keys.all_finite g _ _ _ _ h2,
    Cert.Pre_finite_queries_and_keys.all_finite w1 _ _ _ _ h3, Cert.Pre_finite_queries_and_keys.all_finite w2 _ _ _ _ h4⟩

end Cert.Pre_finite_weights_mid

namespace Cert.MidRefIdeal.Block

open Cert.MidRefIdeal Cert.MidRefIdeal.Gen

variable (m : (ℓ : Loc nD τ sig) → Buf (Elt Ideal) ℓ) (c : Dev nD)

/-- The reference program's result term is the result of its arguments. -/
theorem term_eq : Cert.MidRefIdeal.Value.res_main_v57 (F := Ideal) m c = result (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold result outOf mixed narrowed hidden moved normed gated heads gain spread row2 row3 row4 row5
  unfold Cert.MidRefIdeal.Value.res_main_v57
  rfl

end Cert.MidRefIdeal.Block

namespace Cert.Proof

attribute [local instance] Cert.Pre_finite_weights_mid.facts

/-- With finite weights and modulation, the idealized first block and the reference leave the same array. -/
theorem mid_equal : Cert.algebraic_MidIdeal_MidRefIdeal_pre_finite_weights_mid := fun m ρ m' ρ' hp ha =>
  ⟨fun c => Cert.MidIdeal.Block.value m c,
    (θ_run _ _ _).mono (fun _ h c => ⟨(h c).1.trans (Cert.MidIdeal.Block.final m c (Cert.Pre_finite_weights_mid.finite _ _ _ _ _ _ _ _ _ (hp c))), (h c).2⟩) (Cert.MidIdeal.Value.run_blocks m ρ),
    (θ_run _ _ _).mono (fun _ h c => ⟨(h c).1.trans ((Cert.MidRefIdeal.Block.term_eq m' c).trans (by
      rw [(ha c).1, (ha c).2.1, (ha c).2.2.1, (ha c).2.2.2.1, (ha c).2.2.2.2.1, (ha c).2.2.2.2.2.1, (ha c).2.2.2.2.2.2.1, (ha c).2.2.2.2.2.2.2.1]; rfl)), (h c).2⟩) (Cert.MidRefIdeal.Value.run m' ρ')⟩

end Cert.Proof

end
-- ==== Proof.RetRow.lean ====
/- What the retention's projections take of a token: the rotations by its place in the grid, along the grid's rows for a first half of the coordinates and along its columns for the second, the queries' scale and the gate. -/
module

public import Idealize.ShloMosaic.Lib.Pointwise

@[expose] public section

noncomputable section

open Idealize.ShloMosaic

namespace Cert.RetRow

/-- A value times its logistic. -/
def silu (z : EReal) : EReal := z * Ideal.logistic z

/-- The scale of the queries. -/
def scale : EReal := Ideal.ofBits .f32 0x3D800000#32

theorem scale_eq : scale = ((1 / 16 : ℝ) : EReal) := by
  unfold scale
  simp [Ideal.ofBits, Ideal.ieee, -EReal.coe_mul]
  norm_num

/-- A difference and a sum of products, scaled, are those of the scaled factors. -/
theorem sub_scale (x y c s : EReal) : (x * c - y * s) * scale = x * scale * c - y * scale * s := by
  have h0 : (0 : EReal) ≤ scale := by rw [scale_eq]; exact EReal.coe_nonneg.2 (by norm_num)
  have h1 : scale ≠ ⊤ := by rw [scale_eq]; exact EReal.coe_ne_top _
  rw [sub_eq_add_neg, EReal.right_distrib_of_nonneg_of_ne_top h0 h1, EReal.neg_mul, ← sub_eq_add_neg, mul_right_comm x c, mul_right_comm y s]

theorem add_scale (x y c s : EReal) : (x * s + y * c) * scale = x * scale * s + y * scale * c := by
  have h0 : (0 : EReal) ≤ scale := by rw [scale_eq]; exact EReal.coe_nonneg.2 (by norm_num)
  have h1 : scale ≠ ⊤ := by rw [scale_eq]; exact EReal.coe_ne_top _
  rw [EReal.right_distrib_of_nonneg_of_ne_top h0 h1, mul_right_comm x s, mul_right_comm y c]

/-- A pair's frequency: the base to the negative share of its place in a half. -/
def freq (i : ℕ) : EReal :=
  Ideal.pow (Ideal.ofBits .f32 0x461C4000#32) (Ideal.div (-FloatOps.sitofp (F := Ideal) .f32 (BitVec.ofNat 32 i)) (Ideal.ofBits .f32 0x42800000#32))

/-- The angle of a place along an axis of the grid. -/
def angle (n i : ℕ) : EReal := FloatOps.sitofp (F := Ideal) .f32 (BitVec.ofNat 32 n) * freq i

/-- The cosine and the sine of a token's pair: its row's angle in the first 64 pairs, its column's in the others. -/
def cosAt (n j : ℕ) : EReal := if j < 64 then Ideal.cos (angle (n / 64) j) else Ideal.cos (angle (n % 64) (j - 64))
def sinAt (n j : ℕ) : EReal := if j < 64 then Ideal.sin (angle (n / 64) j) else Ideal.sin (angle (n % 64) (j - 64))

/-- The places of a pair's two coordinates in a head. -/
def first (p : Fin 128) : Fin 256 := ⟨p.val / 64 * 128 + p.val % 64, by omega⟩
def second (p : Fin 128) : Fin 256 := ⟨p.val / 64 * 128 + 64 + p.val % 64, by omega⟩

end Cert.RetRow

end
-- ==== Proof.RetInBlockValue.lean ====
/- The retention's projection call: what its body computes in its results' tiles, at an index. -/
module

public import proofs.«01_k».proof.Proof.Gen.RetInIdeal.Skeleton
public import Idealize.ShloMosaic.Lib.Pointwise
public import Idealize.ShloMosaic.Lib.Pipeline.ValueKit
public import proofs.«01_k».proof.Proof.Mlp
public import proofs.«01_k».proof.Proof.RetRow

set_option maxRecDepth 16384

@[expose] public section

noncomputable section

open Idealize.ShloMosaic Idealize.ShloMosaic.TcCoe Idealize.SL.Sem

namespace Cert.RetInIdeal.Block

open Cert.RetInIdeal Cert.RetInIdeal.Gen Cert.Mlp Cert.RetRow

/-- A block's rows normalized and modulated. -/
def hid (v0 : FVec Ideal S1x1x6x1024 .f32) (x : FVec Ideal S1x1024x1024 .f32) (g : FVec Ideal S1x1024 .f32) : FVec Ideal S1x1024x1024 .bf16 := k0_pay2 (F := Ideal) v0 x g

theorem hid_at (v0 : FVec Ideal S1x1x6x1024 .f32) (x : FVec Ideal S1x1024x1024 .f32) (g : FVec Ideal S1x1024 .f32) (r j : Fin 1024) :
    hid v0 x g (ix3 0 r j)
      = modulate (rms (fun i => x (ix3 0 r i)) (fun i => g (ix2 0 i))) (fun i => v0 (ix4 0 0 1 i)) (fun i => v0 (ix4 0 0 0 i)) j := by
  pointwise [hid, k0_pay2]
  rfl

/-- A head's values. -/
def plain (h : FVec Ideal S1x1024x1024 .bf16) (w : FVec Ideal S1024x512 .bf16) : FVec Ideal S1x1x1024x512 .bf16 := k0_pay93 (F := Ideal) h w

theorem plain_at (h : FVec Ideal S1x1024x1024 .bf16) (w : FVec Ideal S1024x512 .bf16) (r : Fin 1024) (j : Fin 512) :
    plain h w (ix4 0 0 r j) = ∑ k : Fin 1024, (h (ix3 0 r k) * w (ix2 k j) : EReal) := by
  pointwise [plain, k0_pay93]

/-- A head's gate. -/
def gated (h : FVec Ideal S1x1024x1024 .bf16) (w : FVec Ideal S1024x512 .bf16) : FVec Ideal S1x1x1024x512 .bf16 := k0_pay87 (F := Ideal) h w

theorem gated_at (h : FVec Ideal S1x1024x1024 .bf16) (w : FVec Ideal S1024x512 .bf16) (r : Fin 1024) (j : Fin 512) :
    gated h w (ix4 0 0 r j) = silu (∑ k : Fin 1024, (h (ix3 0 r k) * w (ix2 k j) : EReal)) := by
  pointwise [gated, k0_pay87]
  rfl

/-- The first and the second halves of a key head's coordinates, rotated. -/
def keyA (c s : FVec Ideal S1024x128 .f32) (h : FVec Ideal S1x1024x1024 .bf16) (w : FVec Ideal S1024x256 .bf16) : FVec Ideal S1024x128 .f32 :=
  k0_pay8 (F := Ideal) (k0_pay3 (F := Ideal) c) (k0_pay4 (F := Ideal) s) h w

def keyB (c s : FVec Ideal S1024x128 .f32) (h : FVec Ideal S1x1024x1024 .bf16) (w : FVec Ideal S1024x256 .bf16) : FVec Ideal S1024x128 .f32 :=
  k0_pay9 (F := Ideal) (k0_pay3 (F := Ideal) c) (k0_pay4 (F := Ideal) s) h w

/-- A head's product with its weights, at a coordinate of either half. -/
def dotA (h : FVec Ideal S1x1024x1024 .bf16) (w : FVec Ideal S1024x256 .bf16) (r : Fin 1024) (p : Fin 128) : EReal := ∑ k : Fin 1024, (h (ix3 0 r k) * w (ix2 k ⟨p.val, by omega⟩) : EReal)

def dotB (h : FVec Ideal S1x1024x1024 .bf16) (w : FVec Ideal S1024x256 .bf16) (r : Fin 1024) (p : Fin 128) : EReal := ∑ k : Fin 1024, (h (ix3 0 r k) * w (ix2 k ⟨128 + p.val, by omega⟩) : EReal)

theorem keyA_at (c s : FVec Ideal S1024x128 .f32) (h : FVec Ideal S1x1024x1024 .bf16) (w : FVec Ideal S1024x256 .bf16) (r : Fin 1024) (p : Fin 128) :
    keyA c s h w (ix2 r p) = dotA h w r p * c (ix2 r p) - dotB h w r p * s (ix2 r p) := by
  pointwise [keyA, k0_pay8, k0_pay7, k0_pay6, k0_pay5, k0_pay3, k0_pay4]
  rfl

theorem keyB_at (c s : FVec Ideal S1024x128 .f32) (h : FVec Ideal S1x1024x1024 .bf16) (w : FVec Ideal S1024x256 .bf16) (r : Fin 1024) (p : Fin 128) :
    keyB c s h w (ix2 r p) = dotA h w r p * s (ix2 r p) + dotB h w r p * c (ix2 r p) := by
  pointwise [keyB, k0_pay9, k0_pay7, k0_pay6, k0_pay5, k0_pay3, k0_pay4]
  rfl

/-- The first and the second halves of a query head's coordinates, scaled and rotated. -/
def queryA (c s : FVec Ideal S1024x128 .f32) (h : FVec Ideal S1x1024x1024 .bf16) (w : FVec Ideal S1024x256 .bf16) : FVec Ideal S1x1x1024x128 .bf16 :=
  k0_pay73 (F := Ideal) (k0_pay3 (F := Ideal) c) (k0_pay4 (F := Ideal) s) h w

def queryB (c s : FVec Ideal S1024x128 .f32) (h : FVec Ideal S1x1024x1024 .bf16) (w : FVec Ideal S1024x256 .bf16) : FVec Ideal S1x1x1024x128 .bf16 :=
  k0_pay74 (F := Ideal) (k0_pay3 (F := Ideal) c) (k0_pay4 (F := Ideal) s) h w

theorem queryA_at (c s : FVec Ideal S1024x128 .f32) (h : FVec Ideal S1x1024x1024 .bf16) (w : FVec Ideal S1024x256 .bf16) (r : Fin 1024) (p : Fin 128) :
    queryA c s h w (ix4 0 0 r p) = dotA h w r p * scale * c (ix2 r p) - dotB h w r p * scale * s (ix2 r p) := by
  pointwise [queryA, k0_pay73, k0_pay72, k0_pay71, k0_pay70, k0_pay3, k0_pay4]
  rfl

theorem queryB_at (c s : FVec Ideal S1024x128 .f32) (h : FVec Ideal S1x1024x1024 .bf16) (w : FVec Ideal S1024x256 .bf16) (r : Fin 1024) (p : Fin 128) :
    queryB c s h w (ix4 0 0 r p) = dotA h w r p * scale * s (ix2 r p) + dotB h w r p * scale * c (ix2 r p) := by
  pointwise [queryB, k0_pay74, k0_pay72, k0_pay71, k0_pay70, k0_pay3, k0_pay4]
  rfl

/-- A run of 256 tokens of a half of a head, with its coordinates as rows: the four runs of a tile. -/
def run0 (z : FVec Ideal S1024x128 .f32) : FVec Ideal S1x1x1x128x256 .bf16 := k0_pay55 (F := Ideal) z
def run1 (z : FVec Ideal S1024x128 .f32) : FVec Ideal S1x1x1x128x256 .bf16 := k0_pay57 (F := Ideal) z
def run2 (z : FVec Ideal S1024x128 .f32) : FVec Ideal S1x1x1x128x256 .bf16 := k0_pay15 (F := Ideal) z
def run3 (z : FVec Ideal S1024x128 .f32) : FVec Ideal S1x1x1x128x256 .bf16 := k0_pay17 (F := Ideal) z

theorem run0_at (z : FVec Ideal S1024x128 .f32) (p : Fin 128) (l : Fin 256) : run0 z (ix5 0 0 0 p l) = z (ix2 ⟨l.val, by omega⟩ p) := by
  pointwise [run0, k0_pay55]

theorem run1_at (z : FVec Ideal S1024x128 .f32) (p : Fin 128) (l : Fin 256) : run1 z (ix5 0 0 0 p l) = z (ix2 ⟨256 + l.val, by omega⟩ p) := by
  pointwise [run1, k0_pay57]

theorem run2_at (z : FVec Ideal S1024x128 .f32) (p : Fin 128) (l : Fin 256) : run2 z (ix5 0 0 0 p l) = z (ix2 ⟨512 + l.val, by omega⟩ p) := by
  pointwise [run2, k0_pay15]

theorem run3_at (z : FVec Ideal S1024x128 .f32) (p : Fin 128) (l : Fin 256) : run3 z (ix5 0 0 0 p l) = z (ix2 ⟨768 + l.val, by omega⟩ p) := by
  pointwise [run3, k0_pay17]

end Cert.RetInIdeal.Block

end
-- ==== Proof.RetInOut.lean ====
/- The retention's projection call: what its body leaves in its results' blocks. -/
module

public import proofs.«01_k».proof.Proof.RetInBlockValue
public import proofs.«01_k».proof.Proof.Gen.RetInIdeal.Value
public import proofs.«01_k».proof.Proof.Pieces

set_option maxRecDepth 16384

@[expose] public section

noncomputable section

open Idealize.ShloMosaic Idealize.ShloMosaic.TcCoe Idealize.SL.Sem

namespace Cert.RetInIdeal.Block

open Cert.RetInIdeal Cert.RetInIdeal.Gen Cert.Pieces Cert.RetRow

section
variable (X : FVec Ideal S1x1024x1024 .f32) (M : FVec Ideal S1x1x6x1024 .f32) (G : FVec Ideal S1x1024 .f32) (W : FVec Ideal S1024x6144 .bf16) (C S : FVec Ideal S1024x128 .f32)

/-- A row of a block times a column of the weights. -/
def proj (r : Fin 1024) (q : Fin 6144) : EReal := ∑ k : Fin 1024, (hid M X G (ix3 0 r k) * W (ix2 k q) : EReal)

/-- The values' block. -/
def valueTile (y : S1x4x1024x512.Idx) : EReal := proj X M G W (y 2) ⟨2048 + 512 * (y 1).val + (y 3).val, by have a : (y 1).val < 4 := (y 1).isLt; have b : (y 3).val < 512 := (y 3).isLt; omega⟩

/-- The gates' block. -/
def gateTile (y : S1x4x1024x512.Idx) : EReal := silu (proj X M G W (y 2) ⟨4096 + 512 * (y 1).val + (y 3).val, by have a : (y 1).val < 4 := (y 1).isLt; have b : (y 3).val < 512 := (y 3).isLt; omega⟩)

/-- A query's coordinate: the first halves, then the second ones. -/
def queryRow (h : Fin 4) (r : Fin 1024) (p : Fin 256) : EReal :=
  if hp : p.val < 128 then
    proj X M G W r ⟨256 * h.val + p.val, by omega⟩ * scale * C (ix2 r ⟨p.val, hp⟩) - proj X M G W r ⟨256 * h.val + (128 + p.val), by omega⟩ * scale * S (ix2 r ⟨p.val, hp⟩)
  else
    proj X M G W r ⟨256 * h.val + (p.val - 128), by omega⟩ * scale * S (ix2 r ⟨p.val - 128, by omega⟩)
      + proj X M G W r ⟨256 * h.val + (128 + (p.val - 128)), by omega⟩ * scale * C (ix2 r ⟨p.val - 128, by omega⟩)

/-- A key's coordinate: the first halves, then the second ones. -/
def keyRow (h : Fin 4) (r : Fin 1024) (p : Fin 256) : EReal :=
  if hp : p.val < 128 then
    proj X M G W r ⟨1024 + 256 * h.val + p.val, by omega⟩ * C (ix2 r ⟨p.val, hp⟩) - proj X M G W r ⟨1024 + 256 * h.val + (128 + p.val), by omega⟩ * S (ix2 r ⟨p.val, hp⟩)
  else
    proj X M G W r ⟨1024 + 256 * h.val + (p.val - 128), by omega⟩ * S (ix2 r ⟨p.val - 128, by omega⟩)
      + proj X M G W r ⟨1024 + 256 * h.val + (128 + (p.val - 128)), by omega⟩ * C (ix2 r ⟨p.val - 128, by omega⟩)

/-- The queries' block. -/
def queryTile (y : S1x4x1024x256.Idx) : EReal := queryRow X M G W C S (y 1) (y 2) (y 3)

/-- The keys' block: runs of 256 tokens, with the coordinates as rows. -/
def keyTile (y : S1x4x4x256x256.Idx) : EReal :=
  keyRow X M G W C S (y 1) ⟨256 * (y 2).val + (y 4).val, by have a : (y 2).val < 4 := (y 2).isLt; have b : (y 4).val < 256 := (y 4).isLt; omega⟩ (y 3)

/-- A product with columns of the weights from one on. -/
theorem dot_cols (o n : ℕ) (inb) (r : Fin 1024) (j : Fin n) (h : o + j.val < 6144) :
    (∑ k : Fin 1024, (hid M X G (ix3 0 r k) * (View.ld (Val := Elt Ideal) (e' := .bf16) W (Rect.unit (s := S1024x6144) ![0, o] ![1024, n] inb) : FVec Ideal (⟨2, ![1024, n]⟩ : Shape) .bf16) (ix2 k j) : EReal)) = proj X M G W r ⟨o + j.val, h⟩ := by
  refine Finset.sum_congr rfl fun k _ => congrArg _ ?_
  exact View.ld_unit_apply_of (Val := Elt Ideal) (e := .bf16) W ![0, o] ![1024, n] inb (ix2 k j) (ix2 k ⟨o + j.val, h⟩) (fun d => match d with | 0 => (Nat.zero_add _).symm | 1 => rfl)

end

/-- A store of a head's tile, with the values of a function of the block. -/
theorem store_wide (f : S1x4x1024x512.Idx → EReal) (h : ℕ) (hh : h < 4) (inb) (w : FVec Ideal S1x1x1024x512 .bf16) (hw : ∀ r j, w (ix4 0 0 r j) = f (ix4 0 ⟨h, hh⟩ r j))
    (x : (Rect.unit (s := S1x4x1024x512) ![0, h, 0, 0] ![1, 1, 1024, 512] inb).shape.Idx) : w x = f ((Rect.unit (s := S1x4x1024x512) ![0, h, 0, 0] ![1, 1, 1024, 512] inb).emb x) := by
  have hx : x = ix4 (0 : Fin 1) (0 : Fin 1) (x 2) (x 3) := by
    refine (eq_ix4 x).trans ?_
    exact (ix4_inj ..).2 ⟨Subsingleton.elim _ _, Subsingleton.elim _ _, rfl, rfl⟩
  have he : (Rect.unit (s := S1x4x1024x512) ![0, h, 0, 0] ![1, 1, 1024, 512] inb).emb (ix4 (0 : Fin 1) (0 : Fin 1) (x 2) (x 3)) = ix4 (0 : Fin 1) (⟨h, hh⟩ : Fin 4) (x 2) (x 3) := by
    funext b
    apply Fin.ext
    match b with
    | ⟨0, _⟩ => rfl
    | ⟨1, _⟩ => simp
    | ⟨2, _⟩ => simp
    | ⟨3, _⟩ => simp
  exact (congrArg w hx).trans ((hw _ _).trans (congrArg f ((congrArg _ hx).trans he)).symm)

/-- A store of a half of a head's queries. -/
theorem store_half (f : S1x4x1024x256.Idx → EReal) (h : ℕ) (hh : h < 4) (b : ℕ) (hb : b ≤ 128) (inb) (w : FVec Ideal S1x1x1024x128 .bf16) (hw : ∀ (r : Fin 1024) (p : Fin 128), w (ix4 0 0 r p) = f (ix4 0 ⟨h, hh⟩ r ⟨b + p.val, by omega⟩))
    (x : (Rect.unit (s := S1x4x1024x256) ![0, h, 0, b] ![1, 1, 1024, 128] inb).shape.Idx) : w x = f ((Rect.unit (s := S1x4x1024x256) ![0, h, 0, b] ![1, 1, 1024, 128] inb).emb x) := by
  have hx : x = ix4 (0 : Fin 1) (0 : Fin 1) (x 2) (x 3) := by
    refine (eq_ix4 x).trans ?_
    exact (ix4_inj ..).2 ⟨Subsingleton.elim _ _, Subsingleton.elim _ _, rfl, rfl⟩
  have he : (Rect.unit (s := S1x4x1024x256) ![0, h, 0, b] ![1, 1, 1024, 128] inb).emb (ix4 (0 : Fin 1) (0 : Fin 1) (x 2) (x 3)) = ix4 (0 : Fin 1) (⟨h, hh⟩ : Fin 4) (x 2) (⟨b + (x 3).val, by have a : (x 3).val < 128 := (x 3).isLt; omega⟩ : Fin 256) := by
    funext b
    apply Fin.ext
    match b with
    | ⟨0, _⟩ => rfl
    | ⟨1, _⟩ => simp
    | ⟨2, _⟩ => simp
    | ⟨3, _⟩ => simp
  exact (congrArg w hx).trans ((hw _ _).trans (congrArg f ((congrArg _ hx).trans he)).symm)

/-- A store of a run of a half of a head's keys. -/
theorem store_run (f : S1x4x4x256x256.Idx → EReal) (h : ℕ) (hh : h < 4) (q : ℕ) (hq : q < 4) (b : ℕ) (hb : b ≤ 128) (inb) (w : FVec Ideal S1x1x1x128x256 .bf16)
    (hw : ∀ (p : Fin 128) (l : Fin 256), w (ix5 0 0 0 p l) = f (ix5 0 ⟨h, hh⟩ ⟨q, hq⟩ ⟨b + p.val, by omega⟩ l))
    (x : (Rect.unit (s := S1x4x4x256x256) ![0, h, q, b, 0] ![1, 1, 1, 128, 256] inb).shape.Idx) : w x = f ((Rect.unit (s := S1x4x4x256x256) ![0, h, q, b, 0] ![1, 1, 1, 128, 256] inb).emb x) := by
  have hx : x = ix5 (0 : Fin 1) (0 : Fin 1) (0 : Fin 1) (x 3) (x 4) := by
    refine (eq_ix5 x).trans ?_
    exact (ix5_inj ..).2 ⟨Subsingleton.elim _ _, Subsingleton.elim _ _, Subsingleton.elim _ _, rfl, rfl⟩
  have he : (Rect.unit (s := S1x4x4x256x256) ![0, h, q, b, 0] ![1, 1, 1, 128, 256] inb).emb (ix5 (0 : Fin 1) (0 : Fin 1) (0 : Fin 1) (x 3) (x 4))
      = ix5 (0 : Fin 1) (⟨h, hh⟩ : Fin 4) (⟨q, hq⟩ : Fin 4) (⟨b + (x 3).val, by have a : (x 3).val < 128 := (x 3).isLt; omega⟩ : Fin 256) (x 4) := by
    funext b
    apply Fin.ext
    match b with
    | ⟨0, _⟩ => rfl
    | ⟨1, _⟩ => simp
    | ⟨2, _⟩ => simp
    | ⟨3, _⟩ => simp
    | ⟨4, _⟩ => simp
  exact (congrArg w hx).trans ((hw _ _).trans (congrArg f ((congrArg _ hx).trans he)).symm)

section
variable (X : FVec Ideal S1x1024x1024 .f32) (M : FVec Ideal S1x1x6x1024 .f32) (G : FVec Ideal S1x1024 .f32) (W : FVec Ideal S1024x6144 .bf16) (C S : FVec Ideal S1024x128 .f32)

/-- The columns of the weights from one on. -/
abbrev cols (o n : ℕ) (inb : ∀ a, (![0, o] : Fin 2 → ℕ) a + (![1024, n] : Fin 2 → ℕ) a ≤ S1024x6144.size a) : FVec Ideal (⟨2, ![1024, n]⟩ : Shape) .bf16 := View.ld (Val := Elt Ideal) (e' := .bf16) W (Rect.unit (s := S1024x6144) ![0, o] ![1024, n] inb)

/-- A head's values, stored. -/
theorem store_value (h : ℕ) (hh : h < 4) (o : ℕ) (ho : o = 2048 + 512 * h) (inbW inb) :
    ∀ x, plain (hid M X G) (cols W o 512 inbW) x = valueTile X M G W ((Rect.unit (s := S1x4x1024x512) ![0, h, 0, 0] ![1, 1, 1024, 512] inb).emb x) := by
  refine store_wide _ h hh inb _ fun r j => ?_
  subst ho
  exact (plain_at _ _ r j).trans (dot_cols X M G W _ 512 inbW r j _)

/-- A head's gate, stored. -/
theorem store_gate (h : ℕ) (hh : h < 4) (o : ℕ) (ho : o = 4096 + 512 * h) (inbW inb) :
    ∀ x, gated (hid M X G) (cols W o 512 inbW) x = gateTile X M G W ((Rect.unit (s := S1x4x1024x512) ![0, h, 0, 0] ![1, 1, 1024, 512] inb).emb x) := by
  refine store_wide _ h hh inb _ fun r j => ?_
  subst ho
  exact (gated_at _ _ r j).trans (congrArg silu (dot_cols X M G W _ 512 inbW r j _))

/-- The two halves of a head's products. -/
theorem dotA_cols (o : ℕ) (inbW) (r : Fin 1024) (p : Fin 128) (h : o + p.val < 6144) : dotA (hid M X G) (cols W o 256 inbW) r p = proj X M G W r ⟨o + p.val, h⟩ :=
  dot_cols X M G W o 256 inbW r ⟨p.val, by omega⟩ h

theorem dotB_cols (o : ℕ) (inbW) (r : Fin 1024) (p : Fin 128) (h : o + (128 + p.val) < 6144) : dotB (hid M X G) (cols W o 256 inbW) r p = proj X M G W r ⟨o + (128 + p.val), h⟩ :=
  dot_cols X M G W o 256 inbW r ⟨128 + p.val, by omega⟩ h

/-- The first half of a head's queries, stored. -/
theorem store_queryA (h : ℕ) (hh : h < 4) (o : ℕ) (ho : o = 256 * h) (inbW inb) :
    ∀ x, queryA C S (hid M X G) (cols W o 256 inbW) x = queryTile X M G W C S ((Rect.unit (s := S1x4x1024x256) ![0, h, 0, 0] ![1, 1, 1024, 128] inb).emb x) := by
  refine store_half _ h hh 0 (by omega) inb _ fun r p => ?_
  subst ho
  rw [queryA_at, dotA_cols X M G W _ inbW r p (by omega), dotB_cols X M G W _ inbW r p (by omega)]
  show _ = queryRow X M G W C S ⟨h, hh⟩ r ⟨0 + p.val, _⟩
  unfold queryRow
  rw [dif_pos (show 0 + p.val < 128 by omega)]
  simp only [Nat.zero_add]

/-- The second half of a head's queries, stored. -/
theorem store_queryB (h : ℕ) (hh : h < 4) (o : ℕ) (ho : o = 256 * h) (inbW inb) :
    ∀ x, queryB C S (hid M X G) (cols W o 256 inbW) x = queryTile X M G W C S ((Rect.unit (s := S1x4x1024x256) ![0, h, 0, 128] ![1, 1, 1024, 128] inb).emb x) := by
  refine store_half _ h hh 128 (by omega) inb _ fun r p => ?_
  subst ho
  rw [queryB_at, dotA_cols X M G W _ inbW r p (by omega), dotB_cols X M G W _ inbW r p (by omega)]
  show _ = queryRow X M G W C S ⟨h, hh⟩ r ⟨128 + p.val, _⟩
  unfold queryRow
  rw [dif_neg (show ¬ 128 + p.val < 128 by omega)]
  simp only [Nat.add_sub_cancel_left]

/-- A coordinate in the first half of a head's keys. -/
theorem key_first (h : ℕ) (hh : h < 4) (o : ℕ) (ho : o = 1024 + 256 * h) (inbW) (r : Fin 1024) (p : Fin 128) :
    keyA C S (hid M X G) (cols W o 256 inbW) (ix2 r p) = keyRow X M G W C S ⟨h, hh⟩ r ⟨0 + p.val, by omega⟩ := by
  subst ho
  rw [keyA_at, dotA_cols X M G W _ inbW r p (by omega), dotB_cols X M G W _ inbW r p (by omega)]
  unfold keyRow
  rw [dif_pos (show 0 + p.val < 128 by omega)]
  simp only [Nat.zero_add]

/-- A coordinate in the second half of a head's keys. -/
theorem key_second (h : ℕ) (hh : h < 4) (o : ℕ) (ho : o = 1024 + 256 * h) (inbW) (r : Fin 1024) (p : Fin 128) :
    keyB C S (hid M X G) (cols W o 256 inbW) (ix2 r p) = keyRow X M G W C S ⟨h, hh⟩ r ⟨128 + p.val, by omega⟩ := by
  subst ho
  rw [keyB_at, dotA_cols X M G W _ inbW r p (by omega), dotB_cols X M G W _ inbW r p (by omega)]
  unfold keyRow
  rw [dif_neg (show ¬ 128 + p.val < 128 by omega)]
  simp only [Nat.add_sub_cancel_left]

/-- The runs of a head's keys, stored. -/
theorem store_keyA0 (h : ℕ) (hh : h < 4) (o : ℕ) (ho : o = 1024 + 256 * h) (inbW inb) :
    ∀ x, run0 (keyA C S (hid M X G) (cols W o 256 inbW)) x = keyTile X M G W C S ((Rect.unit (s := S1x4x4x256x256) ![0, h, 0, 0, 0] ![1, 1, 1, 128, 256] inb).emb x) := by
  refine store_run _ h hh 0 (by omega) 0 (by omega) inb _ fun p l => ?_
  rw [run0_at, key_first X M G W C S h hh o ho]
  exact congrArg (fun r => keyRow X M G W C S ⟨h, hh⟩ r _) (Fin.ext (show l.val = 256 * 0 + l.val by omega))

theorem store_keyB0 (h : ℕ) (hh : h < 4) (o : ℕ) (ho : o = 1024 + 256 * h) (inbW inb) :
    ∀ x, run0 (keyB C S (hid M X G) (cols W o 256 inbW)) x = keyTile X M G W C S ((Rect.unit (s := S1x4x4x256x256) ![0, h, 0, 128, 0] ![1, 1, 1, 128, 256] inb).emb x) := by
  refine store_run _ h hh 0 (by omega) 128 (by omega) inb _ fun p l => ?_
  rw [run0_at, key_second X M G W C S h hh o ho]
  exact congrArg (fun r => keyRow X M G W C S ⟨h, hh⟩ r _) (Fin.ext (show l.val = 256 * 0 + l.val by omega))

theorem store_keyA1 (h : ℕ) (hh : h < 4) (o : ℕ) (ho : o = 1024 + 256 * h) (inbW inb) :
    ∀ x, run1 (keyA C S (hid M X G) (cols W o 256 inbW)) x = keyTile X M G W C S ((Rect.unit (s := S1x4x4x256x256) ![0, h, 1, 0, 0] ![1, 1, 1, 128, 256] inb).emb x) := by
  refine store_run _ h hh 1 (by omega) 0 (by omega) inb _ fun p l => ?_
  rw [run1_at, key_first X M G W C S h hh o ho]
  exact congrArg (fun r => keyRow X M G W C S ⟨h, hh⟩ r _) (Fin.ext (show 256 + l.val = 256 * 1 + l.val by omega))

theorem store_keyB1 (h : ℕ) (hh : h < 4) (o : ℕ) (ho : o = 1024 + 256 * h) (inbW inb) :
    ∀ x, run1 (keyB C S (hid M X G) (cols W o 256 inbW)) x = keyTile X M G W C S ((Rect.unit (s := S1x4x4x256x256) ![0, h, 1, 128, 0] ![1, 1, 1, 128, 256] inb).emb x) := by
  refine store_run _ h hh 1 (by omega) 128 (by omega) inb _ fun p l => ?_
  rw [run1_at, key_second X M G W C S h hh o ho]
  exact congrArg (fun r => keyRow X M G W C S ⟨h, hh⟩ r _) (Fin.ext (show 256 + l.val = 256 * 1 + l.val by omega))

theorem store_keyA2 (h : ℕ) (hh : h < 4) (o : ℕ) (ho : o = 1024 + 256 * h) (inbW inb) :
    ∀ x, run2 (keyA C S (hid M X G) (cols W o 256 inbW)) x = keyTile X M G W C S ((Rect.unit (s := S1x4x4x256x256) ![0, h, 2, 0, 0] ![1, 1, 1, 128, 256] inb).emb x) := by
  refine store_run _ h hh 2 (by omega) 0 (by omega) inb _ fun p l => ?_
  rw [run2_at, key_first X M G W C S h hh o ho]
  exact congrArg (fun r => keyRow X M G W C S ⟨h, hh⟩ r _) (Fin.ext (show 512 + l.val = 256 * 2 + l.val by omega))

theorem store_keyB2 (h : ℕ) (hh : h < 4) (o : ℕ) (ho : o = 1024 + 256 * h) (inbW inb) :
    ∀ x, run2 (keyB C S (hid M X G) (cols W o 256 inbW)) x = keyTile X M G W C S ((Rect.unit (s := S1x4x4x256x256) ![0, h, 2, 128, 0] ![1, 1, 1, 128, 256] inb).emb x) := by
  refine store_run _ h hh 2 (by omega) 128 (by omega) inb _ fun p l => ?_
  rw [run2_at, key_second X M G W C S h hh o ho]
  exact congrArg (fun r => keyRow X M G W C S ⟨h, hh⟩ r _) (Fin.ext (show 512 + l.val = 256 * 2 + l.val by omega))

theorem store_keyA3 (h : ℕ) (hh : h < 4) (o : ℕ) (ho : o = 1024 + 256 * h) (inbW inb) :
    ∀ x, run3 (keyA C S (hid M X G) (cols W o 256 inbW)) x = keyTile X M G W C S ((Rect.unit (s := S1x4x4x256x256) ![0, h, 3, 0, 0] ![1, 1, 1, 128, 256] inb).emb x) := by
  refine store_run _ h hh 3 (by omega) 0 (by omega) inb _ fun p l => ?_
  rw [run3_at, key_first X M G W C S h hh o ho]
  exact congrArg (fun r => keyRow X M G W C S ⟨h, hh⟩ r _) (Fin.ext (show 768 + l.val = 256 * 3 + l.val by omega))

theorem store_keyB3 (h : ℕ) (hh : h < 4) (o : ℕ) (ho : o = 1024 + 256 * h) (inbW inb) :
    ∀ x, run3 (keyB C S (hid M X G) (cols W o 256 inbW)) x = keyTile X M G W C S ((Rect.unit (s := S1x4x4x256x256) ![0, h, 3, 128, 0] ![1, 1, 1, 128, 256] inb).emb x) := by
  refine store_run _ h hh 3 (by omega) 128 (by omega) inb _ fun p l => ?_
  rw [run3_at, key_second X M G W C S h hh o ho]
  exact congrArg (fun r => keyRow X M G W C S ⟨h, hh⟩ r _) (Fin.ext (show 768 + l.val = 256 * 3 + l.val by omega))

end

set_option maxHeartbeats 4000000 in
/-- The values the body leaves. -/
theorem values_left (c : Dev nD) (i : grid0.Coords) (arg2 : Memref sig .tc .vmem S1x1024x1024 .f32) (harg2 : arg2.IsWhole) (arg3 : Memref sig .tc .vmem S1x1x6x1024 .f32) (harg3 : arg3.IsWhole) (arg4 : Memref sig .tc .vmem S1x1024 .f32) (harg4 : arg4.IsWhole) (arg5 : Memref sig .tc .vmem S1024x6144 .bf16) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x4x1024x256 .bf16) (harg8 : arg8.IsWhole) (arg9 : Memref sig .tc .vmem S1x4x4x256x256 .bf16) (harg9 : arg9.IsWhole) (arg10 : Memref sig .tc .vmem S1x4x1024x512 .bf16) (harg10 : arg10.IsWhole) (arg11 : Memref sig .tc .vmem S1x4x1024x512 .bf16) (harg11 : arg11.IsWhole) (arg12 : Memref sig .tc .vmem S1x1024x1024 .bf16) (harg12 : arg12.IsWhole)
    (x0 : Vec Ideal S1x1024x1024 .f32) (x1 : Vec Ideal S1x1x6x1024 .f32) (x2 : Vec Ideal S1x1024 .f32) (x3 : Vec Ideal S1024x6144 .bf16) (x4 : Vec Ideal S1024x128 .f32) (x5 : Vec Ideal S1024x128 .f32)
    (y : S1x4x1024x512.Idx) :
    out0_A_8 (F := Ideal) c i arg2 harg2 arg3 harg3 arg4 harg4 arg5 harg5 arg6 harg6 arg7 harg7 arg8 harg8 arg9 harg9 arg10 harg10 arg11 harg11 arg12 harg12 x0 x1 x2 x3 x4 x5 y = valueTile x0 x1 x2 x3 y := by
  unfold out0_A_8
  frame_open
  simp (disch := decide) only [↓ View.readCov_skip, ↓ View.readCov_cons_toLoadRect, ↓ View.readCov_fill]
  frame_out
  refine whole (Val := Elt Ideal) (e := .bf16) (valueTile x0 x1 x2 x3) _ ?_ y (View.cover_of_tiledL _ (![1, 1, 1024, 512] : Fin _ → ℕ) (by sl_kernel_rfl) y)
  refine agree_cons (store_value x0 x1 x2 x3 3 (by omega) 3584 rfl _ _) ?_
  refine agree_cons (store_value x0 x1 x2 x3 2 (by omega) 3072 rfl _ _) ?_
  refine agree_cons (store_value x0 x1 x2 x3 1 (by omega) 2560 rfl _ _) ?_
  refine agree_cons (store_value x0 x1 x2 x3 0 (by omega) 2048 rfl _ _) ?_
  exact agree_nil _

set_option maxHeartbeats 4000000 in
/-- The gates the body leaves. -/
theorem gates_left (c : Dev nD) (i : grid0.Coords) (arg2 : Memref sig .tc .vmem S1x1024x1024 .f32) (harg2 : arg2.IsWhole) (arg3 : Memref sig .tc .vmem S1x1x6x1024 .f32) (harg3 : arg3.IsWhole) (arg4 : Memref sig .tc .vmem S1x1024 .f32) (harg4 : arg4.IsWhole) (arg5 : Memref sig .tc .vmem S1024x6144 .bf16) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x4x1024x256 .bf16) (harg8 : arg8.IsWhole) (arg9 : Memref sig .tc .vmem S1x4x4x256x256 .bf16) (harg9 : arg9.IsWhole) (arg10 : Memref sig .tc .vmem S1x4x1024x512 .bf16) (harg10 : arg10.IsWhole) (arg11 : Memref sig .tc .vmem S1x4x1024x512 .bf16) (harg11 : arg11.IsWhole) (arg12 : Memref sig .tc .vmem S1x1024x1024 .bf16) (harg12 : arg12.IsWhole)
    (x0 : Vec Ideal S1x1024x1024 .f32) (x1 : Vec Ideal S1x1x6x1024 .f32) (x2 : Vec Ideal S1x1024 .f32) (x3 : Vec Ideal S1024x6144 .bf16) (x4 : Vec Ideal S1024x128 .f32) (x5 : Vec Ideal S1024x128 .f32)
    (y : S1x4x1024x512.Idx) :
    out0_A_9 (F := Ideal) c i arg2 harg2 arg3 harg3 arg4 harg4 arg5 harg5 arg6 harg6 arg7 harg7 arg8 harg8 arg9 harg9 arg10 harg10 arg11 harg11 arg12 harg12 x0 x1 x2 x3 x4 x5 y = gateTile x0 x1 x2 x3 y := by
  unfold out0_A_9
  frame_open
  simp (disch := decide) only [↓ View.readCov_skip, ↓ View.readCov_cons_toLoadRect, ↓ View.readCov_fill]
  frame_out
  refine whole (Val := Elt Ideal) (e := .bf16) (gateTile x0 x1 x2 x3) _ ?_ y (View.cover_of_tiledL _ (![1, 1, 1024, 512] : Fin _ → ℕ) (by sl_kernel_rfl) y)
  refine agree_cons (store_gate x0 x1 x2 x3 3 (by omega) 5632 rfl _ _) ?_
  refine agree_cons (store_gate x0 x1 x2 x3 2 (by omega) 5120 rfl _ _) ?_
  refine agree_cons (store_gate x0 x1 x2 x3 1 (by omega) 4608 rfl _ _) ?_
  refine agree_cons (store_gate x0 x1 x2 x3 0 (by omega) 4096 rfl _ _) ?_
  exact agree_nil _

set_option maxHeartbeats 4000000 in
/-- The queries the body leaves. -/
theorem queries_left (c : Dev nD) (i : grid0.Coords) (arg2 : Memref sig .tc .vmem S1x1024x1024 .f32) (harg2 : arg2.IsWhole) (arg3 : Memref sig .tc .vmem S1x1x6x1024 .f32) (harg3 : arg3.IsWhole) (arg4 : Memref sig .tc .vmem S1x1024 .f32) (harg4 : arg4.IsWhole) (arg5 : Memref sig .tc .vmem S1024x6144 .bf16) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x4x1024x256 .bf16) (harg8 : arg8.IsWhole) (arg9 : Memref sig .tc .vmem S1x4x4x256x256 .bf16) (harg9 : arg9.IsWhole) (arg10 : Memref sig .tc .vmem S1x4x1024x512 .bf16) (harg10 : arg10.IsWhole) (arg11 : Memref sig .tc .vmem S1x4x1024x512 .bf16) (harg11 : arg11.IsWhole) (arg12 : Memref sig .tc .vmem S1x1024x1024 .bf16) (harg12 : arg12.IsWhole)
    (x0 : Vec Ideal S1x1024x1024 .f32) (x1 : Vec Ideal S1x1x6x1024 .f32) (x2 : Vec Ideal S1x1024 .f32) (x3 : Vec Ideal S1024x6144 .bf16) (x4 : Vec Ideal S1024x128 .f32) (x5 : Vec Ideal S1024x128 .f32)
    (y : S1x4x1024x256.Idx) :
    out0_A_6 (F := Ideal) c i arg2 harg2 arg3 harg3 arg4 harg4 arg5 harg5 arg6 harg6 arg7 harg7 arg8 harg8 arg9 harg9 arg10 harg10 arg11 harg11 arg12 harg12 x0 x1 x2 x3 x4 x5 y = queryTile x0 x1 x2 x3 x4 x5 y := by
  unfold out0_A_6
  frame_open
  simp (disch := decide) only [↓ View.readCov_skip, ↓ View.readCov_cons_toLoadRect, ↓ View.readCov_fill]
  frame_out
  refine whole (Val := Elt Ideal) (e := .bf16) (queryTile x0 x1 x2 x3 x4 x5) _ ?_ y (View.cover_of_tiledL _ (![1, 1, 1024, 128] : Fin _ → ℕ) (by sl_kernel_rfl) y)
  refine agree_cons (store_queryB x0 x1 x2 x3 x4 x5 3 (by omega) 768 rfl _ _) ?_
  refine agree_cons (store_queryA x0 x1 x2 x3 x4 x5 3 (by omega) 768 rfl _ _) ?_
  refine agree_cons (store_queryB x0 x1 x2 x3 x4 x5 2 (by omega) 512 rfl _ _) ?_
  refine agree_cons (store_queryA x0 x1 x2 x3 x4 x5 2 (by omega) 512 rfl _ _) ?_
  refine agree_cons (store_queryB x0 x1 x2 x3 x4 x5 1 (by omega) 256 rfl _ _) ?_
  refine agree_cons (store_queryA x0 x1 x2 x3 x4 x5 1 (by omega) 256 rfl _ _) ?_
  refine agree_cons (store_queryB x0 x1 x2 x3 x4 x5 0 (by omega) 0 rfl _ _) ?_
  refine agree_cons (store_queryA x0 x1 x2 x3 x4 x5 0 (by omega) 0 rfl _ _) ?_
  exact agree_nil _

set_option maxHeartbeats 4000000 in
/-- The keys the body leaves. -/
theorem keys_left (c : Dev nD) (i : grid0.Coords) (arg2 : Memref sig .tc .vmem S1x1024x1024 .f32) (harg2 : arg2.IsWhole) (arg3 : Memref sig .tc .vmem S1x1x6x1024 .f32) (harg3 : arg3.IsWhole) (arg4 : Memref sig .tc .vmem S1x1024 .f32) (harg4 : arg4.IsWhole) (arg5 : Memref sig .tc .vmem S1024x6144 .bf16) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x4x1024x256 .bf16) (harg8 : arg8.IsWhole) (arg9 : Memref sig .tc .vmem S1x4x4x256x256 .bf16) (harg9 : arg9.IsWhole) (arg10 : Memref sig .tc .vmem S1x4x1024x512 .bf16) (harg10 : arg10.IsWhole) (arg11 : Memref sig .tc .vmem S1x4x1024x512 .bf16) (harg11 : arg11.IsWhole) (arg12 : Memref sig .tc .vmem S1x1024x1024 .bf16) (harg12 : arg12.IsWhole)
    (x0 : Vec Ideal S1x1024x1024 .f32) (x1 : Vec Ideal S1x1x6x1024 .f32) (x2 : Vec Ideal S1x1024 .f32) (x3 : Vec Ideal S1024x6144 .bf16) (x4 : Vec Ideal S1024x128 .f32) (x5 : Vec Ideal S1024x128 .f32)
    (y : S1x4x4x256x256.Idx) :
    out0_A_7 (F := Ideal) c i arg2 harg2 arg3 harg3 arg4 harg4 arg5 harg5 arg6 harg6 arg7 harg7 arg8 harg8 arg9 harg9 arg10 harg10 arg11 harg11 arg12 harg12 x0 x1 x2 x3 x4 x5 y = keyTile x0 x1 x2 x3 x4 x5 y := by
  unfold out0_A_7
  frame_open
  simp (disch := decide) only [↓ View.readCov_skip, ↓ View.readCov_cons_toLoadRect, ↓ View.readCov_fill]
  frame_out
  refine whole (Val := Elt Ideal) (e := .bf16) (keyTile x0 x1 x2 x3 x4 x5) _ ?_ y (View.cover_of_tiledL _ (![1, 1, 1, 128, 256] : Fin _ → ℕ) (by sl_kernel_rfl) y)
  refine agree_cons (store_keyB3 x0 x1 x2 x3 x4 x5 3 (by omega) 1792 rfl _ _) ?_
  refine agree_cons (store_keyA3 x0 x1 x2 x3 x4 x5 3 (by omega) 1792 rfl _ _) ?_
  refine agree_cons (store_keyB2 x0 x1 x2 x3 x4 x5 3 (by omega) 1792 rfl _ _) ?_
  refine agree_cons (store_keyA2 x0 x1 x2 x3 x4 x5 3 (by omega) 1792 rfl _ _) ?_
  refine agree_cons (store_keyB1 x0 x1 x2 x3 x4 x5 3 (by omega) 1792 rfl _ _) ?_
  refine agree_cons (store_keyA1 x0 x1 x2 x3 x4 x5 3 (by omega) 1792 rfl _ _) ?_
  refine agree_cons (store_keyB0 x0 x1 x2 x3 x4 x5 3 (by omega) 1792 rfl _ _) ?_
  refine agree_cons (store_keyA0 x0 x1 x2 x3 x4 x5 3 (by omega) 1792 rfl _ _) ?_
  refine agree_cons (store_keyB3 x0 x1 x2 x3 x4 x5 2 (by omega) 1536 rfl _ _) ?_
  refine agree_cons (store_keyA3 x0 x1 x2 x3 x4 x5 2 (by omega) 1536 rfl _ _) ?_
  refine agree_cons (store_keyB2 x0 x1 x2 x3 x4 x5 2 (by omega) 1536 rfl _ _) ?_
  refine agree_cons (store_keyA2 x0 x1 x2 x3 x4 x5 2 (by omega) 1536 rfl _ _) ?_
  refine agree_cons (store_keyB1 x0 x1 x2 x3 x4 x5 2 (by omega) 1536 rfl _ _) ?_
  refine agree_cons (store_keyA1 x0 x1 x2 x3 x4 x5 2 (by omega) 1536 rfl _ _) ?_
  refine agree_cons (store_keyB0 x0 x1 x2 x3 x4 x5 2 (by omega) 1536 rfl _ _) ?_
  refine agree_cons (store_keyA0 x0 x1 x2 x3 x4 x5 2 (by omega) 1536 rfl _ _) ?_
  refine agree_cons (store_keyB3 x0 x1 x2 x3 x4 x5 1 (by omega) 1280 rfl _ _) ?_
  refine agree_cons (store_keyA3 x0 x1 x2 x3 x4 x5 1 (by omega) 1280 rfl _ _) ?_
  refine agree_cons (store_keyB2 x0 x1 x2 x3 x4 x5 1 (by omega) 1280 rfl _ _) ?_
  refine agree_cons (store_keyA2 x0 x1 x2 x3 x4 x5 1 (by omega) 1280 rfl _ _) ?_
  refine agree_cons (store_keyB1 x0 x1 x2 x3 x4 x5 1 (by omega) 1280 rfl _ _) ?_
  refine agree_cons (store_keyA1 x0 x1 x2 x3 x4 x5 1 (by omega) 1280 rfl _ _) ?_
  refine agree_cons (store_keyB0 x0 x1 x2 x3 x4 x5 1 (by omega) 1280 rfl _ _) ?_
  refine agree_cons (store_keyA0 x0 x1 x2 x3 x4 x5 1 (by omega) 1280 rfl _ _) ?_
  refine agree_cons (store_keyB3 x0 x1 x2 x3 x4 x5 0 (by omega) 1024 rfl _ _) ?_
  refine agree_cons (store_keyA3 x0 x1 x2 x3 x4 x5 0 (by omega) 1024 rfl _ _) ?_
  refine agree_cons (store_keyB2 x0 x1 x2 x3 x4 x5 0 (by omega) 1024 rfl _ _) ?_
  refine agree_cons (store_keyA2 x0 x1 x2 x3 x4 x5 0 (by omega) 1024 rfl _ _) ?_
  refine agree_cons (store_keyB1 x0 x1 x2 x3 x4 x5 0 (by omega) 1024 rfl _ _) ?_
  refine agree_cons (store_keyA1 x0 x1 x2 x3 x4 x5 0 (by omega) 1024 rfl _ _) ?_
  refine agree_cons (store_keyB0 x0 x1 x2 x3 x4 x5 0 (by omega) 1024 rfl _ _) ?_
  refine agree_cons (store_keyA0 x0 x1 x2 x3 x4 x5 0 (by omega) 1024 rfl _ _) ?_
  exact agree_nil _

end Cert.RetInIdeal.Block

end
-- ==== Proof.RetInParts.lean ====
/- The retention's projection call: what the arrays it is called with hold, and its blocks as parts of its arguments. -/
module

public import proofs.«01_k».proof.Proof.RetInOut

set_option maxRecDepth 16384

@[expose] public section

noncomputable section

open Idealize.ShloMosaic Idealize.ShloMosaic.TcCoe Idealize.SL.Sem
open Idealize.ShloMosaic.Pipeline (Dat)

namespace Cert.RetInIdeal.Block

open Cert.RetInIdeal Cert.RetInIdeal.Gen Cert.RetRow

variable (m : (ℓ : Loc nD τ sig) → Buf (Elt Ideal) ℓ)

/-- The program's arguments. -/
abbrev argX (c : Dev nD) : FVec Ideal S16x4096x1024 .f32 := m ((c : Thread nD τ).loc main_arg0)
abbrev argM (c : Dev nD) : FVec Ideal S2x32x6x1024 .f32 := m ((c : Thread nD τ).loc main_arg1)
abbrev argG (c : Dev nD) : FVec Ideal S2x1024 .f32 := m ((c : Thread nD τ).loc main_arg2)
abbrev argW (c : Dev nD) : FVec Ideal S1x1024x6144 .f32 := m ((c : Thread nD τ).loc main_arg3)

/-- Where a column of the weights the call reads stands among its argument's: the queries' and the keys' heads have their pairs' first coordinates before the second ones. -/
def perm (q : Fin 6144) : Fin 6144 :=
  if q.val < 2048 then ⟨q.val / 256 * 256 + q.val / 64 % 2 * 128 + q.val / 128 % 2 * 64 + q.val % 64, by omega⟩ else q

/-- The arrays the call reads besides its arguments: the layer's gain, the weights with their columns moved, and the tables of cosines and sines. -/
theorem prep_g (c : Dev nD) (j : Fin 1024) : (show FVec Ideal S1x1024 .f32 from V m c main_v43) (ix2 0 j) = argG m c (ix2 0 j) := by
  entry_read
  pointwise
theorem prep_w (c : Dev nD) (k : Fin 1024) (q : Fin 6144) : (show FVec Ideal S1024x6144 .bf16 from V m c main_v44) (ix2 k q) = argW m c (ix3 0 k (perm q)) := by
  by_cases h : q.val < 2048
  · rw [perm, if_pos h]
    entry_read
    pointwise
    exact dif_pos h
  · rw [perm, if_neg h]
    entry_read
    pointwise
    refine (dif_neg h).trans (congrArg (argW m c) ((ix3_inj ..).2 ⟨rfl, rfl, Fin.ext ?_⟩))
    show 2048 + (q.val - 2048) = q.val
    omega
theorem prep_c (c : Dev nD) (n : Fin 4096) (j : Fin 128) : (show FVec Ideal S4096x128 .f32 from V m c main_v32) (ix2 n j) = cosAt n.val j.val := by
  entry_read
  pointwise
  rfl
theorem prep_s (c : Dev nD) (n : Fin 4096) (j : Fin 128) : (show FVec Ideal S4096x128 .f32 from V m c main_v40) (ix2 n j) = sinAt n.val j.val := by
  entry_read
  pointwise
  rfl

/-- The windows' block indices, at every point. -/
theorem idx : ∀ t : Fin cfg0.N, win0_0.index t = ![(grid0.coords t 0).val, (grid0.coords t 1).val, 0] ∧ win0_1.index t = ![0, (grid0.coords t 0).val, 0, 0] ∧ win0_2.index t = ![0, 0]
    ∧ win0_3.index t = ![0, 0] ∧ win0_4.index t = ![(grid0.coords t 1).val, 0] ∧ win0_5.index t = ![(grid0.coords t 1).val, 0]
    ∧ win0_6.index t = ![(grid0.coords t 0).val, 0, (grid0.coords t 1).val, 0] ∧ win0_7.index t = ![(grid0.coords t 0).val, 0, (grid0.coords t 1).val, 0, 0]
    ∧ win0_8.index t = ![(grid0.coords t 0).val, 0, (grid0.coords t 1).val, 0] ∧ win0_9.index t = ![(grid0.coords t 0).val, 0, (grid0.coords t 1).val, 0] :=
  (by decide +kernel : ∀ t : Fin grid0.N, _)

/-- A token's place in its batch. -/
def token (t : Fin cfg0.N) (n : Fin 1024) : Fin 4096 := ⟨(grid0.coords t 1).val * 1024 + n.val, by have h : (grid0.coords t 1).val < 4 := (grid0.coords t 1).isLt; omega⟩

/-- A run of 256 tokens' place in its batch. -/
def group (t : Fin cfg0.N) (q : Fin 4) : Fin 16 := ⟨(grid0.coords t 1).val * 4 + q.val, by have h : (grid0.coords t 1).val < 4 := (grid0.coords t 1).isLt; omega⟩

/-- A point's batch. -/
def batch (t : Fin cfg0.N) : Fin 16 := ⟨(grid0.coords t 0).val, (grid0.coords t 0).isLt⟩

/-- Blocks cut from any contents of their arrays. -/
theorem read_x (c : Dev nD) (A : Buf (Elt Ideal) ((c : Thread nD τ).loc main_arg0)) (t : Fin cfg0.N) (n j : Fin 1024) :
    ((cfg0.win 0).blk t).view.read (Elt Ideal) A (ix3 0 n j) = (show FVec Ideal S16x4096x1024 .f32 from A) (ix3 (batch t) (token t n) j) := by
  have he : ((cfg0.win 0).blk t).view.emb (ix3 0 n j) = ix3 (batch t) (token t n) j := by
    blk_ext [idx t, batch, token]
  exact congrArg A he
theorem read_m (c : Dev nD) (A : Buf (Elt Ideal) ((c : Thread nD τ).loc main_arg1)) (t : Fin cfg0.N) (r : Fin 6) (j : Fin 1024) :
    ((cfg0.win 1).blk t).view.read (Elt Ideal) A (ix4 0 0 r j) = (show FVec Ideal S2x32x6x1024 .f32 from A) (ix4 0 ⟨(batch t).val, by omega⟩ r j) := by
  have he : ((cfg0.win 1).blk t).view.emb (ix4 0 0 r j) = ix4 0 ⟨(batch t).val, by omega⟩ r j := by
    blk_ext [idx t, batch]
  exact congrArg A he
theorem read_g (c : Dev nD) (A : Buf (Elt Ideal) ((c : Thread nD τ).loc main_v43)) (t : Fin cfg0.N) (j : Fin 1024) :
    ((cfg0.win 2).blk t).view.read (Elt Ideal) A (ix2 0 j) = (show FVec Ideal S1x1024 .f32 from A) (ix2 0 j) := by
  have he : ((cfg0.win 2).blk t).view.emb (ix2 0 j) = ix2 0 j := by
    blk_ext [idx t]
  exact congrArg A he
theorem read_w (c : Dev nD) (A : Buf (Elt Ideal) ((c : Thread nD τ).loc main_v44)) (t : Fin cfg0.N) (k : Fin 1024) (q : Fin 6144) :
    ((cfg0.win 3).blk t).view.read (Elt Ideal) A (ix2 k q) = (show FVec Ideal S1024x6144 .bf16 from A) (ix2 k q) := by
  have he : ((cfg0.win 3).blk t).view.emb (ix2 k q) = ix2 k q := by
    blk_ext [idx t]
  exact congrArg A he
theorem read_c (c : Dev nD) (A : Buf (Elt Ideal) ((c : Thread nD τ).loc main_v32)) (t : Fin cfg0.N) (n : Fin 1024) (j : Fin 128) :
    ((cfg0.win 4).blk t).view.read (Elt Ideal) A (ix2 n j) = (show FVec Ideal S4096x128 .f32 from A) (ix2 (token t n) j) := by
  have he : ((cfg0.win 4).blk t).view.emb (ix2 n j) = ix2 (token t n) j := by
    blk_ext [idx t, token]
  exact congrArg A he
theorem read_s (c : Dev nD) (A : Buf (Elt Ideal) ((c : Thread nD τ).loc main_v40)) (t : Fin cfg0.N) (n : Fin 1024) (j : Fin 128) :
    ((cfg0.win 5).blk t).view.read (Elt Ideal) A (ix2 n j) = (show FVec Ideal S4096x128 .f32 from A) (ix2 (token t n) j) := by
  have he : ((cfg0.win 5).blk t).view.emb (ix2 n j) = ix2 (token t n) j := by
    blk_ext [idx t, token]
  exact congrArg A he

/-- The call's blocks, as parts of the arguments and of the tables. -/
theorem block_x (c : Dev nD) (t : Fin cfg0.N) (n j : Fin 1024) : (show FVec Ideal S1x1024x1024 .f32 from iblk m c 0 t) (ix3 0 n j) = argX m c (ix3 (batch t) (token t n) j) :=
  (read_x c (V m c main_arg0) t n j).trans (congrFun (V_main_arg0 m c) _)
theorem block_m (c : Dev nD) (t : Fin cfg0.N) (r : Fin 6) (j : Fin 1024) :
    (show FVec Ideal S1x1x6x1024 .f32 from iblk m c 1 t) (ix4 0 0 r j) = argM m c (ix4 0 ⟨(batch t).val, by omega⟩ r j) :=
  (read_m c (V m c main_arg1) t r j).trans (congrFun (V_main_arg1 m c) _)
theorem block_g (c : Dev nD) (t : Fin cfg0.N) (j : Fin 1024) : (show FVec Ideal S1x1024 .f32 from iblk m c 2 t) (ix2 0 j) = argG m c (ix2 0 j) :=
  (read_g c (V m c main_v43) t j).trans (prep_g m c _)
theorem block_w (c : Dev nD) (t : Fin cfg0.N) (k : Fin 1024) (q : Fin 6144) : (show FVec Ideal S1024x6144 .bf16 from iblk m c 3 t) (ix2 k q) = argW m c (ix3 0 k (perm q)) :=
  (read_w c (V m c main_v44) t k q).trans (prep_w m c _ _)
theorem block_c (c : Dev nD) (t : Fin cfg0.N) (n : Fin 1024) (j : Fin 128) : (show FVec Ideal S1024x128 .f32 from iblk m c 4 t) (ix2 n j) = cosAt (token t n).val j.val :=
  (read_c c (V m c main_v32) t n j).trans (prep_c m c _ _)
theorem block_s (c : Dev nD) (t : Fin cfg0.N) (n : Fin 1024) (j : Fin 128) : (show FVec Ideal S1024x128 .f32 from iblk m c 5 t) (ix2 n j) = sinAt (token t n).val j.val :=
  (read_s c (V m c main_v40) t n j).trans (prep_s m c _ _)

end Cert.RetInIdeal.Block

end
-- ==== Proof.RetInReference.lean ====
/- The retention's projection reference: its results, read at an index. -/
module

public import proofs.«01_k».proof.Proof.Gen.RetInRefIdeal.Run
public import proofs.«01_k».proof.Proof.Mlp
public import proofs.«01_k».proof.Proof.RetRow
public import Idealize.ShloMosaic.Lib.Pointwise

set_option maxRecDepth 16384

@[expose] public section

noncomputable section

open Idealize.ShloMosaic Idealize.ShloMosaic.TcCoe Idealize.SL.Sem

namespace Cert.RetInRefIdeal.Block

open Cert.RetInRefIdeal Cert.RetInRefIdeal.Gen Cert.Mlp Cert.RetRow

/-- The layer's shift and scale, a batch to a row. -/
def shift (a : FVec Ideal S2x32x6x1024 .f32) : FVec Ideal S16x1x1024 .f32 :=
  broadcastInDim S16x1x1024 ![0, 2] bcast_S16x1024_S16x1x1024_0_2 (shapeCast _ (extractStridedSlice S1x16x1x1024 ![0, 0, 0, 0] a slices_S2x32x6x1024_S1x16x1x1024_0_0_0_0) shapeCasts_S1x16x1x1024_S16x1024)
def scaling (a : FVec Ideal S2x32x6x1024 .f32) : FVec Ideal S16x1x1024 .f32 :=
  broadcastInDim S16x1x1024 ![0, 2] bcast_S16x1024_S16x1x1024_0_2 (shapeCast _ (extractStridedSlice S1x16x1x1024 ![0, 0, 1, 0] a slices_S2x32x6x1024_S1x16x1x1024_0_0_1_0) shapeCasts_S1x16x1x1024_S16x1024)

/-- The layer's gain. -/
def gain (g : FVec Ideal S2x1024 .f32) : FVec Ideal S1x1x1024 .f32 :=
  broadcastInDim S1x1x1024 ![2] bcast_S1024_S1x1x1024_2 (shapeCast _ (extractStridedSlice S1x1024 ![0, 0] g slices_S2x1024_S1x1024_0_0) shapeCasts_S1x1024_S1024)

/-- Rows over the root of their mean square, times a gain. -/
def normed (x : FVec Ideal S16x4096x1024 .f32) (g : FVec Ideal S1x1x1024 .f32) : FVec Ideal S16x4096x1024 .f32 :=
  mulf (mulf x (broadcastInDim S16x4096x1024 ![0, 1, 2] bcast_S16x4096x1_S16x4096x1024_0_1_2 (Host.rsqrt (addf (Host.divf (broadcastInDim S16x4096x1 ![0, 1] bcast_S16x4096_S16x4096x1_0_1 (Host.reduceAdd (mulf x x) (constant S_ .f32 0x00000000#32) reducesTo_S16x4096x1024_S16x4096_d2 h_S_)) (broadcastInDim S16x4096x1 ![] bcast_S_S16x4096x1 (constant S_ .f32 0x44800000#32))) (broadcastInDim S16x4096x1 ![] bcast_S_S16x4096x1 (constant S_ .f32 0x358637BD#32)))))) (broadcastInDim S16x4096x1024 ![0, 1, 2] bcast_S1x1x1024_S16x4096x1024_0_1_2 g)

/-- Rows scaled by one more than a batch's scale and moved by its shift. -/
def moved (h : FVec Ideal S16x4096x1024 .f32) (sc sh : FVec Ideal S16x1x1024 .f32) : FVec Ideal S16x4096x1024 .f32 :=
  addf (mulf h (broadcastInDim S16x4096x1024 ![0, 1, 2] bcast_S16x1x1024_S16x4096x1024_0_1_2 (addf (broadcastInDim S16x1x1024 ![] bcast_S_S16x1x1024 (constant S_ .f32 0x3F800000#32)) sc))) (broadcastInDim S16x4096x1024 ![0, 1, 2] bcast_S16x1x1024_S16x4096x1024_0_1_2 sh)

/-- The rows' product with the matrix. -/
def widened (h : FVec Ideal S16x4096x1024 .f32) (w : FVec Ideal S1x1024x6144 .f32) : FVec Ideal S16x4096x6144 .f32 :=
  Host.dotGeneral dot_S16x4096x1024_S1024x6144_S16x4096x6144_2_0_01_1_n_n none h (shapeCast _ w shapeCasts_S1x1024x6144_S1024x6144)

/-- The queries, the keys, the values and the gates, sections of the product. -/
def product (x : FVec Ideal S16x4096x1024 .f32) (a : FVec Ideal S2x32x6x1024 .f32) (g : FVec Ideal S2x1024 .f32) (w : FVec Ideal S1x1024x6144 .f32) : FVec Ideal S16x4096x6144 .f32 :=
  widened (moved (normed x (gain g)) (scaling a) (shift a)) w

/-- The queries' and the keys' sections, by heads. -/
def queryHeads (p : FVec Ideal S16x4096x6144 .f32) : FVec Ideal S16x4096x4x256 .f32 :=
  shapeCast _ (extractStridedSlice S16x4096x1024 ![0, 0, 0] p slices_S16x4096x6144_S16x4096x1024_0_0_0) shapeCasts_S16x4096x1024_S16x4096x4x256
def keyHeads (p : FVec Ideal S16x4096x6144 .f32) : FVec Ideal S16x4096x4x256 .f32 :=
  shapeCast _ (extractStridedSlice S16x4096x1024 ![0, 0, 1024] p slices_S16x4096x6144_S16x4096x1024_0_0_1024) shapeCasts_S16x4096x1024_S16x4096x4x256

/-- The pairs' frequencies. -/
def freqs : FVec Ideal S64 .f32 :=
  Host.powf (broadcastInDim S64 ![] bcast_S_S64 (constant S_ .f32 0x461C4000#32)) (Host.divf (Host.negf (sitofp .f32 (iotaInDim S64 32 0))) (broadcastInDim S64 ![] bcast_S_S64 (constant S_ .f32 0x42800000#32)))

/-- The tokens' angles along the grid's rows and along its columns. -/
def rowAngle : FVec Ideal S4096x64 .f32 :=
  mulf (broadcastInDim S4096x64 ![0, 1] bcast_S4096x1_S4096x64_0_1 (broadcastInDim S4096x1 ![0] bcast_S4096_S4096x1_0 (shapeCast _ (broadcastInDim S64x64 ![0] bcast_S64_S64x64_0 (sitofp .f32 (iotaInDim S64 32 0))) shapeCasts_S64x64_S4096))) (broadcastInDim S4096x64 ![0, 1] bcast_S1x64_S4096x64_0_1 (broadcastInDim S1x64 ![1] bcast_S64_S1x64_1 freqs))
def colAngle : FVec Ideal S4096x64 .f32 :=
  mulf (broadcastInDim S4096x64 ![0, 1] bcast_S4096x1_S4096x64_0_1 (broadcastInDim S4096x1 ![0] bcast_S4096_S4096x1_0 (shapeCast _ (broadcastInDim S64x64 ![0, 1] bcast_S1x64_S64x64_0_1 (shapeCast _ (sitofp .f32 (iotaInDim S64 32 0)) shapeCasts_S64_S1x64)) shapeCasts_S64x64_S4096))) (broadcastInDim S4096x64 ![0, 1] bcast_S1x64_S4096x64_0_1 (broadcastInDim S1x64 ![1] bcast_S64_S1x64_1 freqs))

/-- A table for every batch and head. -/
def lift (a : FVec Ideal S4096x64 .f32) : FVec Ideal S16x4096x4x64 .f32 :=
  broadcastInDim S16x4096x4x64 ![0, 1, 2, 3] bcast_S1x4096x1x64_S16x4096x4x64_0_1_2_3 (broadcastInDim S1x4096x1x64 ![1, 2, 3] bcast_S4096x1x64_S1x4096x1x64_1_2_3 (broadcastInDim S4096x1x64 ![0, 2] bcast_S4096x64_S4096x1x64_0_2 a))

/-- The heads rotated: the first half of their coordinates by the rows' angles, the second by the columns'. -/
def turn (t : FVec Ideal S16x4096x4x256 .f32) : FVec Ideal S16x4096x4x256 .f32 :=
  concatenate S16x4096x4x256 3 [⟨S16x4096x4x128, (concatenate S16x4096x4x128 3 [⟨S16x4096x4x64, (subf (mulf (extractStridedSlice S16x4096x4x64 ![0, 0, 0, 0] (extractStridedSlice S16x4096x4x128 ![0, 0, 0, 0] t slices_S16x4096x4x256_S16x4096x4x128_0_0_0_0) slices_S16x4096x4x128_S16x4096x4x64_0_0_0_0) (lift (Host.cos rowAngle))) (mulf (extractStridedSlice S16x4096x4x64 ![0, 0, 0, 64] (extractStridedSlice S16x4096x4x128 ![0, 0, 0, 0] t slices_S16x4096x4x256_S16x4096x4x128_0_0_0_0) slices_S16x4096x4x128_S16x4096x4x64_0_0_0_64) (lift (Host.sin rowAngle))))⟩, ⟨S16x4096x4x64, (addf (mulf (extractStridedSlice S16x4096x4x64 ![0, 0, 0, 0] (extractStridedSlice S16x4096x4x128 ![0, 0, 0, 0] t slices_S16x4096x4x256_S16x4096x4x128_0_0_0_0) slices_S16x4096x4x128_S16x4096x4x64_0_0_0_0) (lift (Host.sin rowAngle))) (mulf (extractStridedSlice S16x4096x4x64 ![0, 0, 0, 64] (extractStridedSlice S16x4096x4x128 ![0, 0, 0, 0] t slices_S16x4096x4x256_S16x4096x4x128_0_0_0_0) slices_S16x4096x4x128_S16x4096x4x64_0_0_0_64) (lift (Host.cos rowAngle))))⟩] concatenates_S16x4096x4x64_S16x4096x4x64_S16x4096x4x128_d3)⟩, ⟨S16x4096x4x128, (concatenate S16x4096x4x128 3 [⟨S16x4096x4x64, (subf (mulf (extractStridedSlice S16x4096x4x64 ![0, 0, 0, 0] (extractStridedSlice S16x4096x4x128 ![0, 0, 0, 128] t slices_S16x4096x4x256_S16x4096x4x128_0_0_0_128) slices_S16x4096x4x128_S16x4096x4x64_0_0_0_0) (lift (Host.cos colAngle))) (mulf (extractStridedSlice S16x4096x4x64 ![0, 0, 0, 64] (extractStridedSlice S16x4096x4x128 ![0, 0, 0, 128] t slices_S16x4096x4x256_S16x4096x4x128_0_0_0_128) slices_S16x4096x4x128_S16x4096x4x64_0_0_0_64) (lift (Host.sin colAngle))))⟩, ⟨S16x4096x4x64, (addf (mulf (extractStridedSlice S16x4096x4x64 ![0, 0, 0, 0] (extractStridedSlice S16x4096x4x128 ![0, 0, 0, 128] t slices_S16x4096x4x256_S16x4096x4x128_0_0_0_128) slices_S16x4096x4x128_S16x4096x4x64_0_0_0_0) (lift (Host.sin colAngle))) (mulf (extractStridedSlice S16x4096x4x64 ![0, 0, 0, 64] (extractStridedSlice S16x4096x4x128 ![0, 0, 0, 128] t slices_S16x4096x4x256_S16x4096x4x128_0_0_0_128) slices_S16x4096x4x128_S16x4096x4x64_0_0_0_64) (lift (Host.cos colAngle))))⟩] concatenates_S16x4096x4x64_S16x4096x4x64_S16x4096x4x128_d3)⟩] concatenates_S16x4096x4x128_S16x4096x4x128_S16x4096x4x256_d3

/-- The results over what they are laid out from. -/
def queriesOf (u : FVec Ideal S16x4096x4x256 .f32) : FVec Ideal S16x4x4096x256 .bf16 :=
  truncf .bf16 (shapeCast _ (transpose S16x4x4096x2x2x64 [0, 2, 1, 4, 3, 5] (shapeCast _ (mulf u (broadcastInDim S16x4096x4x256 ![] bcast_S_S16x4096x4x256 (constant S_ .f32 0x3D800000#32))) shapeCasts_S16x4096x4x256_S16x4096x4x2x2x64) transposes_S16x4096x4x2x2x64_S16x4x4096x2x2x64_0_2_1_4_3_5) shapeCasts_S16x4x4096x2x2x64_S16x4x4096x256) bitsLt_bf16_f32
def keysOf (u : FVec Ideal S16x4096x4x256 .f32) : FVec Ideal S16x4x16x256x256 .bf16 :=
  truncf .bf16 (transpose S16x4x16x256x256 [0, 1, 2, 4, 3] (shapeCast _ (shapeCast _ (transpose S16x4x4096x2x2x64 [0, 2, 1, 4, 3, 5] (shapeCast _ u shapeCasts_S16x4096x4x256_S16x4096x4x2x2x64) transposes_S16x4096x4x2x2x64_S16x4x4096x2x2x64_0_2_1_4_3_5) shapeCasts_S16x4x4096x2x2x64_S16x4x4096x256) shapeCasts_S16x4x4096x256_S16x4x16x256x256) transposes_S16x4x16x256x256_S16x4x16x256x256_0_1_2_4_3) bitsLt_bf16_f32
def valuesOf (p : FVec Ideal S16x4096x6144 .f32) : FVec Ideal S16x4x4096x512 .bf16 :=
  truncf .bf16 (transpose S16x4x4096x512 [0, 2, 1, 3] (shapeCast _ (extractStridedSlice S16x4096x2048 ![0, 0, 2048] p slices_S16x4096x6144_S16x4096x2048_0_0_2048) shapeCasts_S16x4096x2048_S16x4096x4x512) transposes_S16x4096x4x512_S16x4x4096x512_0_2_1_3) bitsLt_bf16_f32
def gatesOf (p : FVec Ideal S16x4096x6144 .f32) : FVec Ideal S16x4x4096x512 .bf16 :=
  truncf .bf16 (transpose S16x4x4096x512 [0, 2, 1, 3] (shapeCast _ (mulf (extractStridedSlice S16x4096x2048 ![0, 0, 4096] p slices_S16x4096x6144_S16x4096x2048_0_0_4096) (Host.divf (broadcastInDim S16x4096x2048 ![] bcast_S_S16x4096x2048 (constant S_ .f32 0x3F800000#32)) (addf (broadcastInDim S16x4096x2048 ![] bcast_S_S16x4096x2048 (constant S_ .f32 0x3F800000#32)) (Host.exp (Host.negf (extractStridedSlice S16x4096x2048 ![0, 0, 4096] p slices_S16x4096x6144_S16x4096x2048_0_0_4096)))))) shapeCasts_S16x4096x2048_S16x4096x4x512) transposes_S16x4096x4x512_S16x4x4096x512_0_2_1_3) bitsLt_bf16_f32

theorem shift_at (a : FVec Ideal S2x32x6x1024 .f32) (b : Fin 16) (j : Fin 1024) : shift a (ix3 b 0 j) = a (ix4 0 ⟨b.val, by omega⟩ 0 j) := by
  pointwise [shift]
theorem scaling_at (a : FVec Ideal S2x32x6x1024 .f32) (b : Fin 16) (j : Fin 1024) : scaling a (ix3 b 0 j) = a (ix4 0 ⟨b.val, by omega⟩ 1 j) := by
  pointwise [scaling]
theorem gain_at (g : FVec Ideal S2x1024 .f32) (j : Fin 1024) : gain g (ix3 0 0 j) = g (ix2 0 j) := by
  pointwise [gain]

theorem normed_at (x : FVec Ideal S16x4096x1024 .f32) (g : FVec Ideal S1x1x1024 .f32) (b : Fin 16) (n : Fin 4096) (j : Fin 1024) :
    normed x g (ix3 b n j) = rms (fun i => x (ix3 b n i)) (fun i => g (ix3 0 0 i)) j := by
  pointwise [normed, rms, width, small]

theorem moved_at (h : FVec Ideal S16x4096x1024 .f32) (sc sh : FVec Ideal S16x1x1024 .f32) (b : Fin 16) (n : Fin 4096) (j : Fin 1024) :
    moved h sc sh (ix3 b n j) = modulate (fun i => h (ix3 b n i)) (fun i => sc (ix3 b 0 i)) (fun i => sh (ix3 b 0 i)) j := by
  pointwise [moved, modulate]

theorem widened_at (h : FVec Ideal S16x4096x1024 .f32) (w : FVec Ideal S1x1024x6144 .f32) (b : Fin 16) (n : Fin 4096) (q : Fin 6144) :
    widened h w (ix3 b n q) = ∑ k : Fin 1024, (h (ix3 b n k) * w (ix3 0 k q) : EReal) := by
  pointwise [widened]

/-- An entry of the product: a token's modulated row times a column. -/
theorem product_at (x : FVec Ideal S16x4096x1024 .f32) (a : FVec Ideal S2x32x6x1024 .f32) (g : FVec Ideal S2x1024 .f32) (w : FVec Ideal S1x1024x6144 .f32) (b : Fin 16) (n : Fin 4096) (q : Fin 6144) :
    product x a g w (ix3 b n q)
      = ∑ k : Fin 1024, (modulate (rms (fun i => x (ix3 b n i)) fun i => g (ix2 0 i)) (fun i => a (ix4 0 ⟨b.val, by omega⟩ 1 i)) (fun i => a (ix4 0 ⟨b.val, by omega⟩ 0 i)) k * w (ix3 0 k q) : EReal) := by
  simp only [product, widened_at, moved_at, normed_at, gain_at, scaling_at, shift_at]

theorem queryHeads_at (p : FVec Ideal S16x4096x6144 .f32) (b : Fin 16) (n : Fin 4096) (h : Fin 4) (j : Fin 256) :
    queryHeads p (ix4 b n h j) = p (ix3 b n ⟨h.val * 256 + j.val, by omega⟩) := by
  pointwise [queryHeads]
theorem keyHeads_at (p : FVec Ideal S16x4096x6144 .f32) (b : Fin 16) (n : Fin 4096) (h : Fin 4) (j : Fin 256) :
    keyHeads p (ix4 b n h j) = p (ix3 b n ⟨1024 + (h.val * 256 + j.val), by omega⟩) := by
  pointwise [keyHeads]

theorem rowAngle_at (n : Fin 4096) (i : Fin 64) : rowAngle (ix2 n i) = angle (n.val / 64) i.val := by
  pointwise [rowAngle, freqs]
  rfl
theorem colAngle_at (n : Fin 4096) (i : Fin 64) : colAngle (ix2 n i) = angle (n.val % 64) i.val := by
  pointwise [colAngle, freqs]
  rfl
theorem lift_at (a : FVec Ideal S4096x64 .f32) (b : Fin 16) (n : Fin 4096) (h : Fin 4) (i : Fin 64) : lift a (ix4 b n h i) = a (ix2 n i) := by
  pointwise [lift]

/-- The first coordinate of a rotated pair. -/
theorem turn_first (t : FVec Ideal S16x4096x4x256 .f32) (b : Fin 16) (n : Fin 4096) (h : Fin 4) (p : Fin 128) :
    turn t (ix4 b n h (first p)) = t (ix4 b n h (first p)) * cosAt n.val p.val - t (ix4 b n h (second p)) * sinAt n.val p.val := by
  by_cases hp : p.val < 64
  · have e1 : first p = ⟨p.val, by omega⟩ := Fin.ext (show p.val / 64 * 128 + p.val % 64 = p.val by omega)
    have e2 : second p = ⟨64 + p.val, by omega⟩ := Fin.ext (show p.val / 64 * 128 + 64 + p.val % 64 = 64 + p.val by omega)
    rw [e1, e2, cosAt, sinAt, if_pos hp, if_pos hp]
    pointwise [turn, lift_at, rowAngle_at, colAngle_at]
    exact dif_pos hp
  · have e1 : first p = ⟨128 + (p.val - 64), by omega⟩ := Fin.ext (show p.val / 64 * 128 + p.val % 64 = 128 + (p.val - 64) by omega)
    have e2 : second p = ⟨128 + (64 + (p.val - 64)), by omega⟩ := Fin.ext (show p.val / 64 * 128 + 64 + p.val % 64 = 128 + (64 + (p.val - 64)) by omega)
    rw [e1, e2, cosAt, sinAt, if_neg hp, if_neg hp]
    pointwise [turn, lift_at, rowAngle_at, colAngle_at]
    exact dif_pos (show p.val - 64 < 64 by omega)

/-- The second coordinate of a rotated pair. -/
theorem turn_second (t : FVec Ideal S16x4096x4x256 .f32) (b : Fin 16) (n : Fin 4096) (h : Fin 4) (p : Fin 128) :
    turn t (ix4 b n h (second p)) = t (ix4 b n h (first p)) * sinAt n.val p.val + t (ix4 b n h (second p)) * cosAt n.val p.val := by
  by_cases hp : p.val < 64
  · have e1 : first p = ⟨p.val, by omega⟩ := Fin.ext (show p.val / 64 * 128 + p.val % 64 = p.val by omega)
    have e2 : second p = ⟨64 + p.val, by omega⟩ := Fin.ext (show p.val / 64 * 128 + 64 + p.val % 64 = 64 + p.val by omega)
    rw [e1, e2, cosAt, sinAt, if_pos hp, if_pos hp]
    pointwise [turn, lift_at, rowAngle_at, colAngle_at]
    exact dif_pos (show 64 + p.val < 128 by omega)
  · have e1 : first p = ⟨128 + (p.val - 64), by omega⟩ := Fin.ext (show p.val / 64 * 128 + p.val % 64 = 128 + (p.val - 64) by omega)
    have e2 : second p = ⟨128 + (64 + (p.val - 64)), by omega⟩ := Fin.ext (show p.val / 64 * 128 + 64 + p.val % 64 = 128 + (64 + (p.val - 64)) by omega)
    rw [e1, e2, cosAt, sinAt, if_neg hp, if_neg hp]
    pointwise [turn, lift_at, rowAngle_at, colAngle_at]

theorem queriesOf_at (u : FVec Ideal S16x4096x4x256 .f32) (b : Fin 16) (h : Fin 4) (n : Fin 4096) (j : Fin 256) :
    queriesOf u (ix4 b h n j) = u (ix4 b n h ⟨j.val / 64 % 2 * 128 + j.val / 128 * 64 + j.val % 64, by omega⟩) * scale := by
  pointwise [queriesOf]
  rfl
theorem keysOf_at (u : FVec Ideal S16x4096x4x256 .f32) (b : Fin 16) (h : Fin 4) (q : Fin 16) (j l : Fin 256) :
    keysOf u (ix5 b h q j l) = u (ix4 b ⟨q.val * 256 + l.val, by omega⟩ h ⟨j.val / 64 % 2 * 128 + j.val / 128 * 64 + j.val % 64, by omega⟩) := by
  pointwise [keysOf]
theorem valuesOf_at (p : FVec Ideal S16x4096x6144 .f32) (b : Fin 16) (h : Fin 4) (n : Fin 4096) (j : Fin 512) :
    valuesOf p (ix4 b h n j) = p (ix3 b n ⟨2048 + (h.val * 512 + j.val), by omega⟩) := by
  pointwise [valuesOf]
theorem gatesOf_at (p : FVec Ideal S16x4096x6144 .f32) (b : Fin 16) (h : Fin 4) (n : Fin 4096) (j : Fin 512) :
    gatesOf p (ix4 b h n j) = silu (p (ix3 b n ⟨4096 + (h.val * 512 + j.val), by omega⟩)) := by
  pointwise [gatesOf]
  rfl

/-- The keys' result: a pair's coordinates, the first ones in the first half. -/
theorem key_result (p : FVec Ideal S16x4096x6144 .f32) (b : Fin 16) (h : Fin 4) (q : Fin 16) (j l : Fin 256) (n : Fin 4096) (hn : q.val * 256 + l.val = n.val) :
    keysOf (turn (keyHeads p)) (ix5 b h q j l)
      = if hj : j.val < 128 then
          p (ix3 b n ⟨1024 + (h.val * 256 + (first ⟨j.val, hj⟩).val), by omega⟩) * cosAt n.val j.val - p (ix3 b n ⟨1024 + (h.val * 256 + (second ⟨j.val, hj⟩).val), by omega⟩) * sinAt n.val j.val
        else
          p (ix3 b n ⟨1024 + (h.val * 256 + (first ⟨j.val - 128, by omega⟩).val), by omega⟩) * sinAt n.val (j.val - 128)
            + p (ix3 b n ⟨1024 + (h.val * 256 + (second ⟨j.val - 128, by omega⟩).val), by omega⟩) * cosAt n.val (j.val - 128) := by
  have e : (⟨q.val * 256 + l.val, by omega⟩ : Fin 4096) = n := Fin.ext hn
  rw [keysOf_at, e]
  by_cases hj : j.val < 128
  · have ej : (⟨j.val / 64 % 2 * 128 + j.val / 128 * 64 + j.val % 64, by omega⟩ : Fin 256) = first ⟨j.val, hj⟩ := Fin.ext (show j.val / 64 % 2 * 128 + j.val / 128 * 64 + j.val % 64 = j.val / 64 * 128 + j.val % 64 by omega)
    rw [ej, turn_first, dif_pos hj, keyHeads_at, keyHeads_at]
  · have ej : (⟨j.val / 64 % 2 * 128 + j.val / 128 * 64 + j.val % 64, by omega⟩ : Fin 256) = second ⟨j.val - 128, by omega⟩ :=
      Fin.ext (show j.val / 64 % 2 * 128 + j.val / 128 * 64 + j.val % 64 = (j.val - 128) / 64 * 128 + 64 + (j.val - 128) % 64 by omega)
    rw [ej, turn_second, dif_neg hj, keyHeads_at, keyHeads_at]

/-- The queries' result, likewise, over scaled products. -/
theorem query_result (p : FVec Ideal S16x4096x6144 .f32) (b : Fin 16) (h : Fin 4) (n : Fin 4096) (j : Fin 256) :
    queriesOf (turn (queryHeads p)) (ix4 b h n j)
      = if hj : j.val < 128 then
          p (ix3 b n ⟨h.val * 256 + (first ⟨j.val, hj⟩).val, by omega⟩) * scale * cosAt n.val j.val - p (ix3 b n ⟨h.val * 256 + (second ⟨j.val, hj⟩).val, by omega⟩) * scale * sinAt n.val j.val
        else
          p (ix3 b n ⟨h.val * 256 + (first ⟨j.val - 128, by omega⟩).val, by omega⟩) * scale * sinAt n.val (j.val - 128)
            + p (ix3 b n ⟨h.val * 256 + (second ⟨j.val - 128, by omega⟩).val, by omega⟩) * scale * cosAt n.val (j.val - 128) := by
  rw [queriesOf_at]
  by_cases hj : j.val < 128
  · have ej : (⟨j.val / 64 % 2 * 128 + j.val / 128 * 64 + j.val % 64, by omega⟩ : Fin 256) = first ⟨j.val, hj⟩ := Fin.ext (show j.val / 64 % 2 * 128 + j.val / 128 * 64 + j.val % 64 = j.val / 64 * 128 + j.val % 64 by omega)
    rw [ej, turn_first, dif_pos hj, queryHeads_at, queryHeads_at, sub_scale]
  · have ej : (⟨j.val / 64 % 2 * 128 + j.val / 128 * 64 + j.val % 64, by omega⟩ : Fin 256) = second ⟨j.val - 128, by omega⟩ :=
      Fin.ext (show j.val / 64 % 2 * 128 + j.val / 128 * 64 + j.val % 64 = (j.val - 128) / 64 * 128 + 64 + (j.val - 128) % 64 by omega)
    rw [ej, turn_second, dif_neg hj, queryHeads_at, queryHeads_at, add_scale]

end Cert.RetInRefIdeal.Block

end
-- ==== Proof.RetInValue.lean ====
/- The retention's projection call: the arrays it leaves are the reference's results of its arguments. -/
module

public import proofs.«01_k».proof.Proof.RetInParts
public import proofs.«01_k».proof.Proof.RetInReference

set_option maxRecDepth 16384

@[expose] public section

noncomputable section

open Idealize.ShloMosaic Idealize.ShloMosaic.TcCoe Idealize.SL.Sem
open Idealize.ShloMosaic.Pipeline (Dat)

namespace Cert.RetInIdeal.Block

open Cert.RetInIdeal Cert.RetInIdeal.Gen Cert.RetRow Cert.Mlp

/-- A row of a block times a column of the weights, over what they hold. -/
theorem proj_eq (X : FVec Ideal S1x1024x1024 .f32) (M : FVec Ideal S1x1x6x1024 .f32) (G : FVec Ideal S1x1024 .f32) (W : FVec Ideal S1024x6144 .bf16) (r : Fin 1024) (q : Fin 6144)
    (x g a s w : Fin 1024 → EReal) (hx : ∀ j, X (ix3 0 r j) = x j) (hG : ∀ j, G (ix2 0 j) = g j) (ha : ∀ j, M (ix4 0 0 1 j) = a j) (hs : ∀ j, M (ix4 0 0 0 j) = s j)
    (hw : ∀ k, W (ix2 k q) = w k) : proj X M G W r q = ∑ k : Fin 1024, (modulate (rms x g) a s k * w k : EReal) := by
  unfold proj
  refine Finset.sum_congr rfl fun k _ => ?_
  rw [hid_at, funext hx, funext hG, funext ha, funext hs, hw k]

variable (m : (ℓ : Loc nD τ sig) → Buf (Elt Ideal) ℓ)

/-- The reference's product of the arguments. -/
def prod (c : Dev nD) : FVec Ideal Cert.RetInRefIdeal.S16x4096x6144 .f32 := Cert.RetInRefIdeal.Block.product (argX m c) (argM m c) (argG m c) (argW m c)

/-- The reference's results of the arguments. -/
def queries (c : Dev nD) : FVec Ideal S16x4x4096x256 .bf16 := Cert.RetInRefIdeal.Block.queriesOf (Cert.RetInRefIdeal.Block.turn (Cert.RetInRefIdeal.Block.queryHeads (prod m c)))
def keys (c : Dev nD) : FVec Ideal S16x4x16x256x256 .bf16 := Cert.RetInRefIdeal.Block.keysOf (Cert.RetInRefIdeal.Block.turn (Cert.RetInRefIdeal.Block.keyHeads (prod m c)))
def values (c : Dev nD) : FVec Ideal S16x4x4096x512 .bf16 := Cert.RetInRefIdeal.Block.valuesOf (prod m c)
def gates (c : Dev nD) : FVec Ideal S16x4x4096x512 .bf16 := Cert.RetInRefIdeal.Block.gatesOf (prod m c)

/-- A point's product is the reference's of the point's tokens, at the column the weights' column comes from. -/
theorem point_proj (c : Dev nD) (t : Fin cfg0.N) (r : Fin 1024) (q : Fin 6144) (p : Fin 6144) (hp : (perm q).val = p.val) :
    proj (iblk m c 0 t) (iblk m c 1 t) (iblk m c 2 t) (iblk m c 3 t) r q = prod m c (ix3 (batch t) (token t r) p) := by
  have e : perm q = p := Fin.ext hp
  refine (proj_eq _ _ _ _ r q _ _ _ _ _ (block_x m c t r) (block_g m c t) (block_m m c t 1) (block_m m c t 0) (fun k => block_w m c t k q)).trans ?_
  rw [e]
  exact (Cert.RetInRefIdeal.Block.product_at _ _ _ _ _ _ _).symm

/-- Where the columns of a query's and of a key's pairs come from. -/
theorem perm_lo (q : Fin 6144) (o h : ℕ) (p : Fin 128) (ho : o % 256 = 0) (hq : q.val = o + 256 * h + p.val) (hl : q.val < 2048) : (perm q).val = o + (h * 256 + (first p).val) := by
  rw [perm, if_pos hl]
  show q.val / 256 * 256 + q.val / 64 % 2 * 128 + q.val / 128 % 2 * 64 + q.val % 64 = o + (h * 256 + (p.val / 64 * 128 + p.val % 64))
  omega
theorem perm_hi (q : Fin 6144) (o h : ℕ) (p : Fin 128) (ho : o % 256 = 0) (hq : q.val = o + 256 * h + (128 + p.val)) (hl : q.val < 2048) : (perm q).val = o + (h * 256 + (second p).val) := by
  rw [perm, if_pos hl]
  show q.val / 256 * 256 + q.val / 64 % 2 * 128 + q.val / 128 % 2 * 64 + q.val % 64 = o + (h * 256 + (p.val / 64 * 128 + 64 + p.val % 64))
  omega
theorem perm_rest (q : Fin 6144) (hl : 2048 ≤ q.val) : (perm q).val = q.val := by
  rw [perm, if_neg (by omega)]

/-- The blocks the body leaves at a point. -/
theorem block_queries (c : Dev nD) (t : Fin cfg0.N) (y : S1x4x1024x256.Idx) : (outsAt0 m c t).1 y = queryTile (iblk m c 0 t) (iblk m c 1 t) (iblk m c 2 t) (iblk m c 3 t) (iblk m c 4 t) (iblk m c 5 t) y := by
  unfold outsAt0
  dsimp only
  rw [queries_left]
theorem block_keys (c : Dev nD) (t : Fin cfg0.N) (y : S1x4x4x256x256.Idx) : (outsAt0 m c t).2.1 y = keyTile (iblk m c 0 t) (iblk m c 1 t) (iblk m c 2 t) (iblk m c 3 t) (iblk m c 4 t) (iblk m c 5 t) y := by
  unfold outsAt0
  dsimp only
  rw [keys_left]
theorem block_values (c : Dev nD) (t : Fin cfg0.N) (y : S1x4x1024x512.Idx) : (outsAt0 m c t).2.2.1 y = valueTile (iblk m c 0 t) (iblk m c 1 t) (iblk m c 2 t) (iblk m c 3 t) y := by
  unfold outsAt0
  dsimp only
  rw [values_left]
theorem block_gates (c : Dev nD) (t : Fin cfg0.N) (y : S1x4x1024x512.Idx) : (outsAt0 m c t).2.2.2 y = gateTile (iblk m c 0 t) (iblk m c 1 t) (iblk m c 2 t) (iblk m c 3 t) y := by
  unfold outsAt0
  dsimp only
  rw [gates_left]

/-- The blocks a point leaves hold the reference's results of its tokens. -/
theorem point_values (c : Dev nD) (t : Fin cfg0.N) (y : S1x4x1024x512.Idx) : (outsAt0 m c t).2.2.1 y = values m c (ix4 (batch t) (y 1) (token t (y 2)) (y 3)) := by
  have a : (y 1).val < 4 := (y 1).isLt
  have b : (y 3).val < 512 := (y 3).isLt
  refine (block_values m c t y).trans ?_
  refine (point_proj m c t _ _ ⟨2048 + ((y 1).val * 512 + (y 3).val), by omega⟩ ?_).trans (Cert.RetInRefIdeal.Block.valuesOf_at _ _ _ _ _).symm
  refine (perm_rest _ (by show 2048 ≤ 2048 + 512 * (y 1).val + (y 3).val; omega)).trans ?_
  show 2048 + 512 * (y 1).val + (y 3).val = 2048 + ((y 1).val * 512 + (y 3).val)
  omega
theorem point_gates (c : Dev nD) (t : Fin cfg0.N) (y : S1x4x1024x512.Idx) : (outsAt0 m c t).2.2.2 y = gates m c (ix4 (batch t) (y 1) (token t (y 2)) (y 3)) := by
  have a : (y 1).val < 4 := (y 1).isLt
  have b : (y 3).val < 512 := (y 3).isLt
  refine (block_gates m c t y).trans ?_
  refine (congrArg silu (point_proj m c t _ _ ⟨4096 + ((y 1).val * 512 + (y 3).val), by omega⟩ ?_)).trans (Cert.RetInRefIdeal.Block.gatesOf_at _ _ _ _ _).symm
  refine (perm_rest _ (by show 2048 ≤ 4096 + 512 * (y 1).val + (y 3).val; omega)).trans ?_
  show 4096 + 512 * (y 1).val + (y 3).val = 4096 + ((y 1).val * 512 + (y 3).val)
  omega

/-- A query's row of a point, over the reference's product. -/
theorem point_query (c : Dev nD) (t : Fin cfg0.N) (h : Fin 4) (r : Fin 1024) (p : Fin 256) :
    queryRow (iblk m c 0 t) (iblk m c 1 t) (iblk m c 2 t) (iblk m c 3 t) (iblk m c 4 t) (iblk m c 5 t) h r p = queries m c (ix4 (batch t) h (token t r) p) := by
  refine Eq.trans ?_ (Cert.RetInRefIdeal.Block.query_result _ _ _ _ _).symm
  unfold queryRow
  by_cases hp : p.val < 128
  · rw [dif_pos hp, dif_pos hp]
    exact congrArg₂ (· - ·)
      (congrArg₂ (· * ·) (congrArg (· * scale) (point_proj m c t r _ _ ((perm_lo _ 0 h.val ⟨p.val, hp⟩ rfl (by show 256 * h.val + p.val = 0 + 256 * h.val + p.val; omega) (by show 256 * h.val + p.val < 2048; omega)).trans (Nat.zero_add _)))) (block_c m c t r ⟨p.val, hp⟩))
      (congrArg₂ (· * ·) (congrArg (· * scale) (point_proj m c t r _ _ ((perm_hi _ 0 h.val ⟨p.val, hp⟩ rfl (by show 256 * h.val + (128 + p.val) = 0 + 256 * h.val + (128 + p.val); omega) (by show 256 * h.val + (128 + p.val) < 2048; omega)).trans (Nat.zero_add _)))) (block_s m c t r ⟨p.val, hp⟩))
  · rw [dif_neg hp, dif_neg hp]
    exact congrArg₂ (· + ·)
      (congrArg₂ (· * ·) (congrArg (· * scale) (point_proj m c t r _ _ ((perm_lo _ 0 h.val ⟨p.val - 128, by omega⟩ rfl (by show 256 * h.val + (p.val - 128) = 0 + 256 * h.val + (p.val - 128); omega) (by show 256 * h.val + (p.val - 128) < 2048; omega)).trans (Nat.zero_add _)))) (block_s m c t r ⟨p.val - 128, by omega⟩))
      (congrArg₂ (· * ·) (congrArg (· * scale) (point_proj m c t r _ _ ((perm_hi _ 0 h.val ⟨p.val - 128, by omega⟩ rfl (by show 256 * h.val + (128 + (p.val - 128)) = 0 + 256 * h.val + (128 + (p.val - 128)); omega) (by show 256 * h.val + (128 + (p.val - 128)) < 2048; omega)).trans (Nat.zero_add _)))) (block_c m c t r ⟨p.val - 128, by omega⟩))

/-- A key's column of a point, over the reference's product. -/
theorem point_key (c : Dev nD) (t : Fin cfg0.N) (h : Fin 4) (r : Fin 1024) (q : Fin 16) (p l : Fin 256) (hr : q.val * 256 + l.val = (token t r).val) :
    keyRow (iblk m c 0 t) (iblk m c 1 t) (iblk m c 2 t) (iblk m c 3 t) (iblk m c 4 t) (iblk m c 5 t) h r p = keys m c (ix5 (batch t) h q p l) := by
  refine Eq.trans ?_ (Cert.RetInRefIdeal.Block.key_result _ _ _ _ _ _ (token t r) hr).symm
  unfold keyRow
  by_cases hp : p.val < 128
  · rw [dif_pos hp, dif_pos hp]
    exact congrArg₂ (· - ·)
      (congrArg₂ (· * ·) (point_proj m c t r _ _ (perm_lo _ 1024 h.val ⟨p.val, hp⟩ rfl rfl (by show 1024 + 256 * h.val + p.val < 2048; omega))) (block_c m c t r ⟨p.val, hp⟩))
      (congrArg₂ (· * ·) (point_proj m c t r _ _ (perm_hi _ 1024 h.val ⟨p.val, hp⟩ rfl rfl (by show 1024 + 256 * h.val + (128 + p.val) < 2048; omega))) (block_s m c t r ⟨p.val, hp⟩))
  · rw [dif_neg hp, dif_neg hp]
    exact congrArg₂ (· + ·)
      (congrArg₂ (· * ·) (point_proj m c t r _ _ (perm_lo _ 1024 h.val ⟨p.val - 128, by omega⟩ rfl rfl (by show 1024 + 256 * h.val + (p.val - 128) < 2048; omega))) (block_s m c t r ⟨p.val - 128, by omega⟩))
      (congrArg₂ (· * ·) (point_proj m c t r _ _ (perm_hi _ 1024 h.val ⟨p.val - 128, by omega⟩ rfl rfl (by show 1024 + 256 * h.val + (128 + (p.val - 128)) < 2048; omega))) (block_c m c t r ⟨p.val - 128, by omega⟩))

theorem point_queries (c : Dev nD) (t : Fin cfg0.N) (y : S1x4x1024x256.Idx) : (outsAt0 m c t).1 y = queries m c (ix4 (batch t) (y 1) (token t (y 2)) (y 3)) := by
  refine (block_queries m c t y).trans ?_
  exact point_query m c t (y 1) (y 2) (y 3)
theorem point_keys (c : Dev nD) (t : Fin cfg0.N) (y : S1x4x4x256x256.Idx) : (outsAt0 m c t).2.1 y = keys m c (ix5 (batch t) (y 1) (group t (y 2)) (y 3) (y 4)) := by
  have a : (y 2).val < 4 := (y 2).isLt
  have b : (y 4).val < 256 := (y 4).isLt
  refine (block_keys m c t y).trans ?_
  refine point_key m c t (y 1) _ (group t (y 2)) (y 3) (y 4) ?_
  show ((grid0.coords t 1).val * 4 + (y 2).val) * 256 + (y 4).val = (grid0.coords t 1).val * 1024 + (256 * (y 2).val + (y 4).val)
  omega

/-- The arrays the call leaves are the reference's results of the arguments. -/
theorem final_queries (c : Dev nD) : (dats m 0 c).arrAt 6 cfg0.N = queries m c := by
  refine (dats m 0 c).arrAt_eq_of_covers 6 _ (by decide +kernel) fun t _ y => ?_
  blk_simp
  rw [after0_6]
  have he : ((cfg0.win 6).blk t).view.emb y = ix4 (batch t) (y 1) (token t (y 2)) (y 3) := by
    blk_ext [idx t, batch, token]
  exact (point_queries m c t y).trans (congrArg (queries m c) he.symm)
theorem final_keys (c : Dev nD) : (dats m 0 c).arrAt 7 cfg0.N = keys m c := by
  refine (dats m 0 c).arrAt_eq_of_covers 7 _ (by decide +kernel) fun t _ y => ?_
  blk_simp
  rw [after0_7]
  have he : ((cfg0.win 7).blk t).view.emb y = ix5 (batch t) (y 1) (group t (y 2)) (y 3) (y 4) := by
    blk_ext [idx t, batch, group]
  exact (point_keys m c t y).trans (congrArg (keys m c) he.symm)
theorem final_values (c : Dev nD) : (dats m 0 c).arrAt 8 cfg0.N = values m c := by
  refine (dats m 0 c).arrAt_eq_of_covers 8 _ (by decide +kernel) fun t _ y => ?_
  blk_simp
  rw [after0_8]
  have he : ((cfg0.win 8).blk t).view.emb y = ix4 (batch t) (y 1) (token t (y 2)) (y 3) := by
    blk_ext [idx t, batch, token]
  exact (point_values m c t y).trans (congrArg (values m c) he.symm)
theorem final_gates (c : Dev nD) : (dats m 0 c).arrAt 9 cfg0.N = gates m c := by
  refine (dats m 0 c).arrAt_eq_of_covers 9 _ (by decide +kernel) fun t _ y => ?_
  blk_simp
  rw [after0_9]
  have he : ((cfg0.win 9).blk t).view.emb y = ix4 (batch t) (y 1) (token t (y 2)) (y 3) := by
    blk_ext [idx t, batch, token]
  exact (point_gates m c t y).trans (congrArg (gates m c) he.symm)

end Cert.RetInIdeal.Block

end
-- ==== Proof.RetInClaim.lean ====
/- The retention's projections: the idealized call and the reference leave the same arrays. -/
module

public import proofs.«01_k».proof.Proof.RetInValue
public import proofs.«01_k».proof.Proof.Gen.RetInRefIdeal.Run
public import proofs.«01_k».proof.Defs

set_option maxRecDepth 16384

@[expose] public section

noncomputable section

open Idealize.ShloMosaic Idealize.ShloMosaic.TcCoe Idealize.SL.Sem

namespace Cert.RetInRefIdeal.Block

open Cert.RetInRefIdeal Cert.RetInRefIdeal.Gen

variable (m : (ℓ : Loc nD τ sig) → Buf (Elt Ideal) ℓ) (c : Dev nD)

/-- The reference program's result terms are the results of its arguments. -/
theorem queries_term : Cert.RetInRefIdeal.Value.res_main_v159 (F := Ideal) m c
    = queriesOf (turn (queryHeads (product (m ((c.tc : Thread nD τ).loc main_arg0)) (m ((c.tc : Thread nD τ).loc main_arg1)) (m ((c.tc : Thread nD τ).loc main_arg2)) (m ((c.tc : Thread nD τ).loc main_arg3))))) := by
  unfold queriesOf turn lift rowAngle colAngle freqs queryHeads product widened moved normed gain scaling shift
  unfold Cert.RetInRefIdeal.Value.res_main_v159
  rfl
theorem keys_term : Cert.RetInRefIdeal.Value.res_main_v160 (F := Ideal) m c
    = keysOf (turn (keyHeads (product (m ((c.tc : Thread nD τ).loc main_arg0)) (m ((c.tc : Thread nD τ).loc main_arg1)) (m ((c.tc : Thread nD τ).loc main_arg2)) (m ((c.tc : Thread nD τ).loc main_arg3))))) := by
  unfold keysOf turn lift rowAngle colAngle freqs keyHeads product widened moved normed gain scaling shift
  unfold Cert.RetInRefIdeal.Value.res_main_v160
  rfl
theorem gates_term : Cert.RetInRefIdeal.Value.res_main_v162 (F := Ideal) m c
    = gatesOf (product (m ((c.tc : Thread nD τ).loc main_arg0)) (m ((c.tc : Thread nD τ).loc main_arg1)) (m ((c.tc : Thread nD τ).loc main_arg2)) (m ((c.tc : Thread nD τ).loc main_arg3))) := by
  unfold gatesOf product widened moved normed gain scaling shift
  unfold Cert.RetInRefIdeal.Value.res_main_v162
  rfl

end Cert.RetInRefIdeal.Block

namespace Cert.Proof

/-- The idealized projections and the reference leave the same queries, keys, values and gates. -/
theorem ret_in_equal : Cert.algebraic_RetInIdeal_RetInRefIdeal := fun m ρ m' ρ' _ ha =>
  ⟨fun c => Cert.RetInIdeal.Block.queries m c, fun c => Cert.RetInIdeal.Block.keys m c, fun c => Cert.RetInIdeal.Block.values m c, fun c => Cert.RetInIdeal.Block.gates m c,
    (θ_run _ _ _).mono (fun _ h c => ⟨(h c).1.trans (Cert.RetInIdeal.Block.final_queries m c), (h c).2.1.trans (Cert.RetInIdeal.Block.final_keys m c),
      (h c).2.2.1.trans (Cert.RetInIdeal.Block.final_values m c), (h c).2.2.2.1.trans (Cert.RetInIdeal.Block.final_gates m c), (h c).2.2.2.2⟩) (Cert.RetInIdeal.Value.run_blocks m ρ),
    (θ_run _ _ _).mono (fun _ h c => ⟨(h c).1.trans ((Cert.RetInRefIdeal.Block.queries_term m' c).trans (by rw [(ha c).1, (ha c).2.1, (ha c).2.2.1, (ha c).2.2.2]; rfl)),
      (h c).2.1.trans ((Cert.RetInRefIdeal.Block.keys_term m' c).trans (by rw [(ha c).1, (ha c).2.1, (ha c).2.2.1, (ha c).2.2.2]; rfl)),
      (h c).2.2.1.trans (by rw [(ha c).1, (ha c).2.1, (ha c).2.2.1, (ha c).2.2.2]; rfl),
      (h c).2.2.2.1.trans ((Cert.RetInRefIdeal.Block.gates_term m' c).trans (by rw [(ha c).1, (ha c).2.1, (ha c).2.2.1, (ha c).2.2.2]; rfl)), (h c).2.2.2.2⟩) (Cert.RetInRefIdeal.Value.run m' ρ')⟩

end Cert.Proof

end
-- ==== Proof.lean ====
/- The proof of the certificate's claims, assembled from the modules beside it. -/
module

public import proofs.«01_k».proof.Defs
public import proofs.«01_k».proof.Proof.Gen.Last
public import proofs.«01_k».proof.Proof.Gen.Last.Skeleton
public import proofs.«01_k».proof.Proof.Gen.Last.Launch
public import proofs.«01_k».proof.Proof.Gen.Last.Points
public import proofs.«01_k».proof.Proof.Gen.Last.Frame
public import proofs.«01_k».proof.Proof.Gen.Last.Value
public import proofs.«01_k».proof.Proof.Gen.LastIdeal.Value
public import proofs.«01_k».proof.Proof.Gen.LastRefIdeal.Run
public import proofs.«01_k».proof.Proof.Gen.MidIdeal.Value
public import proofs.«01_k».proof.Proof.Gen.RetInIdeal.Value
public import proofs.«01_k».proof.Proof.Gen.RetInRefIdeal.Run
public import proofs.«01_k».proof.Proof.Gen.MidRefIdeal.Run
public import proofs.«01_k».proof.Proof.Gen.Mid
public import proofs.«01_k».proof.Proof.Gen.Mid.Skeleton
public import proofs.«01_k».proof.Proof.Gen.Mid.Launch
public import proofs.«01_k».proof.Proof.Gen.Mid.Points
public import proofs.«01_k».proof.Proof.Gen.Mid.Frame
public import proofs.«01_k».proof.Proof.Gen.Mid.Value
public import proofs.«01_k».proof.Proof.Gen.RetIn
public import proofs.«01_k».proof.Proof.Gen.RetIn.Skeleton
public import proofs.«01_k».proof.Proof.Gen.RetIn.Launch
public import proofs.«01_k».proof.Proof.Gen.RetIn.Points
public import proofs.«01_k».proof.Proof.Gen.RetIn.Frame
public import proofs.«01_k».proof.Proof.Gen.RetIn.Value
public import proofs.«01_k».proof.Proof.Gen.AttIn
public import proofs.«01_k».proof.Proof.Gen.AttIn.Skeleton
public import proofs.«01_k».proof.Proof.Gen.AttIn.Launch
public import proofs.«01_k».proof.Proof.Gen.AttIn.Points
public import proofs.«01_k».proof.Proof.Gen.AttIn.Frame
public import proofs.«01_k».proof.Proof.Gen.AttIn.Value
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.AttnFrame
public import proofs.«01_k».proof.Proof.IdealFrame
public import proofs.«01_k».proof.Proof.IdealClaim
public import proofs.«01_k».proof.Proof.LastClaim
public import proofs.«01_k».proof.Proof.MidClaim
public import proofs.«01_k».proof.Proof.RetInClaim
public import Idealize.ShloMosaic.Adequacy
public import Idealize.ShloMosaic.Init

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts, Cert.Last.Gen.facts, Cert.LastIdeal.Gen.facts, Cert.LastRefIdeal.Gen.facts, Cert.Mid.Gen.facts, Cert.MidIdeal.Gen.facts, Cert.MidRefIdeal.Gen.facts, Cert.RetIn.Gen.facts, Cert.RetInIdeal.Gen.facts, Cert.RetInRefIdeal.Gen.facts, Cert.AttIn.Gen.facts,
    Cert.Pre_finite_queries_and_keys.facts, Cert.Pre_finite_weights_last.facts, Cert.Pre_finite_weights_mid.facts,
    fun m ρ _ => Cert.Kernel.Attn.frame_all m ρ,
    fun m ρ _ => Cert.KernelIdeal.Attn.frame_all m ρ,
    fun m ρ _ => Cert.KernelIdeal.Attn.frame_all m ρ,
    fun m ρ _ => (θ_run _ _ _).mono (fun r h => ⟨fun c => (h c).2, sem_eq_zero_of_no_sems (by decide) r.2⟩) (Cert.ReferenceIdeal.Value.run m ρ),
    fun m ρ _ => (θ_run _ _ _).mono (fun r h => ⟨fun c => (h c).2, sem_eq_zero_of_no_sems (by decide) r.2⟩) (Cert.ReferenceIdeal.Value.run m ρ),
    fun m ρ _ => Cert.Last.Gen.frame m ρ,
    fun m ρ _ => Cert.LastIdeal.Gen.frame m ρ,
    fun m ρ _ => Cert.LastIdeal.Gen.frame m ρ,
    fun m ρ _ => (θ_run _ _ _).mono (fun r h => ⟨fun c => (h c).2, sem_eq_zero_of_no_sems (by decide) r.2⟩) (Cert.LastRefIdeal.Value.run m ρ),
    fun m ρ _ => (θ_run _ _ _).mono (fun r h => ⟨fun c => (h c).2, sem_eq_zero_of_no_sems (by decide) r.2⟩) (Cert.LastRefIdeal.Value.run m ρ),
    fun m ρ _ => Cert.Mid.Gen.frame m ρ,
    fun m ρ _ => Cert.MidIdeal.Gen.frame m ρ,
    fun m ρ _ => Cert.MidIdeal.Gen.frame m ρ,
    fun m ρ _ => (θ_run _ _ _).mono (fun r h => ⟨fun c => (h c).2, sem_eq_zero_of_no_sems (by decide) r.2⟩) (Cert.MidRefIdeal.Value.run m ρ),
    fun m ρ _ => (θ_run _ _ _).mono (fun r h => ⟨fun c => (h c).2, sem_eq_zero_of_no_sems (by decide) r.2⟩) (Cert.MidRefIdeal.Value.run m ρ),
    fun m ρ _ => Cert.RetIn.Gen.frame m ρ,
    fun m ρ _ => Cert.RetInIdeal.Gen.frame m ρ,
    fun m ρ _ => (θ_run _ _ _).mono (fun r h => ⟨fun c => (h c).2.2.2.2, sem_eq_zero_of_no_sems (by decide) r.2⟩) (Cert.RetInRefIdeal.Value.run m ρ),
    fun m ρ _ => Cert.AttIn.Gen.frame m ρ,
    trivial,
    attention_equal,
    trivial,
    last_equal,
    trivial,
    mid_equal,
    trivial,
    ret_in_equal⟩

end Cert.Proof

end
